-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_decays [hPre_decays : Cert.Pre_decays.Facts] (m : (ℓ : Loc Cert.ScanIdeal.nD Cert.ScanIdeal.τ Cert.ScanIdeal.sig) → Buf (Elt Ideal) ℓ) : Prop :=
  ∀ c : Dev Cert.ScanIdeal.nD,
    (Cert.Pre_decays.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1))) = (fun _ => 1#1)

def Pre_ScanRefIdeal (m : (ℓ : Loc Cert.ScanRefIdeal.nD Cert.ScanRefIdeal.τ Cert.ScanRefIdeal.sig) → Buf (Elt Ideal) ℓ) : Prop :=
  True

def Pre_ScanRefIdeal_decays [hPre_decays : Cert.Pre_decays.Facts] (m : (ℓ : Loc Cert.ScanRefIdeal.nD Cert.ScanRefIdeal.τ Cert.ScanRefIdeal.sig) → Buf (Elt Ideal) ℓ) : Prop :=
  ∀ c : Dev Cert.ScanRefIdeal.nD,
    (Cert.Pre_decays.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1))) = (fun _ => 1#1)

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishRefIdeal (m : (ℓ : Loc Cert.FinishRefIdeal.nD Cert.FinishRefIdeal.τ Cert.FinishRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Wide (m : (ℓ : Loc Cert.Wide.nD Cert.Wide.τ Cert.Wide.sig) → Buf (Elt Bits) ℓ) : Prop :=
  True

def Pre_WideIdeal (m : (ℓ : Loc Cert.WideIdeal.nD Cert.WideIdeal.τ Cert.WideIdeal.sig) → Buf (Elt Ideal) ℓ) : Prop :=
  True

def Pre_WideRefIdeal (m : (ℓ : Loc Cert.WideRefIdeal.nD Cert.WideRefIdeal.τ Cert.WideRefIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnIdeal_finite_logits [hPre_finite_logits : Cert.Pre_finite_logits.Facts] (m : (ℓ : Loc Cert.OutLnIdeal.nD Cert.OutLnIdeal.τ Cert.OutLnIdeal.sig) → Buf (Elt Ideal) ℓ) : Prop :=
  ∀ c : Dev Cert.OutLnIdeal.nD,
    (Cert.Pre_finite_logits.fn (F := Ideal) (m ((c.tc : Thread Cert.OutLnIdeal.nD Cert.OutLnIdeal.τ).loc Cert.OutLnIdeal.main_arg0)) (m ((c.tc : Thread Cert.OutLnIdeal.nD Cert.OutLnIdeal.τ).loc Cert.OutLnIdeal.main_arg1)) (m ((c.tc : Thread Cert.OutLnIdeal.nD Cert.OutLnIdeal.τ).loc Cert.OutLnIdeal.main_arg2)) (m ((c.tc : Thread Cert.OutLnIdeal.nD Cert.OutLnIdeal.τ).loc Cert.OutLnIdeal.main_arg3)) (m ((c.tc : Thread Cert.OutLnIdeal.nD Cert.OutLnIdeal.τ).loc Cert.OutLnIdeal.main_arg4)) (m ((c.tc : Thread Cert.OutLnIdeal.nD Cert.OutLnIdeal.τ).loc Cert.OutLnIdeal.main_arg5)) (m ((c.tc : Thread Cert.OutLnIdeal.nD Cert.OutLnIdeal.τ).loc Cert.OutLnIdeal.main_arg6))) = (fun _ => 1#1)

def Pre_OutLnRefIdeal (m : (ℓ : Loc Cert.OutLnRefIdeal.nD Cert.OutLnRefIdeal.τ Cert.OutLnRefIdeal.sig) → Buf (Elt Ideal) ℓ) : Prop :=
  True

def Pre_OutLnRefIdeal_finite_logits [hPre_finite_logits : Cert.Pre_finite_logits.Facts] (m : (ℓ : Loc Cert.OutLnRefIdeal.nD Cert.OutLnRefIdeal.τ Cert.OutLnRefIdeal.sig) → Buf (Elt Ideal) ℓ) : Prop :=
  ∀ c : Dev Cert.OutLnRefIdeal.nD,
    (Cert.Pre_finite_logits.fn (F := Ideal) (m ((c.tc : Thread Cert.OutLnRefIdeal.nD Cert.OutLnRefIdeal.τ).loc Cert.OutLnRefIdeal.main_arg0)) (m ((c.tc : Thread Cert.OutLnRefIdeal.nD Cert.OutLnRefIdeal.τ).loc Cert.OutLnRefIdeal.main_arg1)) (m ((c.tc : Thread Cert.OutLnRefIdeal.nD Cert.OutLnRefIdeal.τ).loc Cert.OutLnRefIdeal.main_arg2)) (m ((c.tc : Thread Cert.OutLnRefIdeal.nD Cert.OutLnRefIdeal.τ).loc Cert.OutLnRefIdeal.main_arg3)) (m ((c.tc : Thread Cert.OutLnRefIdeal.nD Cert.OutLnRefIdeal.τ).loc Cert.OutLnRefIdeal.main_arg4)) (m ((c.tc : Thread Cert.OutLnRefIdeal.nD Cert.OutLnRefIdeal.τ).loc Cert.OutLnRefIdeal.main_arg5)) (m ((c.tc : Thread Cert.OutLnRefIdeal.nD Cert.OutLnRefIdeal.τ).loc Cert.OutLnRefIdeal.main_arg6))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1))
      ∧ r.2.sem = fun _ => 0)

def quiescent_ScanIdeal_pre_decays [hScanIdeal : Cert.ScanIdeal.Facts] [hPre_decays : Cert.Pre_decays.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_decays m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1))
      ∧ r.2.sem = fun _ => 0)

def quiescent_ScanRefIdeal_pre_decays [hScanRefIdeal : Cert.ScanRefIdeal.Facts] [hPre_decays : Cert.Pre_decays.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal_decays m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3))
      ∧ r.2.sem = fun _ => 0)

def quiescent_FinishRefIdeal [hFinishRefIdeal : Cert.FinishRefIdeal.Facts] : Prop :=
  ∀ (m : (ℓ : Loc Cert.FinishRefIdeal.nD Cert.FinishRefIdeal.τ Cert.FinishRefIdeal.sig) → Buf (Elt Ideal) ℓ) (g : Dev Cert.FinishRefIdeal.nD → PrngReg), Pre_FinishRefIdeal m →
    θ_run (Cert.FinishRefIdeal.defs (F := Ideal)) (onTc (τ := Cert.FinishRefIdeal.τ) (Cert.FinishRefIdeal.main (F := Ideal))) ⟨m, fun _ => 0, g⟩ (fun r => (∀ c : Dev Cert.FinishRefIdeal.nD,
      r.2.mem ((c.tc : Thread Cert.FinishRefIdeal.nD Cert.FinishRefIdeal.τ).loc Cert.FinishRefIdeal.main_arg0) = m ((c.tc : Thread Cert.FinishRefIdeal.nD Cert.FinishRefIdeal.τ).loc Cert.FinishRefIdeal.main_arg0)
      ∧ r.2.mem ((c.tc : Thread Cert.FinishRefIdeal.nD Cert.FinishRefIdeal.τ).loc Cert.FinishRefIdeal.main_arg1) = m ((c.tc : Thread Cert.FinishRefIdeal.nD Cert.FinishRefIdeal.τ).loc Cert.FinishRefIdeal.main_arg1)
      ∧ r.2.mem ((c.tc : Thread Cert.FinishRefIdeal.nD Cert.FinishRefIdeal.τ).loc Cert.FinishRefIdeal.main_arg2) = m ((c.tc : Thread Cert.FinishRefIdeal.nD Cert.FinishRefIdeal.τ).loc Cert.FinishRefIdeal.main_arg2)
      ∧ r.2.mem ((c.tc : Thread Cert.FinishRefIdeal.nD Cert.FinishRefIdeal.τ).loc Cert.FinishRefIdeal.main_arg3) = m ((c.tc : Thread Cert.FinishRefIdeal.nD Cert.FinishRefIdeal.τ).loc Cert.FinishRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Wide [hWide : Cert.Wide.Facts] : Prop :=
  ∀ (m : (ℓ : Loc Cert.Wide.nD Cert.Wide.τ Cert.Wide.sig) → Buf (Elt Bits) ℓ) (g : Dev Cert.Wide.nD → PrngReg), Pre_Wide m →
    θ_run (Cert.Wide.defs (F := Bits)) (onTc (τ := Cert.Wide.τ) (Cert.Wide.main (F := Bits))) ⟨m, fun _ => 0, g⟩ (fun r => (∀ c : Dev Cert.Wide.nD,
      r.2.mem ((c.tc : Thread Cert.Wide.nD Cert.Wide.τ).loc Cert.Wide.main_arg0) = m ((c.tc : Thread Cert.Wide.nD Cert.Wide.τ).loc Cert.Wide.main_arg0)
      ∧ r.2.mem ((c.tc : Thread Cert.Wide.nD Cert.Wide.τ).loc Cert.Wide.main_arg1) = m ((c.tc : Thread Cert.Wide.nD Cert.Wide.τ).loc Cert.Wide.main_arg1))
      ∧ r.2.sem = fun _ => 0)

def quiescent_WideIdeal [hWideIdeal : Cert.WideIdeal.Facts] : Prop :=
  ∀ (m : (ℓ : Loc Cert.WideIdeal.nD Cert.WideIdeal.τ Cert.WideIdeal.sig) → Buf (Elt Ideal) ℓ) (g : Dev Cert.WideIdeal.nD → PrngReg), Pre_WideIdeal m →
    θ_run (Cert.WideIdeal.defs (F := Ideal)) (onTc (τ := Cert.WideIdeal.τ) (Cert.WideIdeal.main (F := Ideal))) ⟨m, fun _ => 0, g⟩ (fun r => (∀ c : Dev Cert.WideIdeal.nD,
      r.2.mem ((c.tc : Thread Cert.WideIdeal.nD Cert.WideIdeal.τ).loc Cert.WideIdeal.main_arg0) = m ((c.tc : Thread Cert.WideIdeal.nD Cert.WideIdeal.τ).loc Cert.WideIdeal.main_arg0)
      ∧ r.2.mem ((c.tc : Thread Cert.WideIdeal.nD Cert.WideIdeal.τ).loc Cert.WideIdeal.main_arg1) = m ((c.tc : Thread Cert.WideIdeal.nD Cert.WideIdeal.τ).loc Cert.WideIdeal.main_arg1))
      ∧ r.2.sem = fun _ => 0)

def quiescent_WideRefIdeal [hWideRefIdeal : Cert.WideRefIdeal.Facts] : Prop :=
  ∀ (m : (ℓ : Loc Cert.WideRefIdeal.nD Cert.WideRefIdeal.τ Cert.WideRefIdeal.sig) → Buf (Elt Ideal) ℓ) (g : Dev Cert.WideRefIdeal.nD → PrngReg), Pre_WideRefIdeal m →
    θ_run (Cert.WideRefIdeal.defs (F := Ideal)) (onTc (τ := Cert.WideRefIdeal.τ) (Cert.WideRefIdeal.main (F := Ideal))) ⟨m, fun _ => 0, g⟩ (fun r => (∀ c : Dev Cert.WideRefIdeal.nD,
      r.2.mem ((c.tc : Thread Cert.WideRefIdeal.nD Cert.WideRefIdeal.τ).loc Cert.WideRefIdeal.main_arg0) = m ((c.tc : Thread Cert.WideRefIdeal.nD Cert.WideRefIdeal.τ).loc Cert.WideRefIdeal.main_arg0)
      ∧ r.2.mem ((c.tc : Thread Cert.WideRefIdeal.nD Cert.WideRefIdeal.τ).loc Cert.WideRefIdeal.main_arg1) = m ((c.tc : Thread Cert.WideRefIdeal.nD Cert.WideRefIdeal.τ).loc Cert.WideRefIdeal.main_arg1))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4)
      ∧ r.2.mem ((c.tc : Thread Cert.OutLn.nD Cert.OutLn.τ).loc Cert.OutLn.main_arg5) = m ((c.tc : Thread Cert.OutLn.nD Cert.OutLn.τ).loc Cert.OutLn.main_arg5)
      ∧ r.2.mem ((c.tc : Thread Cert.OutLn.nD Cert.OutLn.τ).loc Cert.OutLn.main_arg6) = m ((c.tc : Thread Cert.OutLn.nD Cert.OutLn.τ).loc Cert.OutLn.main_arg6))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
      ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5)
      ∧ r.2.mem ((c.tc : Thread Cert.OutLnIdeal.nD Cert.OutLnIdeal.τ).loc Cert.OutLnIdeal.main_arg6) = m ((c.tc : Thread Cert.OutLnIdeal.nD Cert.OutLnIdeal.τ).loc Cert.OutLnIdeal.main_arg6))
      ∧ r.2.sem = fun _ => 0)

def quiescent_OutLnIdeal_pre_finite_logits [hOutLnIdeal : Cert.OutLnIdeal.Facts] [hPre_finite_logits : Cert.Pre_finite_logits.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal_finite_logits m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
      ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5)
      ∧ r.2.mem ((c.tc : Thread Cert.OutLnIdeal.nD Cert.OutLnIdeal.τ).loc Cert.OutLnIdeal.main_arg6) = m ((c.tc : Thread Cert.OutLnIdeal.nD Cert.OutLnIdeal.τ).loc Cert.OutLnIdeal.main_arg6))
      ∧ r.2.sem = fun _ => 0)

def quiescent_OutLnRefIdeal [hOutLnRefIdeal : Cert.OutLnRefIdeal.Facts] : Prop :=
  ∀ (m : (ℓ : Loc Cert.OutLnRefIdeal.nD Cert.OutLnRefIdeal.τ Cert.OutLnRefIdeal.sig) → Buf (Elt Ideal) ℓ) (g : Dev Cert.OutLnRefIdeal.nD → PrngReg), Pre_OutLnRefIdeal m →
    θ_run (Cert.OutLnRefIdeal.defs (F := Ideal)) (onTc (τ := Cert.OutLnRefIdeal.τ) (Cert.OutLnRefIdeal.main (F := Ideal))) ⟨m, fun _ => 0, g⟩ (fun r => (∀ c : Dev Cert.OutLnRefIdeal.nD,
      r.2.mem ((c.tc : Thread Cert.OutLnRefIdeal.nD Cert.OutLnRefIdeal.τ).loc Cert.OutLnRefIdeal.main_arg0) = m ((c.tc : Thread Cert.OutLnRefIdeal.nD Cert.OutLnRefIdeal.τ).loc Cert.OutLnRefIdeal.main_arg0)
      ∧ r.2.mem ((c.tc : Thread Cert.OutLnRefIdeal.nD Cert.OutLnRefIdeal.τ).loc Cert.OutLnRefIdeal.main_arg1) = m ((c.tc : Thread Cert.OutLnRefIdeal.nD Cert.OutLnRefIdeal.τ).loc Cert.OutLnRefIdeal.main_arg1)
      ∧ r.2.mem ((c.tc : Thread Cert.OutLnRefIdeal.nD Cert.OutLnRefIdeal.τ).loc Cert.OutLnRefIdeal.main_arg2) = m ((c.tc : Thread Cert.OutLnRefIdeal.nD Cert.OutLnRefIdeal.τ).loc Cert.OutLnRefIdeal.main_arg2)
      ∧ r.2.mem ((c.tc : Thread Cert.OutLnRefIdeal.nD Cert.OutLnRefIdeal.τ).loc Cert.OutLnRefIdeal.main_arg3) = m ((c.tc : Thread Cert.OutLnRefIdeal.nD Cert.OutLnRefIdeal.τ).loc Cert.OutLnRefIdeal.main_arg3)
      ∧ r.2.mem ((c.tc : Thread Cert.OutLnRefIdeal.nD Cert.OutLnRefIdeal.τ).loc Cert.OutLnRefIdeal.main_arg4) = m ((c.tc : Thread Cert.OutLnRefIdeal.nD Cert.OutLnRefIdeal.τ).loc Cert.OutLnRefIdeal.main_arg4)
      ∧ r.2.mem ((c.tc : Thread Cert.OutLnRefIdeal.nD Cert.OutLnRefIdeal.τ).loc Cert.OutLnRefIdeal.main_arg5) = m ((c.tc : Thread Cert.OutLnRefIdeal.nD Cert.OutLnRefIdeal.τ).loc Cert.OutLnRefIdeal.main_arg5)
      ∧ r.2.mem ((c.tc : Thread Cert.OutLnRefIdeal.nD Cert.OutLnRefIdeal.τ).loc Cert.OutLnRefIdeal.main_arg6) = m ((c.tc : Thread Cert.OutLnRefIdeal.nD Cert.OutLnRefIdeal.τ).loc Cert.OutLnRefIdeal.main_arg6))
      ∧ r.2.sem = fun _ => 0)

def quiescent_OutLnRefIdeal_pre_finite_logits [hOutLnRefIdeal : Cert.OutLnRefIdeal.Facts] [hPre_finite_logits : Cert.Pre_finite_logits.Facts] : Prop :=
  ∀ (m : (ℓ : Loc Cert.OutLnRefIdeal.nD Cert.OutLnRefIdeal.τ Cert.OutLnRefIdeal.sig) → Buf (Elt Ideal) ℓ) (g : Dev Cert.OutLnRefIdeal.nD → PrngReg), Pre_OutLnRefIdeal_finite_logits m →
    θ_run (Cert.OutLnRefIdeal.defs (F := Ideal)) (onTc (τ := Cert.OutLnRefIdeal.τ) (Cert.OutLnRefIdeal.main (F := Ideal))) ⟨m, fun _ => 0, g⟩ (fun r => (∀ c : Dev Cert.OutLnRefIdeal.nD,
      r.2.mem ((c.tc : Thread Cert.OutLnRefIdeal.nD Cert.OutLnRefIdeal.τ).loc Cert.OutLnRefIdeal.main_arg0) = m ((c.tc : Thread Cert.OutLnRefIdeal.nD Cert.OutLnRefIdeal.τ).loc Cert.OutLnRefIdeal.main_arg0)
      ∧ r.2.mem ((c.tc : Thread Cert.OutLnRefIdeal.nD Cert.OutLnRefIdeal.τ).loc Cert.OutLnRefIdeal.main_arg1) = m ((c.tc : Thread Cert.OutLnRefIdeal.nD Cert.OutLnRefIdeal.τ).loc Cert.OutLnRefIdeal.main_arg1)
      ∧ r.2.mem ((c.tc : Thread Cert.OutLnRefIdeal.nD Cert.OutLnRefIdeal.τ).loc Cert.OutLnRefIdeal.main_arg2) = m ((c.tc : Thread Cert.OutLnRefIdeal.nD Cert.OutLnRefIdeal.τ).loc Cert.OutLnRefIdeal.main_arg2)
      ∧ r.2.mem ((c.tc : Thread Cert.OutLnRefIdeal.nD Cert.OutLnRefIdeal.τ).loc Cert.OutLnRefIdeal.main_arg3) = m ((c.tc : Thread Cert.OutLnRefIdeal.nD Cert.OutLnRefIdeal.τ).loc Cert.OutLnRefIdeal.main_arg3)
      ∧ r.2.mem ((c.tc : Thread Cert.OutLnRefIdeal.nD Cert.OutLnRefIdeal.τ).loc Cert.OutLnRefIdeal.main_arg4) = m ((c.tc : Thread Cert.OutLnRefIdeal.nD Cert.OutLnRefIdeal.τ).loc Cert.OutLnRefIdeal.main_arg4)
      ∧ r.2.mem ((c.tc : Thread Cert.OutLnRefIdeal.nD Cert.OutLnRefIdeal.τ).loc Cert.OutLnRefIdeal.main_arg5) = m ((c.tc : Thread Cert.OutLnRefIdeal.nD Cert.OutLnRefIdeal.τ).loc Cert.OutLnRefIdeal.main_arg5)
      ∧ r.2.mem ((c.tc : Thread Cert.OutLnRefIdeal.nD Cert.OutLnRefIdeal.τ).loc Cert.OutLnRefIdeal.main_arg6) = m ((c.tc : Thread Cert.OutLnRefIdeal.nD Cert.OutLnRefIdeal.τ).loc Cert.OutLnRefIdeal.main_arg6))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v55) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Scan_ScanIdeal : Prop :=
  True

def algebraic_ScanIdeal_ScanRefIdeal_pre_decays [hScanIdeal : Cert.ScanIdeal.Facts] [hScanRefIdeal : Cert.ScanRefIdeal.Facts] [hPre_decays : Cert.Pre_decays.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal_decays m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)) →
    ∃ (v0 : (c : Dev Cert.ScanIdeal.nD) → Buf (Elt Ideal) ((c.tc : Thread Cert.ScanIdeal.nD Cert.ScanIdeal.τ).loc Cert.ScanIdeal.main_v0_0)) (v1 : (c : Dev Cert.ScanIdeal.nD) → Buf (Elt Ideal) ((c.tc : Thread Cert.ScanIdeal.nD Cert.ScanIdeal.τ).loc Cert.ScanIdeal.main_v0_1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v0_0) = v0 c
          ∧ r.2.mem ((c.tc : Thread Cert.ScanIdeal.nD Cert.ScanIdeal.τ).loc Cert.ScanIdeal.main_v0_1) = v1 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v72) = v0 c
          ∧ r.2.mem ((c.tc : Thread Cert.ScanRefIdeal.nD Cert.ScanRefIdeal.τ).loc Cert.ScanRefIdeal.main_v75) = v1 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1))

def preserves_Finish_FinishIdeal : Prop :=
  True

def algebraic_FinishIdeal_FinishRefIdeal [hFinishIdeal : Cert.FinishIdeal.Facts] [hFinishRefIdeal : Cert.FinishRefIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishRefIdeal.nD Cert.FinishRefIdeal.τ Cert.FinishRefIdeal.sig) → Buf (Elt Ideal) ℓ) (g' : Dev Cert.FinishRefIdeal.nD → PrngReg), Pre_FinishIdeal m →
    (∀ c : Dev Cert.FinishIdeal.nD,
      m' ((c.tc : Thread Cert.FinishRefIdeal.nD Cert.FinishRefIdeal.τ).loc Cert.FinishRefIdeal.main_arg0) = m ((c.tc : Thread Cert.FinishIdeal.nD Cert.FinishIdeal.τ).loc Cert.FinishIdeal.main_arg0)
      ∧ m' ((c.tc : Thread Cert.FinishRefIdeal.nD Cert.FinishRefIdeal.τ).loc Cert.FinishRefIdeal.main_arg1) = m ((c.tc : Thread Cert.FinishIdeal.nD Cert.FinishIdeal.τ).loc Cert.FinishIdeal.main_arg1)
      ∧ m' ((c.tc : Thread Cert.FinishRefIdeal.nD Cert.FinishRefIdeal.τ).loc Cert.FinishRefIdeal.main_arg2) = m ((c.tc : Thread Cert.FinishIdeal.nD Cert.FinishIdeal.τ).loc Cert.FinishIdeal.main_arg2)
      ∧ m' ((c.tc : Thread Cert.FinishRefIdeal.nD Cert.FinishRefIdeal.τ).loc Cert.FinishRefIdeal.main_arg3) = m ((c.tc : Thread Cert.FinishIdeal.nD Cert.FinishIdeal.τ).loc Cert.FinishIdeal.main_arg3)) →
    ∃ (v0 : (c : Dev Cert.FinishIdeal.nD) → Buf (Elt Ideal) ((c.tc : Thread Cert.FinishIdeal.nD Cert.FinishIdeal.τ).loc Cert.FinishIdeal.main_v0)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v0) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3))
      ∧ θ_run (Cert.FinishRefIdeal.defs (F := Ideal)) (onTc (τ := Cert.FinishRefIdeal.τ) (Cert.FinishRefIdeal.main (F := Ideal))) ⟨m', fun _ => 0, g'⟩ (fun r => ∀ c : Dev Cert.FinishRefIdeal.nD,
          r.2.mem ((c.tc : Thread Cert.FinishRefIdeal.nD Cert.FinishRefIdeal.τ).loc Cert.FinishRefIdeal.main_v20) = v0 c
          ∧ r.2.mem ((c.tc : Thread Cert.FinishRefIdeal.nD Cert.FinishRefIdeal.τ).loc Cert.FinishRefIdeal.main_arg0) = m' ((c.tc : Thread Cert.FinishRefIdeal.nD Cert.FinishRefIdeal.τ).loc Cert.FinishRefIdeal.main_arg0)
          ∧ r.2.mem ((c.tc : Thread Cert.FinishRefIdeal.nD Cert.FinishRefIdeal.τ).loc Cert.FinishRefIdeal.main_arg1) = m' ((c.tc : Thread Cert.FinishRefIdeal.nD Cert.FinishRefIdeal.τ).loc Cert.FinishRefIdeal.main_arg1)
          ∧ r.2.mem ((c.tc : Thread Cert.FinishRefIdeal.nD Cert.FinishRefIdeal.τ).loc Cert.FinishRefIdeal.main_arg2) = m' ((c.tc : Thread Cert.FinishRefIdeal.nD Cert.FinishRefIdeal.τ).loc Cert.FinishRefIdeal.main_arg2)
          ∧ r.2.mem ((c.tc : Thread Cert.FinishRefIdeal.nD Cert.FinishRefIdeal.τ).loc Cert.FinishRefIdeal.main_arg3) = m' ((c.tc : Thread Cert.FinishRefIdeal.nD Cert.FinishRefIdeal.τ).loc Cert.FinishRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Wide_WideIdeal : Prop :=
  True

def algebraic_WideIdeal_WideRefIdeal [hWideIdeal : Cert.WideIdeal.Facts] [hWideRefIdeal : Cert.WideRefIdeal.Facts] : Prop :=
  ∀ (m : (ℓ : Loc Cert.WideIdeal.nD Cert.WideIdeal.τ Cert.WideIdeal.sig) → Buf (Elt Ideal) ℓ) (g : Dev Cert.WideIdeal.nD → PrngReg)
    (m' : (ℓ : Loc Cert.WideRefIdeal.nD Cert.WideRefIdeal.τ Cert.WideRefIdeal.sig) → Buf (Elt Ideal) ℓ) (g' : Dev Cert.WideRefIdeal.nD → PrngReg), Pre_WideIdeal m →
    (∀ c : Dev Cert.WideIdeal.nD,
      m' ((c.tc : Thread Cert.WideRefIdeal.nD Cert.WideRefIdeal.τ).loc Cert.WideRefIdeal.main_arg0) = m ((c.tc : Thread Cert.WideIdeal.nD Cert.WideIdeal.τ).loc Cert.WideIdeal.main_arg0)
      ∧ m' ((c.tc : Thread Cert.WideRefIdeal.nD Cert.WideRefIdeal.τ).loc Cert.WideRefIdeal.main_arg1) = m ((c.tc : Thread Cert.WideIdeal.nD Cert.WideIdeal.τ).loc Cert.WideIdeal.main_arg1)) →
    ∃ (v0 : (c : Dev Cert.WideIdeal.nD) → Buf (Elt Ideal) ((c.tc : Thread Cert.WideIdeal.nD Cert.WideIdeal.τ).loc Cert.WideIdeal.main_v0)),
      θ_run (Cert.WideIdeal.defs (F := Ideal)) (onTc (τ := Cert.WideIdeal.τ) (Cert.WideIdeal.main (F := Ideal))) ⟨m, fun _ => 0, g⟩ (fun r => ∀ c : Dev Cert.WideIdeal.nD,
          r.2.mem ((c.tc : Thread Cert.WideIdeal.nD Cert.WideIdeal.τ).loc Cert.WideIdeal.main_v0) = v0 c
          ∧ r.2.mem ((c.tc : Thread Cert.WideIdeal.nD Cert.WideIdeal.τ).loc Cert.WideIdeal.main_arg0) = m ((c.tc : Thread Cert.WideIdeal.nD Cert.WideIdeal.τ).loc Cert.WideIdeal.main_arg0)
          ∧ r.2.mem ((c.tc : Thread Cert.WideIdeal.nD Cert.WideIdeal.τ).loc Cert.WideIdeal.main_arg1) = m ((c.tc : Thread Cert.WideIdeal.nD Cert.WideIdeal.τ).loc Cert.WideIdeal.main_arg1))
      ∧ θ_run (Cert.WideRefIdeal.defs (F := Ideal)) (onTc (τ := Cert.WideRefIdeal.τ) (Cert.WideRefIdeal.main (F := Ideal))) ⟨m', fun _ => 0, g'⟩ (fun r => ∀ c : Dev Cert.WideRefIdeal.nD,
          r.2.mem ((c.tc : Thread Cert.WideRefIdeal.nD Cert.WideRefIdeal.τ).loc Cert.WideRefIdeal.main_v1) = v0 c
          ∧ r.2.mem ((c.tc : Thread Cert.WideRefIdeal.nD Cert.WideRefIdeal.τ).loc Cert.WideRefIdeal.main_arg0) = m' ((c.tc : Thread Cert.WideRefIdeal.nD Cert.WideRefIdeal.τ).loc Cert.WideRefIdeal.main_arg0)
          ∧ r.2.mem ((c.tc : Thread Cert.WideRefIdeal.nD Cert.WideRefIdeal.τ).loc Cert.WideRefIdeal.main_arg1) = m' ((c.tc : Thread Cert.WideRefIdeal.nD Cert.WideRefIdeal.τ).loc Cert.WideRefIdeal.main_arg1))

def preserves_OutLn_OutLnIdeal : Prop :=
  True

def algebraic_OutLnIdeal_OutLnRefIdeal_pre_finite_logits [hOutLnIdeal : Cert.OutLnIdeal.Facts] [hOutLnRefIdeal : Cert.OutLnRefIdeal.Facts] [hPre_finite_logits : Cert.Pre_finite_logits.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnRefIdeal.nD Cert.OutLnRefIdeal.τ Cert.OutLnRefIdeal.sig) → Buf (Elt Ideal) ℓ) (g' : Dev Cert.OutLnRefIdeal.nD → PrngReg), Pre_OutLnIdeal_finite_logits m →
    (∀ c : Dev Cert.OutLnIdeal.nD,
      m' ((c.tc : Thread Cert.OutLnRefIdeal.nD Cert.OutLnRefIdeal.τ).loc Cert.OutLnRefIdeal.main_arg0) = m ((c.tc : Thread Cert.OutLnIdeal.nD Cert.OutLnIdeal.τ).loc Cert.OutLnIdeal.main_arg0)
      ∧ m' ((c.tc : Thread Cert.OutLnRefIdeal.nD Cert.OutLnRefIdeal.τ).loc Cert.OutLnRefIdeal.main_arg1) = m ((c.tc : Thread Cert.OutLnIdeal.nD Cert.OutLnIdeal.τ).loc Cert.OutLnIdeal.main_arg1)
      ∧ m' ((c.tc : Thread Cert.OutLnRefIdeal.nD Cert.OutLnRefIdeal.τ).loc Cert.OutLnRefIdeal.main_arg2) = m ((c.tc : Thread Cert.OutLnIdeal.nD Cert.OutLnIdeal.τ).loc Cert.OutLnIdeal.main_arg2)
      ∧ m' ((c.tc : Thread Cert.OutLnRefIdeal.nD Cert.OutLnRefIdeal.τ).loc Cert.OutLnRefIdeal.main_arg3) = m ((c.tc : Thread Cert.OutLnIdeal.nD Cert.OutLnIdeal.τ).loc Cert.OutLnIdeal.main_arg3)
      ∧ m' ((c.tc : Thread Cert.OutLnRefIdeal.nD Cert.OutLnRefIdeal.τ).loc Cert.OutLnRefIdeal.main_arg4) = m ((c.tc : Thread Cert.OutLnIdeal.nD Cert.OutLnIdeal.τ).loc Cert.OutLnIdeal.main_arg4)
      ∧ m' ((c.tc : Thread Cert.OutLnRefIdeal.nD Cert.OutLnRefIdeal.τ).loc Cert.OutLnRefIdeal.main_arg5) = m ((c.tc : Thread Cert.OutLnIdeal.nD Cert.OutLnIdeal.τ).loc Cert.OutLnIdeal.main_arg5)
      ∧ m' ((c.tc : Thread Cert.OutLnRefIdeal.nD Cert.OutLnRefIdeal.τ).loc Cert.OutLnRefIdeal.main_arg6) = m ((c.tc : Thread Cert.OutLnIdeal.nD Cert.OutLnIdeal.τ).loc Cert.OutLnIdeal.main_arg6)) →
    ∃ (v0 : (c : Dev Cert.OutLnIdeal.nD) → Buf (Elt Ideal) ((c.tc : Thread Cert.OutLnIdeal.nD Cert.OutLnIdeal.τ).loc Cert.OutLnIdeal.main_v0)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v0) = v0 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
          ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5)
          ∧ r.2.mem ((c.tc : Thread Cert.OutLnIdeal.nD Cert.OutLnIdeal.τ).loc Cert.OutLnIdeal.main_arg6) = m ((c.tc : Thread Cert.OutLnIdeal.nD Cert.OutLnIdeal.τ).loc Cert.OutLnIdeal.main_arg6))
      ∧ θ_run (Cert.OutLnRefIdeal.defs (F := Ideal)) (onTc (τ := Cert.OutLnRefIdeal.τ) (Cert.OutLnRefIdeal.main (F := Ideal))) ⟨m', fun _ => 0, g'⟩ (fun r => ∀ c : Dev Cert.OutLnRefIdeal.nD,
          r.2.mem ((c.tc : Thread Cert.OutLnRefIdeal.nD Cert.OutLnRefIdeal.τ).loc Cert.OutLnRefIdeal.main_v55) = v0 c
          ∧ r.2.mem ((c.tc : Thread Cert.OutLnRefIdeal.nD Cert.OutLnRefIdeal.τ).loc Cert.OutLnRefIdeal.main_arg0) = m' ((c.tc : Thread Cert.OutLnRefIdeal.nD Cert.OutLnRefIdeal.τ).loc Cert.OutLnRefIdeal.main_arg0)
          ∧ r.2.mem ((c.tc : Thread Cert.OutLnRefIdeal.nD Cert.OutLnRefIdeal.τ).loc Cert.OutLnRefIdeal.main_arg1) = m' ((c.tc : Thread Cert.OutLnRefIdeal.nD Cert.OutLnRefIdeal.τ).loc Cert.OutLnRefIdeal.main_arg1)
          ∧ r.2.mem ((c.tc : Thread Cert.OutLnRefIdeal.nD Cert.OutLnRefIdeal.τ).loc Cert.OutLnRefIdeal.main_arg2) = m' ((c.tc : Thread Cert.OutLnRefIdeal.nD Cert.OutLnRefIdeal.τ).loc Cert.OutLnRefIdeal.main_arg2)
          ∧ r.2.mem ((c.tc : Thread Cert.OutLnRefIdeal.nD Cert.OutLnRefIdeal.τ).loc Cert.OutLnRefIdeal.main_arg3) = m' ((c.tc : Thread Cert.OutLnRefIdeal.nD Cert.OutLnRefIdeal.τ).loc Cert.OutLnRefIdeal.main_arg3)
          ∧ r.2.mem ((c.tc : Thread Cert.OutLnRefIdeal.nD Cert.OutLnRefIdeal.τ).loc Cert.OutLnRefIdeal.main_arg4) = m' ((c.tc : Thread Cert.OutLnRefIdeal.nD Cert.OutLnRefIdeal.τ).loc Cert.OutLnRefIdeal.main_arg4)
          ∧ r.2.mem ((c.tc : Thread Cert.OutLnRefIdeal.nD Cert.OutLnRefIdeal.τ).loc Cert.OutLnRefIdeal.main_arg5) = m' ((c.tc : Thread Cert.OutLnRefIdeal.nD Cert.OutLnRefIdeal.τ).loc Cert.OutLnRefIdeal.main_arg5)
          ∧ r.2.mem ((c.tc : Thread Cert.OutLnRefIdeal.nD Cert.OutLnRefIdeal.τ).loc Cert.OutLnRefIdeal.main_arg6) = m' ((c.tc : Thread Cert.OutLnRefIdeal.nD Cert.OutLnRefIdeal.τ).loc Cert.OutLnRefIdeal.main_arg6))

def Claim : Prop :=
  ∃ (hFfn : Cert.Ffn.Facts) (hFfnIdeal : Cert.FfnIdeal.Facts) (hFfnRefIdeal : Cert.FfnRefIdeal.Facts) (hScan : Cert.Scan.Facts) (hScanIdeal : Cert.ScanIdeal.Facts) (hScanRefIdeal : Cert.ScanRefIdeal.Facts) (hFinish : Cert.Finish.Facts) (hFinishIdeal : Cert.FinishIdeal.Facts) (hFinishRefIdeal : Cert.FinishRefIdeal.Facts) (hProj : Cert.Proj.Facts) (hProjIdeal : Cert.ProjIdeal.Facts) (hProjRefIdeal : Cert.ProjRefIdeal.Facts) (hWide : Cert.Wide.Facts) (hWideIdeal : Cert.WideIdeal.Facts) (hWideRefIdeal : Cert.WideRefIdeal.Facts) (hOutLn : Cert.OutLn.Facts) (hOutLnIdeal : Cert.OutLnIdeal.Facts) (hOutLnRefIdeal : Cert.OutLnRefIdeal.Facts) (hPre_decays : Cert.Pre_decays.Facts) (hPre_finite_logits : Cert.Pre_finite_logits.Facts),
    quiescent_Ffn (hFfn := hFfn)
    ∧ quiescent_FfnIdeal (hFfnIdeal := hFfnIdeal)
    ∧ quiescent_FfnRefIdeal (hFfnRefIdeal := hFfnRefIdeal)
    ∧ quiescent_Scan (hScan := hScan)
    ∧ quiescent_ScanIdeal (hScanIdeal := hScanIdeal)
    ∧ quiescent_ScanIdeal_pre_decays (hScanIdeal := hScanIdeal) (hPre_decays := hPre_decays)
    ∧ quiescent_ScanRefIdeal (hScanRefIdeal := hScanRefIdeal)
    ∧ quiescent_ScanRefIdeal_pre_decays (hScanRefIdeal := hScanRefIdeal) (hPre_decays := hPre_decays)
    ∧ quiescent_Finish (hFinish := hFinish)
    ∧ quiescent_FinishIdeal (hFinishIdeal := hFinishIdeal)
    ∧ quiescent_FinishRefIdeal (hFinishRefIdeal := hFinishRefIdeal)
    ∧ quiescent_Proj (hProj := hProj)
    ∧ quiescent_ProjIdeal (hProjIdeal := hProjIdeal)
    ∧ quiescent_ProjRefIdeal (hProjRefIdeal := hProjRefIdeal)
    ∧ quiescent_Wide (hWide := hWide)
    ∧ quiescent_WideIdeal (hWideIdeal := hWideIdeal)
    ∧ quiescent_WideRefIdeal (hWideRefIdeal := hWideRefIdeal)
    ∧ quiescent_OutLn (hOutLn := hOutLn)
    ∧ quiescent_OutLnIdeal (hOutLnIdeal := hOutLnIdeal)
    ∧ quiescent_OutLnIdeal_pre_finite_logits (hOutLnIdeal := hOutLnIdeal) (hPre_finite_logits := hPre_finite_logits)
    ∧ quiescent_OutLnRefIdeal (hOutLnRefIdeal := hOutLnRefIdeal)
    ∧ quiescent_OutLnRefIdeal_pre_finite_logits (hOutLnRefIdeal := hOutLnRefIdeal) (hPre_finite_logits := hPre_finite_logits)
    ∧ preserves_Ffn_FfnIdeal
    ∧ algebraic_FfnIdeal_FfnRefIdeal (hFfnIdeal := hFfnIdeal) (hFfnRefIdeal := hFfnRefIdeal)
    ∧ preserves_Scan_ScanIdeal
    ∧ algebraic_ScanIdeal_ScanRefIdeal_pre_decays (hScanIdeal := hScanIdeal) (hScanRefIdeal := hScanRefIdeal) (hPre_decays := hPre_decays)
    ∧ preserves_Finish_FinishIdeal
    ∧ algebraic_FinishIdeal_FinishRefIdeal (hFinishIdeal := hFinishIdeal) (hFinishRefIdeal := hFinishRefIdeal)
    ∧ preserves_Proj_ProjIdeal
    ∧ algebraic_ProjIdeal_ProjRefIdeal (hProjIdeal := hProjIdeal) (hProjRefIdeal := hProjRefIdeal)
    ∧ preserves_Wide_WideIdeal
    ∧ algebraic_WideIdeal_WideRefIdeal (hWideIdeal := hWideIdeal) (hWideRefIdeal := hWideRefIdeal)
    ∧ preserves_OutLn_OutLnIdeal
    ∧ algebraic_OutLnIdeal_OutLnRefIdeal_pre_finite_logits (hOutLnIdeal := hOutLnIdeal) (hOutLnRefIdeal := hOutLnRefIdeal) (hPre_finite_logits := hPre_finite_logits)
-- ==== Pre_decays.lean ====
abbrev S4x8192x4096 : Shape := ⟨3, ![4, 8192, 4096]⟩
abbrev S2x1x768 : Shape := ⟨3, ![2, 1, 768]⟩
abbrev S_ : Shape := ⟨0, ![]⟩

class Facts : Prop where
  bcast_S_S2x1x768 : S_.BroadcastsInDim S2x1x768 (![] : Fin 0 → Fin S2x1x768.rank)
  reducesTo_S2x1x768_S_d0_1_2 : S2x1x768.ReducesTo [0, 1, 2] S_
  h_S_ : 0 < S_.numel

variable [Facts]

def fn {F : FTy → Type} [FloatOps F] (main_arg0 : FVec F S4x8192x4096 .f32) (main_arg1 : FVec F S2x1x768 .f32) : IVec S_ 1 :=
  let main_cst : FVec F S_ .f32 := constant S_ .f32 0x00000000#32
  let main_v0 : FVec F S2x1x768 .f32 := broadcastInDim S2x1x768 ![] bcast_S_S2x1x768 main_cst
  let main_v1 : IVec S2x1x768 1 := cmpf .oge main_arg1 main_v0
  let main_cst_0 : FVec F S_ .f32 := constant S_ .f32 0x3F800000#32
  let main_v2 : FVec F S2x1x768 .f32 := broadcastInDim S2x1x768 ![] bcast_S_S2x1x768 main_cst_0
  let main_v3 : IVec S2x1x768 1 := cmpf .ole main_arg1 main_v2
  let main_v4 : IVec S2x1x768 1 := andi main_v1 main_v3
  let main_c : IVec S_ 1 := constantI S_ 1 1#1
  let main_v5 : IVec S_ 1 := (fun x v => Host.reduce IntOp.andi x v reducesTo_S2x1x768_S_d0_1_2 h_S_) main_v4 main_c
  main_v5
-- ==== Pre_finite_logits.lean ====
abbrev S32768x1024 : Shape := ⟨2, ![32768, 1024]⟩
abbrev S32768x768 : Shape := ⟨2, ![32768, 768]⟩
abbrev S4x8192x2560 : Shape := ⟨3, ![4, 8192, 2560]⟩
abbrev S4x256x512 : Shape := ⟨3, ![4, 256, 512]⟩
abbrev S1024x1024 : Shape := ⟨2, ![1024, 1024]⟩
abbrev S1x1024 : Shape := ⟨2, ![1, 1024]⟩
abbrev S4x8192x256 : Shape := ⟨3, ![4, 8192, 256]⟩
abbrev S4x256x256 : Shape := ⟨3, ![4, 256, 256]⟩
abbrev S_ : Shape := ⟨0, ![]⟩

class Facts : Prop where
  slices_S4x8192x2560_S4x8192x256_0_0_2304 : S4x8192x2560.Slices ![0, 0, 2304] S4x8192x256
  bitsLt_bf16_f32 : FTy.bits .bf16 < FTy.bits .f32
  slices_S4x256x512_S4x256x256_0_0_0 : S4x256x512.Slices ![0, 0, 0] S4x256x256
  bcast_S_S4x8192x256 : S_.BroadcastsInDim S4x8192x256 (![] : Fin 0 → Fin S4x8192x256.rank)
  reducesTo_S4x8192x256_S_d0_1_2 : S4x8192x256.ReducesTo [0, 1, 2] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_

variable [Facts]

def fn {F : FTy → Type} [FloatOps F] (main_arg0 : FVec F S32768x1024 .f32) (main_arg1 : FVec F S32768x768 .bf16) (main_arg2 : FVec F S4x8192x2560 .bf16) (main_arg3 : FVec F S4x256x512 .bf16) (main_arg4 : FVec F S1024x1024 .bf16) (main_arg5 : FVec F S1x1024 .f32) (main_arg6 : FVec F S1x1024 .f32) : IVec S_ 1 :=
  let main_v0 : FVec F S4x8192x256 .bf16 := (extractStridedSlice S4x8192x256 ![0, 0, 2304] · slices_S4x8192x2560_S4x8192x256_0_0_2304) main_arg2
  let main_v1 : FVec F S4x8192x256 .f32 := (extf .f32 · bitsLt_bf16_f32) main_v0
  let main_v2 : FVec F S4x256x256 .bf16 := (extractStridedSlice S4x256x256 ![0, 0, 0] · slices_S4x256x512_S4x256x256_0_0_0) main_arg3
  let main_v3 : FVec F S4x256x256 .f32 := (extf .f32 · bitsLt_bf16_f32) main_v2
  let main_v4 : FVec F S4x8192x256 .f32 := Host.absf main_v1
  let main_cst : FVec F S_ .f32 := constant S_ .f32 0x7F800000#32
  let main_v5 : FVec F S4x8192x256 .f32 := broadcastInDim S4x8192x256 ![] bcast_S_S4x8192x256 main_cst
  let main_v6 : IVec S4x8192x256 1 := cmpf .olt main_v4 main_v5
  let main_c : IVec S_ 1 := constantI S_ 1 1#1
  let main_v7 : IVec S_ 1 := (fun x v => Host.reduce IntOp.andi x v reducesTo_S4x8192x256_S_d0_1_2 h_S_) main_v6 main_c
  let main_v8 : FVec F S4x256x256 .f32 := Host.absf main_v3
  let main_cst_0 : FVec F S_ .f32 := constant S_ .f32 0x7F800000#32
  let main_v9 : FVec F S4x256x256 .f32 := broadcastInDim S4x256x256 ![] bcast_S_S4x256x256 main_cst_0
  let main_v10 : IVec S4x256x256 1 := cmpf .olt main_v8 main_v9
  let main_c_1 : IVec S_ 1 := constantI S_ 1 1#1
  let main_v11 : IVec S_ 1 := (fun x v => Host.reduce IntOp.andi x v reducesTo_S4x256x256_S_d0_1_2 h_S_) main_v10 main_c_1
  let main_v12 : IVec S_ 1 := andi main_v7 main_v11
  main_v12
-- ==== Ffn.lean ====
abbrev S4x8192x1024 : Shape := ⟨3, ![4, 8192, 1024]⟩
abbrev S1024x5632 : Shape := ⟨2, ![1024, 5632]⟩
abbrev S3x5632 : Shape := ⟨2, ![3, 5632]⟩
abbrev S2816x1024 : Shape := ⟨2, ![2816, 1024]⟩
abbrev S1x1024 : Shape := ⟨2, ![1, 1024]⟩
abbrev S1x512x1024 : Shape := ⟨3, ![1, 512, 1024]⟩
abbrev S1x16x1024 : Shape := ⟨3, ![1, 16, 1024]⟩
abbrev S512x2816 : Shape := ⟨2, ![512, 2816]⟩
abbrev S16x1024 : Shape := ⟨2, ![16, 1024]⟩
abbrev S512x1024 : Shape := ⟨2, ![512, 1024]⟩
abbrev S544x1024 : Shape := ⟨2, ![544, 1024]⟩
abbrev S1024x256 : Shape := ⟨2, ![1024, 256]⟩
abbrev S544x256 : Shape := ⟨2, ![544, 256]⟩
abbrev S3x256 : Shape := ⟨2, ![3, 256]⟩
abbrev S1x256 : Shape := ⟨2, ![1, 256]⟩
abbrev S512x256 : Shape := ⟨2, ![512, 256]⟩
abbrev S256x2816 : Shape := ⟨2, ![256, 2816]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 7
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S1024x5632, .bf16⟩
  | .hbm, ⟨2, _⟩ => ⟨S3x5632, .f32⟩
  | .hbm, ⟨3, _⟩ => ⟨S2816x1024, .bf16⟩
  | .hbm, ⟨4, _⟩ => ⟨S1x1024, .f32⟩
  | .hbm, ⟨5, _⟩ => ⟨S1x1024, .f32⟩
  | .hbm, ⟨6, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1024x5632, .bf16⟩
  | .local _ .vmem, ⟨7, _⟩ => ⟨S3x5632, .f32⟩
  | .local _ .vmem, ⟨8, _⟩ => ⟨S2816x1024, .bf16⟩
  | .local _ .vmem, ⟨9, _⟩ => ⟨S1x1024, .f32⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S512x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnRefIdeal.lean ====
abbrev S4x8192x1024 : Shape := ⟨3, ![4, 8192, 1024]⟩
abbrev S1024x5632 : Shape := ⟨2, ![1024, 5632]⟩
abbrev S3x5632 : Shape := ⟨2, ![3, 5632]⟩
abbrev S2816x1024 : Shape := ⟨2, ![2816, 1024]⟩
abbrev S1x1024 : Shape := ⟨2, ![1, 1024]⟩
abbrev S4x8192x5632 : Shape := ⟨3, ![4, 8192, 5632]⟩
abbrev S_ : Shape := ⟨0, ![]⟩
abbrev S4x8194x5632 : Shape := ⟨3, ![4, 8194, 5632]⟩
abbrev S1x5632 : Shape := ⟨2, ![1, 5632]⟩
abbrev S5632 : Shape := ⟨1, ![5632]⟩
abbrev S1x1x5632 : Shape := ⟨3, ![1, 1, 5632]⟩
abbrev S4x8192x2816 : Shape := ⟨3, ![4, 8192, 2816]⟩
abbrev S4x8192 : Shape := ⟨2, ![4, 8192]⟩
abbrev S4x8192x1 : Shape := ⟨3, ![4, 8192, 1]⟩
abbrev S1024 : Shape := ⟨1, ![1024]⟩
abbrev S1x1x1024 : Shape := ⟨3, ![1, 1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x5632, .bf16⟩
  | .hbm, ⟨2, _⟩ => ⟨S3x5632, .f32⟩
  | .hbm, ⟨3, _⟩ => ⟨S2816x1024, .bf16⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S2816x1024, .f32⟩
  | .hbm, ⟨8, _⟩ => ⟨S4x8192x5632, .f32⟩
  | .hbm, ⟨9, _⟩ => ⟨S_, .i32⟩
  | .hbm, ⟨10, _⟩ => ⟨S_, .f32⟩
  | .hbm, ⟨11, _⟩ => ⟨S4x8194x5632, .f32⟩
  | .hbm, ⟨12, _⟩ => ⟨S4x8192x5632, .f32⟩
  | .hbm, ⟨13, _⟩ => ⟨S1x5632, .f32⟩
  | .hbm, ⟨14, _⟩ => ⟨S5632, .f32⟩
  | .hbm, ⟨15, _⟩ => ⟨S1x1x5632, .f32⟩
  | .hbm, ⟨16, _⟩ => ⟨S4x8192x5632, .f32⟩
  | .hbm, ⟨17, _⟩ => ⟨S4x8192x5632, .f32⟩
  | .hbm, ⟨18, _⟩ => ⟨S4x8192x5632, .f32⟩
  | .hbm, ⟨19, _⟩ => ⟨S1x5632, .f32⟩
  | .hbm, ⟨20, _⟩ => ⟨S5632, .f32⟩
  | .hbm, ⟨21, _⟩ => ⟨S1x1x5632, .f32⟩
  | .hbm, ⟨22, _⟩ => ⟨S4x8192x5632, .f32⟩
  | .hbm, ⟨23, _⟩ => ⟨S4x8192x5632, .f32⟩
  | .hbm, ⟨24, _⟩ => ⟨S4x8192x5632, .f32⟩
  | .hbm, ⟨25, _⟩ => ⟨S4x8192x5632, .f32⟩
  | .hbm, ⟨26, _⟩ => ⟨S1x5632, .f32⟩
  | .hbm, ⟨27, _⟩ => ⟨S5632, .f32⟩
  | .hbm, ⟨28, _⟩ => ⟨S1x1x5632, .f32⟩
  | .hbm, ⟨29, _⟩ => ⟨S4x8192x5632, .f32⟩
  | .hbm, ⟨30, _⟩ => ⟨S4x8192x5632, .f32⟩
  | .hbm, ⟨31, _⟩ => ⟨S4x8192x5632, .f32⟩
  | .hbm, ⟨32, _⟩ => ⟨S4x8192x2816, .f32⟩
  | .hbm, ⟨33, _⟩ => ⟨S4x8192x2816, .f32⟩
  | .hbm, ⟨34, _⟩ => ⟨S4x8192x2816, .f32⟩
  | .hbm, ⟨35, _⟩ => ⟨S4x8192x2816, .f32⟩
  | .hbm, ⟨36, _⟩ => ⟨S_, .f32⟩
  | .hbm, ⟨37, _⟩ => ⟨S4x8192x2816, .f32⟩
  | .hbm, ⟨38, _⟩ => ⟨S4x8192x2816, .f32⟩
  | .hbm, ⟨39, _⟩ => ⟨S_, .f32⟩
  | .hbm, ⟨40, _⟩ => ⟨S4x8192x2816, .f32⟩
  | .hbm, ⟨41, _⟩ => ⟨S4x8192x2816, .f32⟩
  | .hbm, ⟨42, _⟩ => ⟨S4x8192x2816, .f32⟩
  | .hbm, ⟨43, _⟩ => ⟨S4x8192x2816, .f32⟩
  | .hbm, ⟨44, _⟩ => ⟨S4x8192x1024, .f32⟩
  | .hbm, ⟨45, _⟩ => ⟨S_, .f32⟩
  | .hbm, ⟨46, _⟩ => ⟨S4x8192x1024, .f32⟩
  | .hbm, ⟨47, _⟩ => ⟨S4x8192x1024, .f32⟩
  | .hbm, ⟨48, _⟩ => ⟨S4x8192x1024, .f32⟩
  | .hbm, ⟨49, _⟩ => ⟨S_, .f32⟩
  | .hbm, ⟨50, _⟩ => ⟨S4x8192, .f32⟩
  | .hbm, ⟨51, _⟩ => ⟨S4x8192x1, .f32⟩
  | .hbm, ⟨52, _⟩ => ⟨S_, .f32⟩
  | .hbm, ⟨53, _⟩ => ⟨S4x8192x1, .f32⟩
  | .hbm, ⟨54, _⟩ => ⟨S4x8192x1, .f32⟩
  | .hbm, ⟨55, _⟩ => ⟨S4x8192x1024, .f32⟩
  | .hbm, ⟨56, _⟩ => ⟨S4x8192x1024, .f32⟩
  | .hbm, ⟨57, _⟩ => ⟨S4x8192x1024, .f32⟩
  | .hbm, ⟨58, _⟩ => ⟨S_, .f32⟩
  | .hbm, ⟨59, _⟩ => ⟨S4x8192, .f32⟩
  | .hbm, ⟨60, _⟩ => ⟨S4x8192x1, .f32⟩
  | .hbm, ⟨61, _⟩ => ⟨S_, .f32⟩
  | .hbm, ⟨62, _⟩ => ⟨S4x8192x1, .f32⟩
  | .hbm, ⟨63, _⟩ => ⟨S4x8192x1, .f32⟩
  | .hbm, ⟨64, _⟩ => ⟨S_, .f32⟩
  | .hbm, ⟨65, _⟩ => ⟨S4x8192x1, .f32⟩
  | .hbm, ⟨66, _⟩ => ⟨S4x8192x1, .f32⟩
  | .hbm, ⟨67, _⟩ => ⟨S4x8192x1, .f32⟩
  | .hbm, ⟨68, _⟩ => ⟨S4x8192x1024, .f32⟩
  | .hbm, ⟨69, _⟩ => ⟨S4x8192x1024, .f32⟩
  | .hbm, ⟨70, _⟩ => ⟨S1024, .f32⟩
  | .hbm, ⟨71, _⟩ => ⟨S1x1x1024, .f32⟩
  | .hbm, ⟨72, _⟩ => ⟨S4x8192x1024, .f32⟩
  | .hbm, ⟨73, _⟩ => ⟨S4x8192x1024, .f32⟩
  | .hbm, ⟨74, _⟩ => ⟨S1024, .f32⟩
  | .hbm, ⟨75, _⟩ => ⟨S1x1x1024, .f32⟩
  | .hbm, ⟨76, _⟩ => ⟨S4x8192x1024, .f32⟩
  | .hbm, ⟨77, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_0 : Ref sig .tc := ⟨.hbm, 49, rfl⟩
abbrev main_v32 : Ref sig .tc := ⟨.hbm, 50, rfl⟩
abbrev main_v33 : Ref sig .tc := ⟨.hbm, 51, rfl⟩
abbrev main_cst_1 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_2 : Ref sig .tc := ⟨.hbm, 58, rfl⟩
abbrev main_v39 : Ref sig .tc := ⟨.hbm, 59, rfl⟩
abbrev main_v40 : Ref sig .tc := ⟨.hbm, 60, rfl⟩
abbrev main_cst_3 : Ref sig .tc := ⟨.hbm, 61, rfl⟩
abbrev main_v41 : Ref sig .tc := ⟨.hbm, 62, rfl⟩
abbrev main_v42 : Ref sig .tc := ⟨.hbm, 63, rfl⟩
abbrev main_cst_4 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Scan.lean ====
abbrev S4x8192x4096 : Shape := ⟨3, ![4, 8192, 4096]⟩
abbrev S2x1x768 : Shape := ⟨3, ![2, 1, 768]⟩
abbrev S4x8192x768 : Shape := ⟨3, ![4, 8192, 768]⟩
abbrev S1x512x768 : Shape := ⟨3, ![1, 512, 768]⟩
abbrev S2x6x128x128 : Shape := ⟨4, ![2, 6, 128, 128]⟩
abbrev S64x64 : Shape := ⟨2, ![64, 64]⟩
abbrev S1x64x128 : Shape := ⟨3, ![1, 64, 128]⟩
abbrev S64x128 : Shape := ⟨2, ![64, 128]⟩
abbrev S1x1x128 : Shape := ⟨3, ![1, 1, 128]⟩
abbrev S1x128 : Shape := ⟨2, ![1, 128]⟩
abbrev S1x1x128x128 : Shape := ⟨4, ![1, 1, 128, 128]⟩
abbrev S128x128 : Shape := ⟨2, ![128, 128]⟩
abbrev S128x64 : Shape := ⟨2, ![128, 64]⟩
abbrev S16x128 : Shape := ⟨2, ![16, 128]⟩
abbrev S16x16 : Shape := ⟨2, ![16, 16]⟩
abbrev S32x128 : Shape := ⟨2, ![32, 128]⟩
abbrev S16x32 : Shape := ⟨2, ![16, 32]⟩
abbrev S48x128 : Shape := ⟨2, ![48, 128]⟩
abbrev S16x48 : Shape := ⟨2, ![16, 48]⟩
abbrev S16x64 : Shape := ⟨2, ![16, 64]⟩

abbrev nBuf : Space → Nat
  | .hbm => 4
  | .vmem => 18
  | .smem => 0
  | _ => 0

abbrev bufTy : (tb : Table) → Fin (tcTables nBuf tb) → BufTy
  | .hbm, ⟨0, _⟩ => ⟨S4x8192x4096, .f32⟩
  | .hbm, ⟨1, _⟩ => ⟨S2x1x768, .f32⟩
  | .hbm, ⟨2, _⟩ => ⟨S4x8192x768, .f32⟩
  | .hbm, ⟨3, _⟩ => ⟨S4x8192x768, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S2x1x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | .local _ .vmem, ⟨16, _⟩ => ⟨S1x512x768, .f32⟩
  | .local _ .vmem, ⟨17, _⟩ => ⟨S2x6x128x128, .f32⟩
  | _, _ => ⟨S4x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_1 : BitVec 32 := 0#32
  let c8_i32 : BitVec 32 := 8#32
  let v13 : BitVec 32 := Scalar.addi c0_i32_1 c8_i32
  let c1_i32 : BitVec 32 := 1#32
  ⟨c0_i32_1, v13, c1_i32⟩
def k0_mult1 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c64_i32 : BitVec 32 := 64#32
  let v14 : BitVec 32 := Scalar.muli arg12 c64_i32
  v14
def k0_mult2 (k0_t1 : Fin k0_t1_loop.trips) : BitVec 32 :=
  let c7_i32 : BitVec 32 := 7#32
  let c0_i32_1 : BitVec 32 := 0#32
  let c1_i32 : BitVec 32 := 1#32
  let arg12 : BitVec 32 := Scf.iv c0_i32_1 c1_i32 k0_t1
  let v16 : BitVec 32 := Scalar.subi c7_i32 arg12
  let c64_i32_3 : BitVec 32 := 64#32
  let v17 : BitVec 32 := Scalar.muli v16 c64_i32_3
  v17
def k0_off1 (k0_t1 : Fin k0_t1_loop.trips) : Fin 3 → Nat :=
  let c0 : Index := 0#32
  let c0_i32_1 : BitVec 32 := 0#32
  let c1_i32 : BitVec 32 := 1#32
  let arg12 : BitVec 32 := Scf.iv c0_i32_1 c1_i32 k0_t1
  let c64_i32 : BitVec 32 := 64#32
  let v14 : BitVec 32 := Scalar.muli arg12 c64_i32
  let v15 : BitVec 32 := v14
  let v19 : Index := Scalar.indexCast v15
  let c0_4 : Index := 0#32
  ![0, v19.toNat, 0]
def k0_off2 (k0_t1 : Fin k0_t1_loop.trips) : Fin 3 → Nat :=
  let c0_16 : Index := 0#32
  let c7_i32 : BitVec 32 := 7#32
  let c0_i32_1 : BitVec 32 := 0#32
  let c1_i32 : BitVec 32 := 1#32
  let arg12 : BitVec 32 := Scf.iv c0_i32_1 c1_i32 k0_t1
  let v16 : BitVec 32 := Scalar.subi c7_i32 arg12
  let c64_i32_3 : BitVec 32 := 64#32
  let v17 : BitVec 32 := Scalar.muli v16 c64_i32_3
  let v18 : BitVec 32 := v17
  let v32 : Index := Scalar.indexCast v18
  let c0_17 : Index := 0#32
  ![0, v32.toNat, 0]
def k0_off3 (k0_t1 : Fin k0_t1_loop.trips) : Fin 3 → Nat :=
  let c0_28 : Index := 0#32
  let c0_i32_1 : BitVec 32 := 0#32
  let c1_i32 : BitVec 32 := 1#32
  let arg12 : BitVec 32 := Scf.iv c0_i32_1 c1_i32 k0_t1
  let c64_i32 : BitVec 32 := 64#32
  let v14 : BitVec 32 := Scalar.muli arg12 c64_i32
  let v15 : BitVec 32 := v14
  let v45 : Index := Scalar.indexCast v15
  let c128 : Index := 128#32
  ![0, v45.toNat, 128]
def k0_off4 (k0_t1 : Fin k0_t1_loop.trips) : Fin 3 → Nat :=
  let c0_40 : Index := 0#32
  let c7_i32 : BitVec 32 := 7#32
  let c0_i32_1 : BitVec 32 := 0#32
  let c1_i32 : BitVec 32 := 1#32
  let arg12 : BitVec 32 := Scf.iv c0_i32_1 c1_i32 k0_t1
  let v16 : BitVec 32 := Scalar.subi c7_i32 arg12
  let c64_i32_3 : BitVec 32 := 64#32
  let v17 : BitVec 32 := Scalar.muli v16 c64_i32_3
  let v18 : BitVec 32 := v17
  let v58 : Index := Scalar.indexCast v18
  let c128_41 : Index := 128#32
  ![0, v58.toNat, 128]
def k0_off5 (k0_t1 : Fin k0_t1_loop.trips) : Fin 3 → Nat :=
  let c0_53 : Index := 0#32
  let c0_i32_1 : BitVec 32 := 0#32
  let c1_i32 : BitVec 32 := 1#32
  let arg12 : BitVec 32 := Scf.iv c0_i32_1 c1_i32 k0_t1
  let c64_i32 : BitVec 32 := 64#32
  let v14 : BitVec 32 := Scalar.muli arg12 c64_i32
  let v15 : BitVec 32 := v14
  let v71 : Index := Scalar.indexCast v15
  let c256 : Index := 256#32
  ![0, v71.toNat, 256]
def k0_off6 (k0_t1 : Fin k0_t1_loop.trips) : Fin 3 → Nat :=
  let c0_64 : Index := 0#32
  let c7_i32 : BitVec 32 := 7#32
  let c0_i32_1 : BitVec 32 := 0#32
  let c1_i32 : BitVec 32 := 1#32
  let arg12 : BitVec 32 := Scf.iv c0_i32_1 c1_i32 k0_t1
  let v16 : BitVec 32 := Scalar.subi c7_i32 arg12
  let c64_i32_3 : BitVec 32 := 64#32
  let v17 : BitVec 32 := Scalar.muli v16 c64_i32_3
  let v18 : BitVec 32 := v17
  let v84 : Index := Scalar.indexCast v18
  let c256_65 : Index := 256#32
  ![0, v84.toNat, 256]
def k0_off7 (k0_t1 : Fin k0_t1_loop.trips) : Fin 3 → Nat :=
  let c0_77 : Index := 0#32
  let c0_i32_1 : BitVec 32 := 0#32
  let c1_i32 : BitVec 32 := 1#32
  let arg12 : BitVec 32 := Scf.iv c0_i32_1 c1_i32 k0_t1
  let c64_i32 : BitVec 32 := 64#32
  let v14 : BitVec 32 := Scalar.muli arg12 c64_i32
  let v15 : BitVec 32 := v14
  let v97 : Index := Scalar.indexCast v15
  let c384 : Index := 384#32
  ![0, v97.toNat, 384]
def k0_off8 (k0_t1 : Fin k0_t1_loop.trips) : Fin 3 → Nat :=
  let c0_88 : Index := 0#32
  let c7_i32 : BitVec 32 := 7#32
  let c0_i32_1 : BitVec 32 := 0#32
  let c1_i32 : BitVec 32 := 1#32
  let arg12 : BitVec 32 := Scf.iv c0_i32_1 c1_i32 k0_t1
  let v16 : BitVec 32 := Scalar.subi c7_i32 arg12
  let c64_i32_3 : BitVec 32 := 64#32
  let v17 : BitVec 32 := Scalar.muli v16 c64_i32_3
  let v18 : BitVec 32 := v17
  let v110 : Index := Scalar.indexCast v18
  let c384_89 : Index := 384#32
  ![0, v110.toNat, 384]
def k0_off9 (k0_t1 : Fin k0_t1_loop.trips) : Fin 3 → Nat :=
  let c0_101 : Index := 0#32
  let c0_i32_1 : BitVec 32 := 0#32
  let c1_i32 : BitVec 32 := 1#32
  let arg12 : BitVec 32 := Scf.iv c0_i32_1 c1_i32 k0_t1
  let c64_i32 : BitVec 32 := 64#32
  let v14 : BitVec 32 := Scalar.muli arg12 c64_i32
  let v15 : BitVec 32 := v14
  let v123 : Index := Scalar.indexCast v15
  let c512 : Index := 512#32
  ![0, v123.toNat, 512]
def k0_off10 (k0_t1 : Fin k0_t1_loop.trips) : Fin 3 → Nat :=
  let c0_112 : Index := 0#32
  let c7_i32 : BitVec 32 := 7#32
  let c0_i32_1 : BitVec 32 := 0#32
  let c1_i32 : BitVec 32 := 1#32
  let arg12 : BitVec 32 := Scf.iv c0_i32_1 c1_i32 k0_t1
  let v16 : BitVec 32 := Scalar.subi c7_i32 arg12
  let c64_i32_3 : BitVec 32 := 64#32
  let v17 : BitVec 32 := Scalar.muli v16 c64_i32_3
  let v18 : BitVec 32 := v17
  let v136 : Index := Scalar.indexCast v18
  let c512_113 : Index := 512#32
  ![0, v136.toNat, 512]
def k0_off11 (k0_t1 : Fin k0_t1_loop.trips) : Fin 3 → Nat :=
  let c0_125 : Index := 0#32
  let c0_i32_1 : BitVec 32 := 0#32
  let c1_i32 : BitVec 32 := 1#32
  let arg12 : BitVec 32 := Scf.iv c0_i32_1 c1_i32 k0_t1
  let c64_i32 : BitVec 32 := 64#32
  let v14 : BitVec 32 := Scalar.muli arg12 c64_i32
  let v15 : BitVec 32 := v14
  let v149 : Index := Scalar.indexCast v15
  let c640 : Index := 640#32
  ![0, v149.toNat, 640]
def k0_off12 (k0_t1 : Fin k0_t1_loop.trips) : Fin 3 → Nat :=
  let c0_136 : Index := 0#32
  let c7_i32 : BitVec 32 := 7#32
  let c0_i32_1 : BitVec 32 := 0#32
  let c1_i32 : BitVec 32 := 1#32
  let arg12 : BitVec 32 := Scf.iv c0_i32_1 c1_i32 k0_t1
  let v16 : BitVec 32 := Scalar.subi c7_i32 arg12
  let c64_i32_3 : BitVec 32 := 64#32
  let v17 : BitVec 32 := Scalar.muli v16 c64_i32_3
  let v18 : BitVec 32 := v17
  let v162 : Index := Scalar.indexCast v18
  let c640_137 : Index := 640#32
  ![0, v162.toNat, 640]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c1_i32 : BitVec 32 := 1#32
  let c0_i32 : BitVec 32 := 0#32
  ![arg0.toNat, v0.toNat, c1_i32.toNat]

def cc0_transform_5 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c4_i32 : BitVec 32 := 4#32
  let c0_i32 : BitVec 32 := 0#32
  ![arg0.toNat, v0.toNat, c4_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2x1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ScanRefIdeal.lean ====
abbrev S4x8192x4096 : Shape := ⟨3, ![4, 8192, 4096]⟩
abbrev S2x1x768 : Shape := ⟨3, ![2, 1, 768]⟩
abbrev S4x8192x3840 : Shape := ⟨3, ![4, 8192, 3840]⟩
abbrev S4x8192x768 : Shape := ⟨3, ![4, 8192, 768]⟩
abbrev S2x1x1x768 : Shape := ⟨4, ![2, 1, 1, 768]⟩
abbrev S1x4x8192x768 : Shape := ⟨4, ![1, 4, 8192, 768]⟩
abbrev S2x4x8192x768 : Shape := ⟨4, ![2, 4, 8192, 768]⟩
abbrev S_ : Shape := ⟨0, ![]⟩
abbrev S64x64 : Shape := ⟨2, ![64, 64]⟩
abbrev S8x6x128x128 : Shape := ⟨4, ![8, 6, 128, 128]⟩
abbrev S8x128x64x6x128 : Shape := ⟨5, ![8, 128, 64, 6, 128]⟩
abbrev S128x8x6x64x128 : Shape := ⟨5, ![128, 8, 6, 64, 128]⟩
abbrev S1x8x6x64x128 : Shape := ⟨5, ![1, 8, 6, 64, 128]⟩
abbrev S8x6x64x128 : Shape := ⟨4, ![8, 6, 64, 128]⟩
abbrev S64x64x1 : Shape := ⟨3, ![64, 64, 1]⟩
abbrev S8x6x64x1x128 : Shape := ⟨5, ![8, 6, 64, 1, 128]⟩
abbrev S8x6x1x64x128 : Shape := ⟨5, ![8, 6, 1, 64, 128]⟩
abbrev S8x6x64x64x128 : Shape := ⟨5, ![8, 6, 64, 64, 128]⟩
abbrev S8x6x64x64 : Shape := ⟨4, ![8, 6, 64, 64]⟩
abbrev S8x6x1x128 : Shape := ⟨4, ![8, 6, 1, 128]⟩
abbrev S8x6x128 : Shape := ⟨3, ![8, 6, 128]⟩
abbrev S8x6x128x1 : Shape := ⟨4, ![8, 6, 128, 1]⟩

abbrev nBuf : Space → Nat
  | .hbm => 181
  | .vmem => 0
  | .smem => 0
  | _ => 0

abbrev hbmTy0_0 (i : Nat) : BufTy := match i % 128 with
  | 0 => ⟨S4x8192x4096, .f32⟩
  | 1 => ⟨S2x1x768, .f32⟩
  | 2 => ⟨S4x8192x3840, .f32⟩
  | 3 => ⟨S4x8192x768, .f32⟩
  | 4 => ⟨S4x8192x768, .f32⟩
  | 5 => ⟨S4x8192x768, .f32⟩
  | 6 => ⟨S4x8192x768, .f32⟩
  | 7 => ⟨S4x8192x768, .f32⟩
  | 8 => ⟨S2x1x1x768, .f32⟩
  | 9 => ⟨S4x8192x768, .f32⟩
  | 10 => ⟨S1x4x8192x768, .f32⟩
  | 11 => ⟨S1x4x8192x768, .f32⟩
  | 12 => ⟨S2x4x8192x768, .f32⟩
  | 13 => ⟨S2x1x1x768, .f32⟩
  | 14 => ⟨S2x1x1x768, .f32⟩
  | 15 => ⟨S2x1x1x768, .f32⟩
  | 16 => ⟨S2x4x8192x768, .f32⟩
  | 17 => ⟨S_, .f32⟩
  | 18 => ⟨S2x4x8192x768, .f32⟩
  | 19 => ⟨S2x4x8192x768, .f32⟩
  | 20 => ⟨S2x4x8192x768, .f32⟩
  | 21 => ⟨S2x4x8192x768, .f32⟩
  | 22 => ⟨S2x4x8192x768, .i1⟩
  | 23 => ⟨S2x4x8192x768, .f32⟩
  | 24 => ⟨S2x4x8192x768, .f32⟩
  | 25 => ⟨S2x4x8192x768, .f32⟩
  | 26 => ⟨S2x4x8192x768, .f32⟩
  | 27 => ⟨S2x4x8192x768, .f32⟩
  | 28 => ⟨S2x4x8192x768, .f32⟩
  | 29 => ⟨S2x4x8192x768, .f32⟩
  | 30 => ⟨S2x4x8192x768, .f32⟩
  | 31 => ⟨S2x4x8192x768, .f32⟩
  | 32 => ⟨S2x4x8192x768, .f32⟩
  | 33 => ⟨S2x4x8192x768, .f32⟩
  | 34 => ⟨S2x4x8192x768, .f32⟩
  | 35 => ⟨S2x4x8192x768, .f32⟩
  | 36 => ⟨S2x4x8192x768, .f32⟩
  | 37 => ⟨S2x4x8192x768, .i1⟩
  | 38 => ⟨S2x4x8192x768, .f32⟩
  | 39 => ⟨S2x4x8192x768, .f32⟩
  | 40 => ⟨S2x4x8192x768, .f32⟩
  | 41 => ⟨S2x4x8192x768, .f32⟩
  | 42 => ⟨S2x4x8192x768, .f32⟩
  | 43 => ⟨S2x4x8192x768, .f32⟩
  | 44 => ⟨S2x4x8192x768, .f32⟩
  | 45 => ⟨S2x4x8192x768, .f32⟩
  | 46 => ⟨S2x4x8192x768, .f32⟩
  | 47 => ⟨S2x4x8192x768, .f32⟩
  | 48 => ⟨S4x8192x768, .f32⟩
  | 49 => ⟨S1x4x8192x768, .f32⟩
  | 50 => ⟨S1x4x8192x768, .f32⟩
  | 51 => ⟨S2x4x8192x768, .f32⟩
  | 52 => ⟨S2x4x8192x768, .f32⟩
  | 53 => ⟨S2x4x8192x768, .f32⟩
  | 54 => ⟨S_, .f32⟩
  | 55 => ⟨S2x4x8192x768, .f32⟩
  | 56 => ⟨S2x4x8192x768, .f32⟩
  | 57 => ⟨S_, .f32⟩
  | 58 => ⟨S2x4x8192x768, .f32⟩
  | 59 => ⟨S2x4x8192x768, .f32⟩
  | 60 => ⟨S2x4x8192x768, .f32⟩
  | 61 => ⟨S_, .f32⟩
  | 62 => ⟨S2x4x8192x768, .f32⟩
  | 63 => ⟨S2x4x8192x768, .f32⟩
  | 64 => ⟨S4x8192x768, .f32⟩
  | 65 => ⟨S1x4x8192x768, .f32⟩
  | 66 => ⟨S1x4x8192x768, .f32⟩
  | 67 => ⟨S2x4x8192x768, .f32⟩
  | 68 => ⟨S_, .i1⟩
  | 69 => ⟨S64x64, .i1⟩
  | 70 => ⟨S64x64, .i32⟩
  | 71 => ⟨S_, .i32⟩
  | 72 => ⟨S64x64, .i32⟩
  | 73 => ⟨S64x64, .i32⟩
  | 74 => ⟨S64x64, .i32⟩
  | 75 => ⟨S64x64, .i1⟩
  | 76 => ⟨S_, .i1⟩
  | 77 => ⟨S64x64, .i1⟩
  | 78 => ⟨S64x64, .i1⟩
  | 79 => ⟨S_, .f32⟩
  | 80 => ⟨S8x6x128x128, .f32⟩
  | 81 => ⟨S8x128x64x6x128, .f32⟩
  | 82 => ⟨S128x8x6x64x128, .f32⟩
  | 83 => ⟨S8x128x64x6x128, .f32⟩
  | 84 => ⟨S128x8x6x64x128, .f32⟩
  | 85 => ⟨S8x128x64x6x128, .f32⟩
  | 86 => ⟨S128x8x6x64x128, .f32⟩
  | 87 => ⟨S8x128x64x6x128, .f32⟩
  | 88 => ⟨S128x8x6x64x128, .f32⟩
  | 89 => ⟨S_, .f32⟩
  | 90 => ⟨S128x8x6x64x128, .f32⟩
  | 91 => ⟨S_, .i32⟩
  | 92 => ⟨S128x8x6x64x128, .f32⟩
  | 93 => ⟨S128x8x6x64x128, .f32⟩
  | 94 => ⟨S128x8x6x64x128, .f32⟩
  | 95 => ⟨S128x8x6x64x128, .f32⟩
  | 96 => ⟨S64x64, .i1⟩
  | 97 => ⟨S_, .i32⟩
  | 98 => ⟨S8x6x128x128, .f32⟩
  | 99 => ⟨S128x8x6x64x128, .f32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S1x8x6x64x128, .f32⟩
  | 107 => ⟨S8x6x64x128, .f32⟩
  | 108 => ⟨S_, .i32⟩
  | 109 => ⟨S_, .i32⟩
  | 110 => ⟨S_, .i32⟩
  | 111 => ⟨S_, .i32⟩
  | 112 => ⟨S1x8x6x64x128, .f32⟩
  | 113 => ⟨S8x6x64x128, .f32⟩
  | 114 => ⟨S_, .i32⟩
  | 115 => ⟨S_, .i32⟩
  | 116 => ⟨S_, .i32⟩
  | 117 => ⟨S_, .i32⟩
  | 118 => ⟨S1x8x6x64x128, .f32⟩
  | 119 => ⟨S8x6x64x128, .f32⟩
  | 120 => ⟨S_, .i32⟩
  | 121 => ⟨S_, .i32⟩
  | 122 => ⟨S_, .i32⟩
  | 123 => ⟨S_, .i32⟩
  | 124 => ⟨S1x8x6x64x128, .f32⟩
  | 125 => ⟨S8x6x64x128, .f32⟩
  | 126 => ⟨S_, .f32⟩
  | 127 => ⟨S_, .f32⟩
  | _ => ⟨S4x8192x4096, .f32⟩

abbrev hbmTy0_1 (i : Nat) : BufTy := match i % 128 with
  | 0 => ⟨S8x6x64x128, .f32⟩
  | 1 => ⟨S64x64x1, .i1⟩
  | 2 => ⟨S8x6x64x1x128, .f32⟩
  | 3 => ⟨S8x6x1x64x128, .f32⟩
  | 4 => ⟨S8x6x64x64x128, .f32⟩
  | 5 => ⟨S8x6x64x64x128, .f32⟩
  | 6 => ⟨S8x6x64x64x128, .f32⟩
  | 7 => ⟨S_, .f32⟩
  | 8 => ⟨S_, .f32⟩
  | 9 => ⟨S8x6x64x64x128, .i1⟩
  | 10 => ⟨S8x6x64x64x128, .f32⟩
  | 11 => ⟨S8x6x64x64x128, .f32⟩
  | 12 => ⟨S8x6x64x1x128, .f32⟩
  | 13 => ⟨S8x6x64x64x128, .f32⟩
  | 14 => ⟨S8x6x64x64x128, .f32⟩
  | 15 => ⟨S8x6x64x64x128, .f32⟩
  | 16 => ⟨S8x6x1x64x128, .f32⟩
  | 17 => ⟨S8x6x64x64x128, .f32⟩
  | 18 => ⟨S8x6x64x64x128, .f32⟩
  | 19 => ⟨S_, .f32⟩
  | 20 => ⟨S8x6x64x64, .f32⟩
  | 21 => ⟨S8x6x64x128, .f32⟩
  | 22 => ⟨S8x6x64x128, .f32⟩
  | 23 => ⟨S8x6x64x128, .f32⟩
  | 24 => ⟨S8x6x64x128, .f32⟩
  | 25 => ⟨S8x6x64x128, .f32⟩
  | 26 => ⟨S8x6x1x128, .f32⟩
  | 27 => ⟨S8x6x128, .f32⟩
  | 28 => ⟨S8x6x128, .f32⟩
  | 29 => ⟨S8x6x128x1, .f32⟩
  | 30 => ⟨S8x6x128x128, .f32⟩
  | 31 => ⟨S8x6x128x128, .f32⟩
  | 32 => ⟨S8x6x64x128, .f32⟩
  | 33 => ⟨S8x6x64x128, .f32⟩
  | 34 => ⟨S8x6x64x128, .f32⟩
  | 35 => ⟨S8x6x64x128, .f32⟩
  | 36 => ⟨S8x6x128x128, .f32⟩
  | 37 => ⟨S8x6x128x128, .f32⟩
  | 38 => ⟨S1x8x6x64x128, .f32⟩
  | 39 => ⟨S_, .i32⟩
  | 40 => ⟨S_, .i32⟩
  | 41 => ⟨S_, .i32⟩
  | 42 => ⟨S_, .i32⟩
  | 43 => ⟨S128x8x6x64x128, .f32⟩
  | 44 => ⟨S_, .i32⟩
  | 45 => ⟨S_, .i32⟩
  | 46 => ⟨S8x128x64x6x128, .f32⟩
  | 47 => ⟨S2x4x8192x768, .f32⟩
  | 48 => ⟨S1x4x8192x768, .f32⟩
  | 49 => ⟨S4x8192x768, .f32⟩
  | 50 => ⟨S1x4x8192x768, .f32⟩
  | 51 => ⟨S4x8192x768, .f32⟩
  | 52 => ⟨S4x8192x768, .f32⟩
  | _ => ⟨S4x8192x4096, .f32⟩

abbrev hbmTy (i : Nat) : BufTy := match i / 128 with
  | 0 => hbmTy0_0 i
  | 1 => hbmTy0_1 i
  | _ => ⟨S4x8192x4096, .f32⟩

abbrev bufTy : (tb : Table) → Fin (tcTables nBuf tb) → BufTy
  | .hbm, ⟨i, _⟩ => hbmTy i
  | _, _ => ⟨S4x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v49 : Ref sig .tc := ⟨.hbm, 60, rfl⟩
abbrev main_cst_0 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_c : Ref sig .tc := ⟨.hbm, 68, rfl⟩
abbrev main_v56 : Ref sig .tc := ⟨.hbm, 69, rfl⟩
abbrev main_call4_v0 : Ref sig .tc := ⟨.hbm, 70, rfl⟩
abbrev main_call4_c : Ref sig .tc := ⟨.hbm, 71, rfl⟩
abbrev main_call4_v1 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_call4_c_0 : Ref sig .tc := ⟨.hbm, 76, rfl⟩
abbrev main_call4_v5 : Ref sig .tc := ⟨.hbm, 77, rfl⟩
abbrev main_v57 : Ref sig .tc := ⟨.hbm, 78, rfl⟩
abbrev main_cst_1 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_2 : Ref sig .tc := ⟨.hbm, 89, rfl⟩
abbrev main_v67 : Ref sig .tc := ⟨.hbm, 90, rfl⟩
abbrev main_c_3 : Ref sig .tc := ⟨.hbm, 91, rfl⟩
abbrev main_v68_0 : Ref sig .tc := ⟨.hbm, 92, rfl⟩
abbrev main_v68_1 : Ref sig .tc := ⟨.hbm, 93, rfl⟩
abbrev main_v68_2 : Ref sig .tc := ⟨.hbm, 94, rfl⟩
abbrev main_v68_3 : Ref sig .tc := ⟨.hbm, 95, rfl⟩
abbrev main_v68_4 : Ref sig .tc := ⟨.hbm, 96, rfl⟩
abbrev main_v68_5 : Ref sig .tc := ⟨.hbm, 97, rfl⟩
abbrev main_v68_6 : Ref sig .tc := ⟨.hbm, 98, rfl⟩
abbrev main_v68_7 : Ref sig .tc := ⟨.hbm, 99, rfl⟩
abbrev main_while0c_c_11 : Ref sig .tc := ⟨.hbm, 100, rfl⟩
abbrev main_while0c_v76 : Ref sig .tc := ⟨.hbm, 101, rfl⟩
abbrev main_while0b_call5_c : Ref sig .tc := ⟨.hbm, 102, rfl⟩
abbrev main_while0b_call5_c_0 : Ref sig .tc := ⟨.hbm, 103, rfl⟩
abbrev main_while0b_call5_c_1 : Ref sig .tc := ⟨.hbm, 104, rfl⟩
abbrev main_while0b_call5_c_2 : Ref sig .tc := ⟨.hbm, 105, rfl⟩
abbrev main_while0b_call5_v0 : Ref sig .tc := ⟨.hbm, 106, rfl⟩
abbrev main_while0b_v76 : Ref sig .tc := ⟨.hbm, 107, rfl⟩
abbrev main_while0b_call6_c : Ref sig .tc := ⟨.hbm, 108, rfl⟩
abbrev main_while0b_call6_c_0 : Ref sig .tc := ⟨.hbm, 109, rfl⟩
abbrev main_while0b_call6_c_1 : Ref sig .tc := ⟨.hbm, 110, rfl⟩
abbrev main_while0b_call6_c_2 : Ref sig .tc := ⟨.hbm, 111, rfl⟩
abbrev main_while0b_call6_v0 : Ref sig .tc := ⟨.hbm, 112, rfl⟩
abbrev main_while0b_v77 : Ref sig .tc := ⟨.hbm, 113, rfl⟩
abbrev main_while0b_call7_c : Ref sig .tc := ⟨.hbm, 114, rfl⟩
abbrev main_while0b_call7_c_0 : Ref sig .tc := ⟨.hbm, 115, rfl⟩
abbrev main_while0b_call7_c_1 : Ref sig .tc := ⟨.hbm, 116, rfl⟩
abbrev main_while0b_call7_c_2 : Ref sig .tc := ⟨.hbm, 117, rfl⟩
abbrev main_while0b_call7_v0 : Ref sig .tc := ⟨.hbm, 118, rfl⟩
abbrev main_while0b_v78 : Ref sig .tc := ⟨.hbm, 119, rfl⟩
abbrev main_while0b_call8_c : Ref sig .tc := ⟨.hbm, 120, rfl⟩
abbrev main_while0b_call8_c_0 : Ref sig .tc := ⟨.hbm, 121, rfl⟩
abbrev main_while0b_call8_c_1 : Ref sig .tc := ⟨.hbm, 122, rfl⟩
abbrev main_while0b_call8_c_2 : Ref sig .tc := ⟨.hbm, 123, rfl⟩
abbrev main_while0b_call8_v0 : Ref sig .tc := ⟨.hbm, 124, rfl⟩
abbrev main_while0b_v79 : Ref sig .tc := ⟨.hbm, 125, rfl⟩
abbrev main_while0b_call9_call0_cst : Ref sig .tc := ⟨.hbm, 126, rfl⟩
abbrev main_while0b_call9_call0_v0 : Ref sig .tc := ⟨.hbm, 127, rfl⟩
abbrev main_while0b_v80 : Ref sig .tc := ⟨.hbm, 128, rfl⟩
abbrev main_while0b_v81 : Ref sig .tc := ⟨.hbm, 129, rfl⟩
abbrev main_while0b_v82 : Ref sig .tc := ⟨.hbm, 130, rfl⟩
abbrev main_while0b_v83 : Ref sig .tc := ⟨.hbm, 131, rfl⟩
abbrev main_while0b_v84 : Ref sig .tc := ⟨.hbm, 132, rfl⟩
abbrev main_while0b_v85 : Ref sig .tc := ⟨.hbm, 133, rfl⟩
abbrev main_while0b_v86 : Ref sig .tc := ⟨.hbm, 134, rfl⟩
abbrev main_while0b_cst_11 : Ref sig .tc := ⟨.hbm, 135, rfl⟩
abbrev main_while0b_call10_v0 : Ref sig .tc := ⟨.hbm, 136, rfl⟩
abbrev main_while0b_call10_v1 : Ref sig .tc := ⟨.hbm, 137, rfl⟩
abbrev main_while0b_call10_v2 : Ref sig .tc := ⟨.hbm, 138, rfl⟩
abbrev main_while0b_v87 : Ref sig .tc := ⟨.hbm, 139, rfl⟩
abbrev main_while0b_v88 : Ref sig .tc := ⟨.hbm, 140, rfl⟩
abbrev main_while0b_v89 : Ref sig .tc := ⟨.hbm, 141, rfl⟩
abbrev main_while0b_v90 : Ref sig .tc := ⟨.hbm, 142, rfl⟩
abbrev main_while0b_v91 : Ref sig .tc := ⟨.hbm, 143, rfl⟩
abbrev main_while0b_v92 : Ref sig .tc := ⟨.hbm, 144, rfl⟩
abbrev main_while0b_v93 : Ref sig .tc := ⟨.hbm, 145, rfl⟩
abbrev main_while0b_v94 : Ref sig .tc := ⟨.hbm, 146, rfl⟩
abbrev main_while0b_cst_12 : Ref sig .tc := ⟨.hbm, 147, rfl⟩
abbrev main_while0b_v95 : Ref sig .tc := ⟨.hbm, 148, rfl⟩
abbrev main_while0b_v96 : Ref sig .tc := ⟨.hbm, 149, rfl⟩
abbrev main_while0b_v97 : Ref sig .tc := ⟨.hbm, 150, rfl⟩
abbrev main_while0b_v98 : Ref sig .tc := ⟨.hbm, 151, rfl⟩
abbrev main_while0b_v99 : Ref sig .tc := ⟨.hbm, 152, rfl⟩
abbrev main_while0b_v100 : Ref sig .tc := ⟨.hbm, 153, rfl⟩
abbrev main_while0b_v101 : Ref sig .tc := ⟨.hbm, 154, rfl⟩
abbrev main_while0b_v102 : Ref sig .tc := ⟨.hbm, 155, rfl⟩
abbrev main_while0b_v103 : Ref sig .tc := ⟨.hbm, 156, rfl⟩
abbrev main_while0b_v104 : Ref sig .tc := ⟨.hbm, 157, rfl⟩
abbrev main_while0b_v105 : Ref sig .tc := ⟨.hbm, 158, rfl⟩
abbrev main_while0b_v106 : Ref sig .tc := ⟨.hbm, 159, rfl⟩
abbrev main_while0b_v107 : Ref sig .tc := ⟨.hbm, 160, rfl⟩
abbrev main_while0b_v108 : Ref sig .tc := ⟨.hbm, 161, rfl⟩
abbrev main_while0b_v109 : Ref sig .tc := ⟨.hbm, 162, rfl⟩
abbrev main_while0b_v110 : Ref sig .tc := ⟨.hbm, 163, rfl⟩
abbrev main_while0b_v111 : Ref sig .tc := ⟨.hbm, 164, rfl⟩
abbrev main_while0b_v112 : Ref sig .tc := ⟨.hbm, 165, rfl⟩
abbrev main_while0b_call11_v0 : Ref sig .tc := ⟨.hbm, 166, rfl⟩
abbrev main_while0b_call11_c : Ref sig .tc := ⟨.hbm, 167, rfl⟩
abbrev main_while0b_call11_c_0 : Ref sig .tc := ⟨.hbm, 168, rfl⟩
abbrev main_while0b_call11_c_1 : Ref sig .tc := ⟨.hbm, 169, rfl⟩
abbrev main_while0b_call11_c_2 : Ref sig .tc := ⟨.hbm, 170, rfl⟩
abbrev main_while0b_v113 : Ref sig .tc := ⟨.hbm, 171, rfl⟩
abbrev main_while0b_c_13 : Ref sig .tc := ⟨.hbm, 172, rfl⟩
abbrev main_while0b_v114 : Ref sig .tc := ⟨.hbm, 173, rfl⟩
abbrev main_v69 : Ref sig .tc := ⟨.hbm, 174, rfl⟩
abbrev main_v70 : Ref sig .tc := ⟨.hbm, 175, rfl⟩
abbrev main_v71 : Ref sig .tc := ⟨.hbm, 176, rfl⟩
abbrev main_v72 : Ref sig .tc := ⟨.hbm, 177, rfl⟩
abbrev main_v73 : Ref sig .tc := ⟨.hbm, 178, rfl⟩
abbrev main_v74 : Ref sig .tc := ⟨.hbm, 179, rfl⟩
abbrev main_v75 : Ref sig .tc := ⟨.hbm, 180, rfl⟩

abbrev nD : Nat := 1
abbrev τ : Topo := Topo.v7x

variable {F : FTy → Type} [FloatOps F]

abbrev main_while0_count : Scf.Loop 32 := ⟨0#32, 128#32, 1#32⟩
-- ==== Finish.lean ====
abbrev S32768x768 : Shape := ⟨2, ![32768, 768]⟩
abbrev S32768x4096 : Shape := ⟨2, ![32768, 4096]⟩
abbrev S1x768 : Shape := ⟨2, ![1, 768]⟩
abbrev S512x768 : Shape := ⟨2, ![512, 768]⟩
abbrev S512x128 : Shape := ⟨2, ![512, 128]⟩
abbrev S512 : Shape := ⟨1, ![512]⟩
abbrev S512x1 : Shape := ⟨2, ![512, 1]⟩
abbrev S1x128 : Shape := ⟨2, ![1, 128]⟩

abbrev nBuf : Space → Nat
  | .hbm => 5
  | .vmem => 9
  | .smem => 0
  | _ => 0

abbrev bufTy : (tb : Table) → Fin (tcTables nBuf tb) → BufTy
  | .hbm, ⟨0, _⟩ => ⟨S32768x768, .f32⟩
  | .hbm, ⟨1, _⟩ => ⟨S32768x768, .f32⟩
  | .hbm, ⟨2, _⟩ => ⟨S32768x4096, .f32⟩
  | .hbm, ⟨3, _⟩ => ⟨S1x768, .f32⟩
  | .hbm, ⟨4, _⟩ => ⟨S32768x768, .bf16⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S1x768, .f32⟩
  | .local _ .vmem, ⟨7, _⟩ => ⟨S512x768, .bf16⟩
  | .local _ .vmem, ⟨8, _⟩ => ⟨S512x768, .bf16⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinishRefIdeal.lean ====
abbrev S32768x768 : Shape := ⟨2, ![32768, 768]⟩
abbrev S32768x4096 : Shape := ⟨2, ![32768, 4096]⟩
abbrev S1x768 : Shape := ⟨2, ![1, 768]⟩
abbrev S32768x6x128 : Shape := ⟨3, ![32768, 6, 128]⟩
abbrev S_ : Shape := ⟨0, ![]⟩
abbrev S32768x6 : Shape := ⟨2, ![32768, 6]⟩
abbrev S32768x6x1 : Shape := ⟨3, ![32768, 6, 1]⟩
abbrev S6x128 : Shape := ⟨2, ![6, 128]⟩
abbrev S1x6x128 : Shape := ⟨3, ![1, 6, 128]⟩

abbrev nBuf : Space → Nat
  | .hbm => 36
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S32768x768, .f32⟩
  | .hbm, ⟨2, _⟩ => ⟨S32768x4096, .f32⟩
  | .hbm, ⟨3, _⟩ => ⟨S1x768, .f32⟩
  | .hbm, ⟨4, _⟩ => ⟨S32768x768, .f32⟩
  | .hbm, ⟨5, _⟩ => ⟨S32768x6x128, .f32⟩
  | .hbm, ⟨6, _⟩ => ⟨S32768x6x128, .f32⟩
  | .hbm, ⟨7, _⟩ => ⟨S_, .f32⟩
  | .hbm, ⟨8, _⟩ => ⟨S32768x6, .f32⟩
  | .hbm, ⟨9, _⟩ => ⟨S32768x6x1, .f32⟩
  | .hbm, ⟨10, _⟩ => ⟨S_, .f32⟩
  | .hbm, ⟨11, _⟩ => ⟨S32768x6x1, .f32⟩
  | .hbm, ⟨12, _⟩ => ⟨S32768x6x1, .f32⟩
  | .hbm, ⟨13, _⟩ => ⟨S_, .f32⟩
  | .hbm, ⟨14, _⟩ => ⟨S32768x6x1, .f32⟩
  | .hbm, ⟨15, _⟩ => ⟨S32768x6x1, .f32⟩
  | .hbm, ⟨16, _⟩ => ⟨S32768x6x1, .f32⟩
  | .hbm, ⟨17, _⟩ => ⟨S32768x6x128, .f32⟩
  | .hbm, ⟨18, _⟩ => ⟨S32768x6x128, .f32⟩
  | .hbm, ⟨19, _⟩ => ⟨S6x128, .f32⟩
  | .hbm, ⟨20, _⟩ => ⟨S1x6x128, .f32⟩
  | .hbm, ⟨21, _⟩ => ⟨S32768x6x128, .f32⟩
  | .hbm, ⟨22, _⟩ => ⟨S32768x6x128, .f32⟩
  | .hbm, ⟨23, _⟩ => ⟨S32768x768, .f32⟩
  | .hbm, ⟨24, _⟩ => ⟨S32768x768, .f32⟩
  | .hbm, ⟨25, _⟩ => ⟨S32768x768, .f32⟩
  | .hbm, ⟨26, _⟩ => ⟨S32768x768, .f32⟩
  | .hbm, ⟨27, _⟩ => ⟨S_, .f32⟩
  | .hbm, ⟨28, _⟩ => ⟨S32768x768, .f32⟩
  | .hbm, ⟨29, _⟩ => ⟨S32768x768, .f32⟩
  | .hbm, ⟨30, _⟩ => ⟨S_, .f32⟩
  | .hbm, ⟨31, _⟩ => ⟨S32768x768, .f32⟩
  | .hbm, ⟨32, _⟩ => ⟨S32768x768, .f32⟩
  | .hbm, ⟨33, _⟩ => ⟨S32768x768, .f32⟩
  | .hbm, ⟨34, _⟩ => ⟨S32768x768, .f32⟩
  | .hbm, ⟨35, _⟩ => ⟨S32768x768, .bf16⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Proj.lean ====
abbrev S32768x1024 : Shape := ⟨2, ![32768, 1024]⟩
abbrev S1024x2560 : Shape := ⟨2, ![1024, 2560]⟩
abbrev S32768x2560 : Shape := ⟨2, ![32768, 2560]⟩
abbrev S512x1024 : Shape := ⟨2, ![512, 1024]⟩
abbrev S512x2560 : Shape := ⟨2, ![512, 2560]⟩

abbrev nBuf : Space → Nat
  | .hbm => 3
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x2560, .bf16⟩
  | .hbm, ⟨2, _⟩ => ⟨S32768x2560, .bf16⟩
  | .local _ .vmem, ⟨0, _⟩ => ⟨S512x1024, .f32⟩
  | .local _ .vmem, ⟨1, _⟩ => ⟨S512x1024, .f32⟩
  | .local _ .vmem, ⟨2, _⟩ => ⟨S1024x2560, .bf16⟩
  | .local _ .vmem, ⟨3, _⟩ => ⟨S512x2560, .bf16⟩
  | .local _ .vmem, ⟨4, _⟩ => ⟨S512x2560, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjRefIdeal.lean ====
abbrev S32768x1024 : Shape := ⟨2, ![32768, 1024]⟩
abbrev S1024x2560 : Shape := ⟨2, ![1024, 2560]⟩
abbrev S32768x2560 : Shape := ⟨2, ![32768, 2560]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2560, .bf16⟩
  | .hbm, ⟨2, _⟩ => ⟨S1024x2560, .f32⟩
  | .hbm, ⟨3, _⟩ => ⟨S32768x2560, .f32⟩
  | .hbm, ⟨4, _⟩ => ⟨S32768x2560, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Wide.lean ====
abbrev S32768x1024 : Shape := ⟨2, ![32768, 1024]⟩
abbrev S1024x4096 : Shape := ⟨2, ![1024, 4096]⟩
abbrev S32768x4096 : Shape := ⟨2, ![32768, 4096]⟩
abbrev S512x1024 : Shape := ⟨2, ![512, 1024]⟩
abbrev S512x4096 : Shape := ⟨2, ![512, 4096]⟩

abbrev nBuf : Space → Nat
  | .hbm => 3
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x4096, .bf16⟩
  | .hbm, ⟨2, _⟩ => ⟨S32768x4096, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S512x4096, .f32⟩
  | .local _ .vmem, ⟨4, _⟩ => ⟨S512x4096, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WideRefIdeal.lean ====
abbrev S32768x1024 : Shape := ⟨2, ![32768, 1024]⟩
abbrev S1024x4096 : Shape := ⟨2, ![1024, 4096]⟩
abbrev S32768x4096 : Shape := ⟨2, ![32768, 4096]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x4096, .bf16⟩
  | .hbm, ⟨2, _⟩ => ⟨S1024x4096, .f32⟩
  | .hbm, ⟨3, _⟩ => ⟨S32768x4096, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutLn.lean ====
abbrev S32768x1024 : Shape := ⟨2, ![32768, 1024]⟩
abbrev S32768x768 : Shape := ⟨2, ![32768, 768]⟩
abbrev S4x8192x2560 : Shape := ⟨3, ![4, 8192, 2560]⟩
abbrev S4x256x512 : Shape := ⟨3, ![4, 256, 512]⟩
abbrev S1024x1024 : Shape := ⟨2, ![1024, 1024]⟩
abbrev S1x1024 : Shape := ⟨2, ![1, 1024]⟩
abbrev S512x1024 : Shape := ⟨2, ![512, 1024]⟩
abbrev S512x768 : Shape := ⟨2, ![512, 768]⟩
abbrev S1x512x256 : Shape := ⟨3, ![1, 512, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S256x1 : Shape := ⟨2, ![256, 1]⟩
abbrev S256x768 : Shape := ⟨2, ![256, 768]⟩
abbrev S768x1024 : Shape := ⟨2, ![768, 1024]⟩
abbrev S256x1024 : Shape := ⟨2, ![256, 1024]⟩

abbrev nBuf : Space → Nat
  | .hbm => 8
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768x768, .bf16⟩
  | .hbm, ⟨2, _⟩ => ⟨S4x8192x2560, .bf16⟩
  | .hbm, ⟨3, _⟩ => ⟨S4x256x512, .bf16⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x768, .bf16⟩
  | .local _ .vmem, ⟨3, _⟩ => ⟨S512x768, .bf16⟩
  | .local _ .vmem, ⟨4, _⟩ => ⟨S1x512x256, .bf16⟩
  | .local _ .vmem, ⟨5, _⟩ => ⟨S1x512x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutLnRefIdeal.lean ====
abbrev S32768x1024 : Shape := ⟨2, ![32768, 1024]⟩
abbrev S32768x768 : Shape := ⟨2, ![32768, 768]⟩
abbrev S4x8192x2560 : Shape := ⟨3, ![4, 8192, 2560]⟩
abbrev S4x256x512 : Shape := ⟨3, ![4, 256, 512]⟩
abbrev S1024x1024 : Shape := ⟨2, ![1024, 1024]⟩
abbrev S1x1024 : Shape := ⟨2, ![1, 1024]⟩
abbrev S4x256x256 : Shape := ⟨3, ![4, 256, 256]⟩
abbrev S4x8192x256 : Shape := ⟨3, ![4, 8192, 256]⟩
abbrev S4x8192x4x64 : Shape := ⟨4, ![4, 8192, 4, 64]⟩
abbrev S_ : Shape := ⟨0, ![]⟩
abbrev S4x256x4x64 : Shape := ⟨4, ![4, 256, 4, 64]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x64x8192 : Shape := ⟨4, ![4, 4, 64, 8192]⟩
abbrev S32768x256 : Shape := ⟨2, ![32768, 256]⟩
abbrev S32768 : Shape := ⟨1, ![32768]⟩
abbrev S32768x1 : Shape := ⟨2, ![32768, 1]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x768, .bf16⟩
  | .hbm, ⟨2, _⟩ => ⟨S4x8192x2560, .bf16⟩
  | .hbm, ⟨3, _⟩ => ⟨S4x256x512, .bf16⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S4x8192x2560, .f32⟩
  | .hbm, ⟨8, _⟩ => ⟨S4x256x512, .f32⟩
  | .hbm, ⟨9, _⟩ => ⟨S32768x768, .f32⟩
  | .hbm, ⟨10, _⟩ => ⟨S1024x1024, .f32⟩
  | .hbm, ⟨11, _⟩ => ⟨S4x256x256, .f32⟩
  | .hbm, ⟨12, _⟩ => ⟨S4x256x256, .f32⟩
  | .hbm, ⟨13, _⟩ => ⟨S4x8192x256, .f32⟩
  | .hbm, ⟨14, _⟩ => ⟨S4x8192x4x64, .f32⟩
  | .hbm, ⟨15, _⟩ => ⟨S_, .f32⟩
  | .hbm, ⟨16, _⟩ => ⟨S4x8192x4x64, .f32⟩
  | .hbm, ⟨17, _⟩ => ⟨S4x8192x4x64, .f32⟩
  | .hbm, ⟨18, _⟩ => ⟨S4x256x4x64, .f32⟩
  | .hbm, ⟨19, _⟩ => ⟨S4x256x4x64, .f32⟩
  | .hbm, ⟨20, _⟩ => ⟨S4x4x8192x256, .f32⟩
  | .hbm, ⟨21, _⟩ => ⟨S_, .f32⟩
  | .hbm, ⟨22, _⟩ => ⟨S4x4x8192, .f32⟩
  | .hbm, ⟨23, _⟩ => ⟨S_, .f32⟩
  | .hbm, ⟨24, _⟩ => ⟨S4x4x8192, .f32⟩
  | .hbm, ⟨25, _⟩ => ⟨S4x4x8192, .f32⟩
  | .hbm, ⟨26, _⟩ => ⟨S4x4x8192x1, .f32⟩
  | .hbm, ⟨27, _⟩ => ⟨S4x4x8192x256, .f32⟩
  | .hbm, ⟨28, _⟩ => ⟨S4x4x8192x256, .f32⟩
  | .hbm, ⟨29, _⟩ => ⟨S4x4x8192x256, .f32⟩
  | .hbm, ⟨30, _⟩ => ⟨S_, .f32⟩
  | .hbm, ⟨31, _⟩ => ⟨S4x4x8192, .f32⟩
  | .hbm, ⟨32, _⟩ => ⟨S4x4x8192x1, .f32⟩
  | .hbm, ⟨33, _⟩ => ⟨S4x4x8192x256, .f32⟩
  | .hbm, ⟨34, _⟩ => ⟨S4x4x8192x256, .f32⟩
  | .hbm, ⟨35, _⟩ => ⟨S4x4x64x8192, .f32⟩
  | .hbm, ⟨36, _⟩ => ⟨S4x8192x4x64, .f32⟩
  | .hbm, ⟨37, _⟩ => ⟨S32768x256, .f32⟩
  | .hbm, ⟨38, _⟩ => ⟨S_, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S_, .f32⟩
  | .hbm, ⟨54, _⟩ => ⟨S32768, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S_, .f32⟩
  | .hbm, ⟨60, _⟩ => ⟨S32768x1, .f32⟩
  | .hbm, ⟨61, _⟩ => ⟨S32768x1, .f32⟩
  | .hbm, ⟨62, _⟩ => ⟨S32768x1, .f32⟩
  | .hbm, ⟨63, _⟩ => ⟨S32768x1024, .f32⟩
  | .hbm, ⟨64, _⟩ => ⟨S32768x1024, .f32⟩
  | .hbm, ⟨65, _⟩ => ⟨S1024, .f32⟩
  | .hbm, ⟨66, _⟩ => ⟨S1x1024, .f32⟩
  | .hbm, ⟨67, _⟩ => ⟨S32768x1024, .f32⟩
  | .hbm, ⟨68, _⟩ => ⟨S32768x1024, .f32⟩
  | .hbm, ⟨69, _⟩ => ⟨S1024, .f32⟩
  | .hbm, ⟨70, _⟩ => ⟨S1x1024, .f32⟩
  | .hbm, ⟨71, _⟩ => ⟨S32768x1024, .f32⟩
  | .hbm, ⟨72, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Proof.FfnRun.lean ====
/-
  What one run of the feed-forward body leaves in its output block, in a form that can be read: the eleven column
  chunks of the gated hidden layer are one function at eleven offsets, and the two halves of the output rows are one
  function of the half's rows.
-/
module

public import proofs.«01_k».proof.Proof.Gen.FfnIdeal.Value
public import Idealize.ShloMosaic.Lib.Pipeline.Value

@[expose] public section

set_option maxRecDepth 16384

noncomputable section

namespace Cert.FfnIdeal.Body

open Idealize.ShloMosaic Idealize.ShloMosaic.TcCoe Idealize.SL.Sem
open Cert.FfnIdeal Cert.FfnIdeal.Gen

variable {F : FTy → Type} [FloatOps F]

/-- One chunk of 256 columns of the gated hidden layer: `xb` are the tile's rows with sixteen halo rows on either side,
    `wa`, `wv` the two column blocks of the up projection (of the gate and of the value), `ca`, `cv` their columns of
    the three taps. -/
def chunk (xb : FVec F S544x1024 .bf16) (wa wv : Vec F S1024x256 .bf16) (ca cv : Vec F S3x256 .f32) :
    FVec F S512x256 .bf16 :=
  k0_pay9 (k0_pay6 xb wa) (k0_pay7 xb wv) ca (k0_pay8 xb wa ca) cv

/-- 256 columns of the up projection from column `o`. -/
abbrev wcols (W : Vec F S1024x5632 .bf16) (o : ℕ) (h : o + 256 ≤ 5632) : Vec F S1024x256 .bf16 :=
  View.ld W (Rect.unit ![0, o] S1024x256.size (by
    intro a; match a with | ⟨0, _⟩ => exact Nat.le_refl 1024 | ⟨1, _⟩ => exact h))

/-- 256 columns of the three taps from column `o`. -/
abbrev ccols (C : Vec F S3x5632 .f32) (o : ℕ) (h : o + 256 ≤ 5632) : Vec F S3x256 .f32 :=
  View.ld C (Rect.unit ![0, o] S3x256.size (by
    intro a; match a with | ⟨0, _⟩ => exact Nat.le_refl 3 | ⟨1, _⟩ => exact h))

/-- The write of one chunk into the gated scratch, from column `o`. -/
def piece (xb : FVec F S544x1024 .bf16) (W : Vec F S1024x5632 .bf16) (C : Vec F S3x5632 .f32) (o : ℕ) (h : o + 256 ≤ 2816) :
    View.Piece (Elt F) S512x2816 .bf16 :=
  ⟨Rect.unit ![0, o] S512x256.size (by
      intro a; match a with | ⟨0, _⟩ => exact Nat.le_refl 512 | ⟨1, _⟩ => exact h),
    chunk xb (wcols W o (by omega)) (wcols W (2816 + o) (by omega)) (ccols C o (by omega)) (ccols C (2816 + o) (by omega))⟩

/-- All eleven writes, the last first. -/
def pieces (xb : FVec F S544x1024 .bf16) (W : Vec F S1024x5632 .bf16) (C : Vec F S3x5632 .f32) :
    List (View.Piece (Elt F) S512x2816 .bf16) :=
  [piece xb W C 2560 (by omega), piece xb W C 2304 (by omega), piece xb W C 2048 (by omega), piece xb W C 1792 (by omega),
   piece xb W C 1536 (by omega), piece xb W C 1280 (by omega), piece xb W C 1024 (by omega), piece xb W C 768 (by omega),
   piece xb W C 512 (by omega), piece xb W C 256 (by omega), piece xb W C 0 (by omega)]

/-- The two writes into the output block, the last first: each half's rows of the gated layer through the down
    projection, added to the scaled input rows, and normalised. -/
def outPieces (L : List (View.Piece (Elt F) S512x2816 .bf16)) (x : Vec F S1x512x1024 .f32) (D : Vec F S2816x1024 .bf16)
    (g b : Vec F S1x1024 .f32) : List (View.Piece (Elt F) S1x512x1024 .f32) :=
  [⟨Rect.unit ![0, 256, 0] S1x256x1024.size inb_S1x512x1024_S1x256x1024_0_256_0,
      k0_pay50 (k0_pay49 (View.ld (View.canon L) (Rect.unit ![256, 0] S256x2816.size inb_S512x2816_S256x2816_256_0)) D)
        (View.ld x (Rect.unit ![0, 256, 0] S1x256x1024.size inb_S1x512x1024_S1x256x1024_0_256_0)) g b⟩,
   ⟨Rect.unit ![0, 0, 0] S1x256x1024.size inb_S1x512x1024_S1x256x1024_0_0_0,
      k0_pay50 (k0_pay49 (View.ld (View.canon L) (Rect.unit ![0, 0] S256x2816.size inb_S512x2816_S256x2816_0_0)) D)
        (View.ld x (Rect.unit ![0, 0, 0] S1x256x1024.size inb_S1x512x1024_S1x256x1024_0_0_0)) g b⟩]

section
variable (c : Dev nD) (i : grid0.Coords)
  (arg2 : Memref sig .tc .vmem S1x512x1024 .f32) (harg2 : arg2.IsWhole)
  (arg3 : Memref sig .tc .vmem S1x16x1024 .f32) (harg3 : arg3.IsWhole)
  (arg4 : Memref sig .tc .vmem S1x16x1024 .f32) (harg4 : arg4.IsWhole)
  (arg5 : Memref sig .tc .vmem S1024x5632 .bf16) (harg5 : arg5.IsWhole)
  (arg6 : Memref sig .tc .vmem S3x5632 .f32) (harg6 : arg6.IsWhole)
  (arg7 : Memref sig .tc .vmem S2816x1024 .bf16) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1x512x1024 .f32) (harg10 : arg10.IsWhole)
  (arg11 : Memref sig .tc .vmem S512x2816 .bf16) (harg11 : arg11.IsWhole)
  (x0 : Vec F S1x512x1024 .f32) (x1 x2 : Vec F S1x16x1024 .f32) (x3 : Vec F S1024x5632 .bf16) (x4 : Vec F S3x5632 .f32)
  (x5 : Vec F S2816x1024 .bf16) (x6 x7 : Vec F S1x1024 .f32)

/-- The body's writes into the gated scratch are the eleven chunks. -/
theorem scratch_eq :
    kernelRun0_A.sl.HS0_11 c i arg2 harg2 arg3 harg3 arg4 harg4 arg5 harg5 arg6 harg6 x0 x1 x2 x3 x4
      = pieces (k0_pay2 i x1 x2 x0) x3 x4 := by
  have z3 : (![0, 0, 0] : Fin 3 → ℕ) = fun _ => 0 := funext fun a => by fin_cases a <;> rfl
  have e2 : View.readAt (Elt F) arg2.view (Rect.unit ![0, 0, 0] S1x512x1024.size inb_S1x512x1024_S1x512x1024_0_0_0).toLoadRect
      (harg2.unread x0) = x0 := by
    rw [View.readAt_eq_ld, Memref.IsWhole.read_unread]; exact View.ld_unit_zero z3 _ _
  have e3 : View.readAt (Elt F) arg3.view (Rect.unit ![0, 0, 0] S1x16x1024.size inb_S1x16x1024_S1x16x1024_0_0_0).toLoadRect
      (harg3.unread x1) = x1 := by
    rw [View.readAt_eq_ld, Memref.IsWhole.read_unread]; exact View.ld_unit_zero z3 _ _
  have e4 : View.readAt (Elt F) arg4.view (Rect.unit ![0, 0, 0] S1x16x1024.size inb_S1x16x1024_S1x16x1024_0_0_0).toLoadRect
      (harg4.unread x2) = x2 := by
    rw [View.readAt_eq_ld, Memref.IsWhole.read_unread]; exact View.ld_unit_zero z3 _ _
  have eb : kernelRun0_A.sl.r c i arg2 harg2 arg3 harg3 arg4 harg4 x0 x1 x2 = k0_pay2 i x1 x2 x0 := by
    unfold kernelRun0_A.sl.r; rw [e2, e3, e4]
  have e5 : ∀ r : Rect S1024x5632, View.readAt (Elt F) arg5.view r.toLoadRect (harg5.unread x3) = View.ld x3 r := fun r => by
    rw [View.readAt_eq_ld, Memref.IsWhole.read_unread]
  have e6 : ∀ r : Rect S3x5632, View.readAt (Elt F) arg6.view r.toLoadRect (harg6.unread x4) = View.ld x4 r := fun r => by
    rw [View.readAt_eq_ld, Memref.IsWhole.read_unread]
  delta kernelRun0_A.sl.HS0_11
  delta kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_30 kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38 kernelRun0_A.sl.r_39
  dsimp only
  simp only [e2, e3, e4, e5, e6, eb]
  rfl

/-- The body's writes into its output block. -/
theorem out_eq :
    (kernelRun0_A c i arg2 harg2 arg3 harg3 arg4 harg4 arg5 harg5 arg6 harg6 arg7 harg7 arg8 harg8 arg9 harg9 arg10 harg10 arg11 harg11
        x0 x1 x2 x3 x4 x5 x6 x7).1
      = outPieces (pieces (k0_pay2 i x1 x2 x0) x3 x4) x0 x5 x6 x7 := by
  have z2 : (![0, 0] : Fin 2 → ℕ) = fun _ => 0 := funext fun a => by fin_cases a <;> rfl
  have e7 : View.readAt (Elt F) arg7.view (Rect.unit ![0, 0] S2816x1024.size inb_S2816x1024_S2816x1024_0_0).toLoadRect
      (harg7.unread x5) = x5 := by
    rw [View.readAt_eq_ld, Memref.IsWhole.read_unread]; exact View.ld_unit_zero z2 _ _
  have e8 : View.readAt (Elt F) arg8.view (Rect.unit ![0, 0] S1x1024.size inb_S1x1024_S1x1024_0_0).toLoadRect
      (harg8.unread x6) = x6 := by
    rw [View.readAt_eq_ld, Memref.IsWhole.read_unread]; exact View.ld_unit_zero z2 _ _
  have e9 : View.readAt (Elt F) arg9.view (Rect.unit ![0, 0] S1x1024.size inb_S1x1024_S1x1024_0_0).toLoadRect
      (harg9.unread x7) = x7 := by
    rw [View.readAt_eq_ld, Memref.IsWhole.read_unread]; exact View.ld_unit_zero z2 _ _
  have e2 : ∀ r : Rect S1x512x1024, View.readAt (Elt F) arg2.view r.toLoadRect (harg2.unread x0) = View.ld x0 r := fun r => by
    rw [View.readAt_eq_ld, Memref.IsWhole.read_unread]
  unfold kernelRun0_A
  dsimp only
  delta kernelRun0_A.sl.r_40 kernelRun0_A.sl.r_41 kernelRun0_A.sl.r_42 kernelRun0_A.sl.v586 kernelRun0_A.sl.v619
  simp only [e7, e8, e9, e2, scratch_eq, View.readCov_eq_canon']
  rfl

end

end Cert.FfnIdeal.Body

end
-- ==== Proof.FfnMath.lean ====
/-
  The gated convolutional feed-forward layer as a function of its arrays on the extended reals, and the one law of
  arithmetic the kernel's form of the gate needs: the overflow-free logistic is the logistic at every extended real.
  A row is addressed by its position shifted by sixteen, so that the row before the first has a position too.
-/
module

public import Idealize.ShloMosaic.PureOps.Ideal
public import Idealize.ShloMosaic.Lib.Pointwise

@[expose] public section

noncomputable section

namespace Cert.FfnMath

open Idealize.ShloMosaic
open scoped BigOperators

/-- The logistic function in its plain form. -/
def sigm (z : EReal) : EReal := Ideal.div 1 (1 + Ideal.exp (-z))

/-- `z · logistic z`. -/
def silu (z : EReal) : EReal := z * sigm z

/-- For a nonnegative argument the form on `exp (−|z|)` is the plain one; -/
theorem abs_of_nonneg {z : EReal} (h : 0 ≤ z) : max z (-z) = z :=
  max_eq_left ((EReal.neg_le_neg_iff.2 h |>.trans_eq neg_zero).trans h)

/-- for a nonpositive one `−|z|` is `z`. -/
theorem abs_of_nonpos {z : EReal} (h : z ≤ 0) : max z (-z) = -z :=
  max_eq_right (h.trans (neg_zero.symm.trans_le (EReal.neg_le_neg_iff.2 h)))

/-- The quotient of a real by a positive real. -/
theorem div_coe {x y : ℝ} (hy : 0 < y) : Ideal.div (x : EReal) (y : EReal) = ((x / y : ℝ) : EReal) := by
  have h : (y : EReal) ≠ 0 := by exact_mod_cast hy.ne'
  rw [Ideal.div, if_neg h, ← EReal.coe_inv, ← EReal.coe_mul, div_eq_mul_inv]

/-- The logistic computed from `e = exp (−|z|)`, as `1/(1+e)` for `z ≥ 0` and `e/(1+e)` below, is the logistic. -/
theorem sigm_eq (z : EReal) :
    (if 0 ≤ z then Ideal.div 1 (1 + Ideal.exp (0 - max z (-z)))
      else Ideal.exp (0 - max z (-z)) * Ideal.div 1 (1 + Ideal.exp (0 - max z (-z)))) = sigm z := by
  unfold sigm
  by_cases h : 0 ≤ z
  · rw [if_pos h, abs_of_nonneg h, zero_sub]
  · rw [if_neg h, abs_of_nonpos (le_of_lt (not_le.1 h)), zero_sub, neg_neg]
    induction z using EReal.rec with
    | bot =>
      have e1 : Ideal.exp (⊥ : EReal) = 0 := rfl
      have e2 : Ideal.exp (-(⊥ : EReal)) = ⊤ := rfl
      rw [e1, e2, zero_mul, Ideal.div, EReal.add_top_of_ne_bot (by decide), if_neg (by decide), EReal.inv_top, mul_zero]
    | top => exact absurd le_top h
    | coe x =>
      have e1 : Ideal.exp (x : EReal) = ((Real.exp x : ℝ) : EReal) := rfl
      have e2 : Ideal.exp (-(x : EReal)) = ((Real.exp (-x) : ℝ) : EReal) := rfl
      have p1 := Real.exp_pos x
      have p2 := Real.exp_pos (-x)
      have c1 : (1 : EReal) = ((1 : ℝ) : EReal) := rfl
      rw [e1, e2, c1, ← EReal.coe_add, ← EReal.coe_add, div_coe (by positivity), div_coe (by positivity), ← EReal.coe_mul]
      congr 1
      rw [Real.exp_neg]
      field_simp
      exact add_comm _ _

/-- Row `p − 16` of the input, and zero before its first row and after its last. -/
def xpad (X : Fin 8192 → Fin 1024 → EReal) (p : ℕ) (k : Fin 1024) : EReal :=
  if h : 16 ≤ p ∧ p < 8208 then X ⟨p - 16, by omega⟩ k else 0

/-- The up projection of that row at column `col`. -/
def up (X : Fin 8192 → Fin 1024 → EReal) (W : Fin 1024 → Fin 5632 → EReal) (col : Fin 5632) (p : ℕ) : EReal :=
  ∑ k, xpad X p k * W k col

/-- It is zero outside the input. -/
theorem up_outside (X : Fin 8192 → Fin 1024 → EReal) (W : Fin 1024 → Fin 5632 → EReal) (col : Fin 5632) {p : ℕ}
    (h : ¬(16 ≤ p ∧ p < 8208)) : up X W col p = 0 := by
  unfold up xpad
  simp only [dif_neg h, zero_mul, Finset.sum_const_zero]

/-- and inside it the projection of the input's row. -/
theorem up_inside (X : Fin 8192 → Fin 1024 → EReal) (W : Fin 1024 → Fin 5632 → EReal) (col : Fin 5632) {p : ℕ}
    (h : 16 ≤ p ∧ p < 8208) : up X W col p = ∑ k, X ⟨p - 16, by omega⟩ k * W k col := by
  unfold up xpad
  simp only [dif_pos h]

/-- The convolution of the projected rows with three taps. -/
def conv (X : Fin 8192 → Fin 1024 → EReal) (W : Fin 1024 → Fin 5632 → EReal) (C : Fin 3 → Fin 5632 → EReal)
    (col : Fin 5632) (p : ℕ) : EReal :=
  up X W col (p - 1) * C 0 col + up X W col p * C 1 col + up X W col (p + 1) * C 2 col

/-- The gated hidden layer. -/
def gated (X : Fin 8192 → Fin 1024 → EReal) (W : Fin 1024 → Fin 5632 → EReal) (C : Fin 3 → Fin 5632 → EReal)
    (p : ℕ) (j : Fin 2816) : EReal :=
  silu (conv X W C ⟨j.val, by omega⟩ p) * conv X W C ⟨2816 + j.val, by omega⟩ p

/-- The scaled input row plus a layer's output row `f`. -/
def resid (x f : Fin 1024 → EReal) (d : Fin 1024) : EReal := Ideal.ofBits .f32 0x3FD744FD#32 * x d + f d

/-- A row less its mean. -/
def centred (y : Fin 1024 → EReal) (d : Fin 1024) : EReal := y d - Ideal.div (∑ k, y k) (Ideal.ofBits .f32 0x44800000#32)

/-- The normalised row, scaled by `g` and shifted by `b`. -/
def norm (y g b : Fin 1024 → EReal) (d : Fin 1024) : EReal :=
  centred y d
      * Ideal.rsqrt (Ideal.div (∑ k, centred y k * centred y k) (Ideal.ofBits .f32 0x44800000#32)
          + Ideal.ofBits .f32 0x3727C5AC#32)
    * g d + b d

/-- The layer's output row at position `p`: the gated layer through the down projection, added to the scaled input row
    `x`, and normalised. -/
def layer (G : Fin 2816 → EReal) (D : Fin 2816 → Fin 1024 → EReal) (x g b : Fin 1024 → EReal) (d : Fin 1024) : EReal :=
  norm (resid x fun d => ∑ j, G j * D j d) g b d

end Cert.FfnMath

end
-- ==== Proof.FfnRead.lean ====
/-
  What the feed-forward kernel leaves in its result, read at an index: every block is the layer of `FfnMath` on the
  block's rows, and the blocks fill the result.
-/
module

public import proofs.«01_k».proof.Proof.FfnRun
public import proofs.«01_k».proof.Proof.FfnMath

@[expose] public section

set_option maxRecDepth 16384

noncomputable section

namespace Cert.FfnIdeal.Body

open Idealize.ShloMosaic Idealize.ShloMosaic.TcCoe Idealize.SL.Sem
open Idealize.ShloMosaic.Pipeline (Dat)
open Cert.FfnIdeal Cert.FfnIdeal.Gen Cert.FfnMath

/-- A chunk at an index: the logistic-gated product of two convolutions, each of a product of the tile's rows. -/
theorem chunk_apply (xb : FVec Ideal S544x1024 .bf16) (wa wv : Vec Ideal S1024x256 .bf16) (ca cv : Vec Ideal S3x256 .f32)
    (X : Fin 8192 → Fin 1024 → EReal) (W : Fin 1024 → Fin 5632 → EReal) (C : Fin 3 → Fin 5632 → EReal) (p : ℕ)
    (r : Fin 512) (q : Fin 256) (ja jv : Fin 5632)
    (hx : ∀ ρ k, xb (ix2 ρ k) = xpad X (p + ρ.val) k)
    (hwa : ∀ k, wa (ix2 k q) = W k ja) (hwv : ∀ k, wv (ix2 k q) = W k jv)
    (hca : ∀ a, ca (ix2 a q) = C a ja) (hcv : ∀ a, cv (ix2 a q) = C a jv) :
    chunk xb wa wv ca cv (ix2 r q) = silu (conv X W C ja (p + r.val + 16)) * conv X W C jv (p + r.val + 16) := by
  unfold chunk k0_pay9 k0_pay8 k0_pay6 k0_pay7
  pointwise
  have h1 : p + (16 + r.val + 544 - 1) % 544 = p + r.val + 16 - 1 := by have := r.isLt; omega
  have h2 : p + (16 + r.val) = p + r.val + 16 := by omega
  have h3 : p + (16 + r.val + 544 - 543) % 544 = p + r.val + 16 + 1 := by have := r.isLt; omega
  simp only [hx, hwa, hwv, hca, hcv, h1, h2, h3, Ideal.absf_def]
  rw [sigm_eq]
  rfl

/-- The tile's rows with their halos are the padded input's rows from the tile's first position on. -/
theorem rows_apply (i : grid0.Coords) (v1 v6 : Vec Ideal S1x16x1024 .f32) (x : Vec Ideal S1x512x1024 .f32)
    (X : Fin 8192 → Fin 1024 → EReal)
    (h1 : ∀ (hi : (i 1).val ≠ 0) (ρ : Fin 16) k, v1 (ix3 0 ρ k) = xpad X (512 * (i 1).val + ρ.val) k)
    (h6 : ∀ (hi : (i 1).val ≠ 15) (ρ : Fin 16) k, v6 (ix3 0 ρ k) = xpad X (512 * (i 1).val + 528 + ρ.val) k)
    (hx : ∀ (ρ : Fin 512) k, x (ix3 0 ρ k) = xpad X (512 * (i 1).val + 16 + ρ.val) k)
    (ρ : Fin 544) (k : Fin 1024) :
    k0_pay2 i v1 v6 x (ix2 ρ k) = xpad X (512 * (i 1).val + ρ.val) k := by
  have hi : (i 1).val < 16 := (i 1).isLt
  unfold k0_pay2
  pointwise
  by_cases ha : ρ.val < 16
  · rw [dif_pos ha]
    by_cases h0 : (i 1).val = 0
    · have e : Scalar.cmpi CmpIPredicate.eq (BitVec.ofNat 32 (i 1).val) 0#32 = 1#1 := by rw [h0]; rfl
      rw [e, xpad, dif_neg (by omega)]; rfl
    · have e : Scalar.cmpi CmpIPredicate.eq (BitVec.ofNat 32 (i 1).val) 0#32 = 0#1 := by
        generalize (i 1).val = n at *; interval_cases n <;> first | rfl | exact absurd rfl h0
      rw [e]; exact h1 h0 ⟨ρ.val, ha⟩ k
  · rw [dif_neg ha]
    by_cases hb : ρ.val - 16 < 512
    · rw [dif_pos hb, hx]; congr 1; show 512 * (i 1).val + 16 + (ρ.val - 16) = _; omega
    · rw [dif_neg hb]
      by_cases h0 : (i 1).val = 15
      · have e : Scalar.cmpi CmpIPredicate.eq (BitVec.ofNat 32 (i 1).val) 15#32 = 1#1 := by rw [h0]; rfl
        rw [e, xpad, dif_neg (by omega)]; rfl
      · have e : Scalar.cmpi CmpIPredicate.eq (BitVec.ofNat 32 (i 1).val) 15#32 = 0#1 := by
          generalize (i 1).val = n at *; interval_cases n <;> first | rfl | exact absurd rfl h0
        rw [e]
        refine (h6 h0 ⟨ρ.val - 16 - 512, by have := ρ.isLt; omega⟩ k).trans ?_
        congr 1; show 512 * (i 1).val + 528 + (ρ.val - 16 - 512) = _; omega

/-- Writes that each leave the values of one function leave that function wherever one of them covers. -/
theorem canon_of_agree {s : Shape} {e : EltTy} (G : s.Idx → Elt Ideal e) (y : s.Idx) :
    ∀ L : List (View.Piece (Elt Ideal) s e), (∀ p ∈ L, ∀ x, p.2 x = G (p.1.emb x)) → (∃ p ∈ L, y ∈ p.1.set) →
      View.canon L y = G y
  | [], _, h => by obtain ⟨_, hm, _⟩ := h; exact absurd hm List.not_mem_nil
  | p :: L, hL, h => by
    by_cases hy : y ∈ p.1.set
    · obtain ⟨r, w⟩ := p
      obtain ⟨x, rfl⟩ : ∃ x, r.emb x = y := r.exists_idx_of_mem hy
      rw [View.canon_cons_emb]
      exact hL _ (List.mem_cons_self ..) x
    · rw [View.canon_cons_of_not_mem _ _ hy]
      refine canon_of_agree G y L (fun p hp => hL p (List.mem_cons_of_mem _ hp)) ?_
      obtain ⟨p', hm, hy'⟩ := h
      rcases List.mem_cons.1 hm with rfl | hm
      · exact absurd hy' hy
      · exact ⟨p', hm, hy'⟩

/-- The column blocks read at an index. -/
theorem wcols_apply (W : Vec Ideal S1024x5632 .bf16) (o : ℕ) (h : o + 256 ≤ 5632) (k : Fin 1024) (q : Fin 256) :
    wcols W o h (ix2 k q) = W (ix2 k ⟨o + q.val, by omega⟩) := by
  refine congrArg W (funext fun a => ?_)
  match a with
  | ⟨0, _⟩ => exact Fin.ext (by simp [LoadRect.idx])
  | ⟨1, _⟩ => exact Fin.ext (by simp [LoadRect.idx])

theorem ccols_apply (C : Vec Ideal S3x5632 .f32) (o : ℕ) (h : o + 256 ≤ 5632) (k : Fin 3) (q : Fin 256) :
    ccols C o h (ix2 k q) = C (ix2 k ⟨o + q.val, by omega⟩) := by
  refine congrArg C (funext fun a => ?_)
  match a with
  | ⟨0, _⟩ => exact Fin.ext (by simp [LoadRect.idx])
  | ⟨1, _⟩ => exact Fin.ext (by simp [LoadRect.idx])

/-- The gated scratch after the eleven writes. -/
theorem scratch_apply (xb : FVec Ideal S544x1024 .bf16) (W : Vec Ideal S1024x5632 .bf16) (C : Vec Ideal S3x5632 .f32)
    (X : Fin 8192 → Fin 1024 → EReal) (p : ℕ) (hx : ∀ ρ k, xb (ix2 ρ k) = xpad X (p + ρ.val) k)
    (r : Fin 512) (j : Fin 2816) :
    View.canon (pieces xb W C) (ix2 r j)
      = gated X (fun k j => W (ix2 k j)) (fun a j => C (ix2 a j)) (p + r.val + 16) j := by
  have hpiece : ∀ (o : ℕ) (h : o + 256 ≤ 2816) (x : (piece xb W C o h).1.shape.Idx),
      (piece xb W C o h).2 x
        = (fun y : S512x2816.Idx => gated X (fun k j => W (ix2 k j)) (fun a j => C (ix2 a j)) (p + (y 0).val + 16) (y 1))
            ((piece xb W C o h).1.emb x) := by
    intro o h x
    have hj0 : (x 0).val < 512 := (x 0).isLt
    have hj1 : (x 1).val < 256 := (x 1).isLt
    have hx' : x = ix2 (⟨(x 0).val, hj0⟩ : Fin 512) (⟨(x 1).val, hj1⟩ : Fin 256) := by
      funext a; match a with | ⟨0, _⟩ => rfl | ⟨1, _⟩ => rfl
    rw [hx']
    refine (chunk_apply xb _ _ _ _ X (fun k j => W (ix2 k j)) (fun a j => C (ix2 a j)) p _ _
      ⟨o + (x 1).val, by omega⟩ ⟨2816 + o + (x 1).val, by omega⟩ hx ?_ ?_ ?_ ?_).trans ?_
    · exact fun k => wcols_apply W o (by omega) k _
    · exact fun k => wcols_apply W (2816 + o) (by omega) k _
    · exact fun k => ccols_apply C o (by omega) k _
    · exact fun k => ccols_apply C (2816 + o) (by omega) k _
    · have e0 : ((piece xb W C o h).1.emb (ix2 (⟨(x 0).val, hj0⟩ : Fin 512) (⟨(x 1).val, hj1⟩ : Fin 256)) 0).val = (x 0).val := by
        show 0 + 1 * (x 0).val = (x 0).val; omega
      have e1 : (piece xb W C o h).1.emb (ix2 (⟨(x 0).val, hj0⟩ : Fin 512) (⟨(x 1).val, hj1⟩ : Fin 256)) 1
          = (⟨o + (x 1).val, by omega⟩ : Fin 2816) := Fin.ext (by show o + 1 * (x 1).val = o + (x 1).val; omega)
      dsimp only
      rw [e0, e1]
      simp only [gated, Nat.add_assoc]
  refine canon_of_agree (fun y : S512x2816.Idx => gated X (fun k j => W (ix2 k j)) (fun a j => C (ix2 a j)) (p + (y 0).val + 16) (y 1))
    (ix2 r j) (pieces xb W C) ?_ ?_
  · intro q hq
    simp only [pieces, List.mem_cons, List.not_mem_nil, or_false] at hq
    rcases hq with rfl | rfl | rfl | rfl | rfl | rfl | rfl | rfl | rfl | rfl | rfl <;> exact hpiece _ _
  · have hj := j.isLt
    have hm : ∀ n (hn : n ≤ 10), piece xb W C (256 * n) (by omega) ∈ pieces xb W C := by
      intro n hn
      interval_cases n <;> simp [pieces]
    refine ⟨_, hm (j.val / 256) (by omega), ?_⟩
    have inb : ∀ a, (![0, 256 * (j.val / 256)] : Fin 2 → ℕ) a + S512x256.size a ≤ S512x2816.size a := fun a => by
      match a with
      | ⟨0, _⟩ => exact Nat.le_refl 512
      | ⟨1, _⟩ => show 256 * (j.val / 256) + 256 ≤ 2816; omega
    refine (Rect.mem_set_unit (inb := inb)).2 fun a => ?_
    match a with
    | ⟨0, _⟩ => exact ⟨Nat.zero_le _, by show r.val < 0 + 512; omega⟩
    | ⟨1, _⟩ =>
      refine ⟨?_, ?_⟩
      · show 256 * (j.val / 256) ≤ j.val; omega
      · show j.val < 256 * (j.val / 256) + 256; omega

/-- One half's rows at an index. -/
theorem half_apply (gt : Vec Ideal S256x2816 .bf16) (D : Vec Ideal S2816x1024 .bf16) (x : Vec Ideal S1x256x1024 .f32)
    (g b : Vec Ideal S1x1024 .f32) (r : Fin 256) (d : Fin 1024) :
    k0_pay50 (k0_pay49 gt D) x g b (ix3 0 r d)
      = layer (fun j => gt (ix2 r j)) (fun j d => D (ix2 j d)) (fun d => x (ix3 0 r d)) (fun d => g (ix2 0 d))
          (fun d => b (ix2 0 d)) d := by
  unfold k0_pay50 k0_pay49
  pointwise
  rfl

/-- The output block at an index. -/
theorem block_apply (L : List (View.Piece (Elt Ideal) S512x2816 .bf16)) (x : Vec Ideal S1x512x1024 .f32)
    (D : Vec Ideal S2816x1024 .bf16) (g b : Vec Ideal S1x1024 .f32) (r : Fin 512) (d : Fin 1024) :
    View.canon (outPieces L x D g b) (ix3 0 r d)
      = layer (fun j => View.canon L (ix2 r j)) (fun j d => D (ix2 j d)) (fun d => x (ix3 0 r d)) (fun d => g (ix2 0 d))
          (fun d => b (ix2 0 d)) d := by
  have hhalf : ∀ (o : ℕ) (h3 : ∀ a, (![0, o, 0] : Fin 3 → ℕ) a + S1x256x1024.size a ≤ S1x512x1024.size a)
      (h2 : ∀ a, (![o, 0] : Fin 2 → ℕ) a + S256x2816.size a ≤ S512x2816.size a) (y : S1x256x1024.Idx),
      k0_pay50 (k0_pay49 (View.ld (View.canon L) (Rect.unit ![o, 0] S256x2816.size h2)) D)
          (View.ld x (Rect.unit ![0, o, 0] S1x256x1024.size h3)) g b y
        = (fun y : S1x512x1024.Idx => layer (fun j => View.canon L (ix2 (y 1) j)) (fun j d => D (ix2 j d))
            (fun d => x (ix3 0 (y 1) d)) (fun d => g (ix2 0 d)) (fun d => b (ix2 0 d)) (y 2))
          ((Rect.unit (s := S1x512x1024) ![0, o, 0] S1x256x1024.size h3).emb y) := by
    intro o h3 h2 y
    have ho : o + 256 ≤ 512 := h3 1
    have hy : y = ix3 (0 : Fin 1) (y 1 : Fin 256) (y 2 : Fin 1024) := by
      funext a
      match a with
      | ⟨0, _⟩ => exact Fin.ext (by have : (y 0).val < 1 := (y 0).isLt; show (y 0).val = 0; omega)
      | ⟨1, _⟩ => rfl
      | ⟨2, _⟩ => rfl
    have h1 : (y 1).val < 256 := (y 1).isLt
    have e1 : (Rect.unit (s := S1x512x1024) ![0, o, 0] S1x256x1024.size h3).emb y 1 = (⟨o + (y 1).val, by omega⟩ : Fin 512) :=
      Fin.ext (by show o + 1 * (y 1).val = o + (y 1).val; omega)
    have e2 : (Rect.unit (s := S1x512x1024) ![0, o, 0] S1x256x1024.size h3).emb y 2 = (y 2 : Fin 1024) :=
      Fin.ext (by show 0 + 1 * (y 2).val = (y 2).val; omega)
    dsimp only
    rw [e1, e2]
    refine (congrArg _ hy).trans ((half_apply _ D _ g b _ _).trans ?_)
    congr 1
    · funext j
      refine congrArg (View.canon L) (funext fun a => ?_)
      match a with
      | ⟨0, _⟩ => exact Fin.ext (by show o + 1 * (y 1).val = o + (y 1).val; omega)
      | ⟨1, _⟩ => exact Fin.ext (by show 0 + 1 * j.val = j.val; omega)
    · funext k
      refine congrArg x (funext fun a => ?_)
      match a with
      | ⟨0, _⟩ => rfl
      | ⟨1, _⟩ => exact Fin.ext (by show o + 1 * (y 1).val = o + (y 1).val; omega)
      | ⟨2, _⟩ => exact Fin.ext (by show 0 + 1 * k.val = k.val; omega)
  refine canon_of_agree (fun y : S1x512x1024.Idx => layer (fun j => View.canon L (ix2 (y 1) j)) (fun j d => D (ix2 j d))
      (fun d => x (ix3 0 (y 1) d)) (fun d => g (ix2 0 d)) (fun d => b (ix2 0 d)) (y 2)) (ix3 0 r d) (outPieces L x D g b) ?_ ?_
  · intro q hq
    simp only [outPieces, List.mem_cons, List.not_mem_nil, or_false] at hq
    rcases hq with rfl | rfl <;> exact hhalf _ _ _
  · have hr := r.isLt
    by_cases h : r.val < 256
    · refine ⟨_, List.mem_cons_of_mem _ (List.mem_cons_self ..), ?_⟩
      refine (Rect.mem_set_unit (inb := inb_S1x512x1024_S1x256x1024_0_0_0)).2 fun a => ?_
      match a with
      | ⟨0, _⟩ => exact ⟨Nat.zero_le _, Nat.one_pos⟩
      | ⟨1, _⟩ => exact ⟨Nat.zero_le _, by show r.val < 0 + 256; omega⟩
      | ⟨2, _⟩ => exact ⟨Nat.zero_le _, by show d.val < 0 + 1024; omega⟩
    · refine ⟨_, List.mem_cons_self .., ?_⟩
      refine (Rect.mem_set_unit (inb := inb_S1x512x1024_S1x256x1024_0_256_0)).2 fun a => ?_
      match a with
      | ⟨0, _⟩ => exact ⟨Nat.zero_le _, Nat.one_pos⟩
      | ⟨1, _⟩ => exact ⟨by show 256 ≤ r.val; omega, by show r.val < 256 + 256; omega⟩
      | ⟨2, _⟩ => exact ⟨Nat.zero_le _, by show d.val < 0 + 1024; omega⟩

/-! ## The windows' blocks, and the result array -/

/-- Where each grid point's blocks of the input rows, of the two halos and of the result begin. -/
theorem index_of : ∀ t : Fin grid0.N,
    (win0_0.index t 0 = (grid0.coords t 0).val ∧ win0_0.index t 1 = (grid0.coords t 1).val ∧ win0_0.index t 2 = 0)
    ∧ (win0_1.index t 0 = (grid0.coords t 0).val ∧ win0_1.index t 1 = 32 * (grid0.coords t 1).val - 1 ∧ win0_1.index t 2 = 0)
    ∧ (win0_2.index t 0 = (grid0.coords t 0).val
        ∧ ((grid0.coords t 1).val ≠ 15 → win0_2.index t 1 = 32 * (grid0.coords t 1).val + 32) ∧ win0_2.index t 2 = 0)
    ∧ (win0_8.index t 0 = (grid0.coords t 0).val ∧ win0_8.index t 1 = (grid0.coords t 1).val ∧ win0_8.index t 2 = 0) := by
  decide +kernel

/-- The whole-array windows begin at zero. -/
theorem index_whole : ∀ t : Fin grid0.N,
    (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) := by
  decide +kernel

variable (m : (ℓ : Loc nD τ sig) → Buf (Elt Ideal) ℓ)

/-- The argument arrays by their coordinates. -/
abbrev aX (c : Dev nD) (b : Fin 4) (t : Fin 8192) (k : Fin 1024) : EReal := m ((c : Thread nD τ).loc main_arg0) (ix3 b t k)
abbrev aW (c : Dev nD) (k : Fin 1024) (j : Fin 5632) : EReal := m ((c : Thread nD τ).loc main_arg1) (ix2 k j)
abbrev aC (c : Dev nD) (a : Fin 3) (j : Fin 5632) : EReal := m ((c : Thread nD τ).loc main_arg2) (ix2 a j)
abbrev aD (c : Dev nD) (j : Fin 2816) (d : Fin 1024) : EReal := m ((c : Thread nD τ).loc main_arg3) (ix2 j d)
abbrev aG (c : Dev nD) (d : Fin 1024) : EReal := m ((c : Thread nD τ).loc main_arg4) (ix2 0 d)
abbrev aB (c : Dev nD) (d : Fin 1024) : EReal := m ((c : Thread nD τ).loc main_arg5) (ix2 0 d)

/-- What the result array is shown to hold. -/
def G (c : Dev nD) : Buf (Elt Ideal) ((c : Thread nD τ).loc main_v0) := fun i : S4x8192x1024.Idx =>
  layer (gated (aX m c (i 0)) (aW m c) (aC m c) ((i 1).val + 16)) (aD m c) (aX m c (i 0) (i 1)) (aG m c) (aB m c) (i 2)

/-- The input rows' block. -/
theorem iblk0 (c : Dev nD) (t : Fin cfg0.N) (ρ : Fin 512) (k : Fin 1024) :
    (iblk m c 0 t : Vec Ideal S1x512x1024 .f32) (ix3 0 ρ k)
      = aX m c (grid0.coords t 0) ⟨512 * (grid0.coords t 1).val + ρ.val, by
          have : (grid0.coords t 1).val < 16 := (grid0.coords t 1).isLt
          omega⟩ k := by
  have e := (index_of t).1
  refine congrArg (m ((c : Thread nD τ).loc main_arg0)) (funext fun a => ?_)
  match a with
  | ⟨0, _⟩ => exact Fin.ext (by show win0_0.index t 0 * 1 + 1 * 0 = _; rw [e.1]; simp)
  | ⟨1, _⟩ => exact Fin.ext (by show win0_0.index t 1 * 512 + 1 * ρ.val = 512 * (grid0.coords t 1).val + ρ.val; rw [e.2.1]; ring)
  | ⟨2, _⟩ => exact Fin.ext (by show win0_0.index t 2 * 1024 + 1 * k.val = k.val; rw [e.2.2]; omega)

/-- The halo of sixteen rows before the tile, at a tile that has one. -/
theorem iblk1 (c : Dev nD) (t : Fin cfg0.N) (h : (grid0.coords t 1).val ≠ 0) (ρ : Fin 16) (k : Fin 1024) :
    (iblk m c 1 t : Vec Ideal S1x16x1024 .f32) (ix3 0 ρ k)
      = xpad (aX m c (grid0.coords t 0)) (512 * (grid0.coords t 1).val + ρ.val) k := by
  have hi : (grid0.coords t 1).val < 16 := (grid0.coords t 1).isLt
  have hρ := ρ.isLt
  have e := (index_of t).2.1
  rw [xpad, dif_pos (by omega)]
  refine congrArg (m ((c : Thread nD τ).loc main_arg0)) (funext fun a => ?_)
  match a with
  | ⟨0, _⟩ => exact Fin.ext (by show win0_1.index t 0 * 1 + 1 * 0 = _; rw [e.1]; simp)
  | ⟨1, _⟩ => exact Fin.ext (by
      show win0_1.index t 1 * 16 + 1 * ρ.val = 512 * (grid0.coords t 1).val + ρ.val - 16
      rw [e.2.1]
      generalize (grid0.coords t 1).val = n at *
      omega)
  | ⟨2, _⟩ => exact Fin.ext (by show win0_1.index t 2 * 1024 + 1 * k.val = k.val; rw [e.2.2]; omega)

/-- The halo of sixteen rows after the tile, at a tile that has one. -/
theorem iblk2 (c : Dev nD) (t : Fin cfg0.N) (h : (grid0.coords t 1).val ≠ 15) (ρ : Fin 16) (k : Fin 1024) :
    (iblk m c 2 t : Vec Ideal S1x16x1024 .f32) (ix3 0 ρ k)
      = xpad (aX m c (grid0.coords t 0)) (512 * (grid0.coords t 1).val + 528 + ρ.val) k := by
  have hi : (grid0.coords t 1).val < 16 := (grid0.coords t 1).isLt
  have hρ := ρ.isLt
  have e := (index_of t).2.2.1
  have e1 := e.2.1 h
  rw [xpad, dif_pos (by omega)]
  refine congrArg (m ((c : Thread nD τ).loc main_arg0)) (funext fun a => ?_)
  match a with
  | ⟨0, _⟩ => exact Fin.ext (by show win0_2.index t 0 * 1 + 1 * 0 = _; rw [e.1]; simp)
  | ⟨1, _⟩ => exact Fin.ext (by
      show win0_2.index t 1 * 16 + 1 * ρ.val = 512 * (grid0.coords t 1).val + 528 + ρ.val - 16
      rw [e1]
      generalize (grid0.coords t 1).val = n at *
      omega)
  | ⟨2, _⟩ => exact Fin.ext (by show win0_2.index t 2 * 1024 + 1 * k.val = k.val; rw [e.2.2]; omega)

/-- The up projection's weights, whole at every point. -/
theorem iblk3 (c : Dev nD) (t : Fin cfg0.N) (k : Fin 1024) (j : Fin 5632) :
    (iblk m c 3 t : Vec Ideal S1024x5632 .bf16) (ix2 k j) = aW m c k j := by
  have e := (index_whole t).1
  refine congrArg (m ((c : Thread nD τ).loc main_arg1)) (funext fun a => ?_)
  match a with
  | ⟨0, _⟩ => exact Fin.ext (by show win0_3.index t 0 * 1024 + 1 * k.val = k.val; rw [e.1]; omega)
  | ⟨1, _⟩ => exact Fin.ext (by show win0_3.index t 1 * 5632 + 1 * j.val = j.val; rw [e.2]; omega)

/-- The convolution's taps, whole at every point. -/
theorem iblk4 (c : Dev nD) (t : Fin cfg0.N) (k : Fin 3) (j : Fin 5632) :
    (iblk m c 4 t : Vec Ideal S3x5632 .f32) (ix2 k j) = aC m c k j := by
  have e := (index_whole t).2.1
  refine congrArg (m ((c : Thread nD τ).loc main_arg2)) (funext fun a => ?_)
  match a with
  | ⟨0, _⟩ => exact Fin.ext (by show win0_4.index t 0 * 3 + 1 * k.val = k.val; rw [e.1]; omega)
  | ⟨1, _⟩ => exact Fin.ext (by show win0_4.index t 1 * 5632 + 1 * j.val = j.val; rw [e.2]; omega)

/-- The down projection's weights, whole at every point. -/
theorem iblk5 (c : Dev nD) (t : Fin cfg0.N) (j : Fin 2816) (d : Fin 1024) :
    (iblk m c 5 t : Vec Ideal S2816x1024 .bf16) (ix2 j d) = aD m c j d := by
  have e := (index_whole t).2.2.1
  refine congrArg (m ((c : Thread nD τ).loc main_arg3)) (funext fun a => ?_)
  match a with
  | ⟨0, _⟩ => exact Fin.ext (by show win0_5.index t 0 * 2816 + 1 * j.val = j.val; rw [e.1]; omega)
  | ⟨1, _⟩ => exact Fin.ext (by show win0_5.index t 1 * 1024 + 1 * d.val = d.val; rw [e.2]; omega)

/-- The normalisation's scale, whole at every point. -/
theorem iblk6 (c : Dev nD) (t : Fin cfg0.N) (d : Fin 1024) :
    (iblk m c 6 t : Vec Ideal S1x1024 .f32) (ix2 0 d) = aG m c d := by
  have e := (index_whole t).2.2.2.1
  refine congrArg (m ((c : Thread nD τ).loc main_arg4)) (funext fun a => ?_)
  match a with
  | ⟨0, _⟩ => exact Fin.ext (by show win0_6.index t 0 * 1 + 1 * 0 = 0; rw [e.1])
  | ⟨1, _⟩ => exact Fin.ext (by show win0_6.index t 1 * 1024 + 1 * d.val = d.val; rw [e.2]; omega)

/-- The normalisation's shift, whole at every point. -/
theorem iblk7 (c : Dev nD) (t : Fin cfg0.N) (d : Fin 1024) :
    (iblk m c 7 t : Vec Ideal S1x1024 .f32) (ix2 0 d) = aB m c d := by
  have e := (index_whole t).2.2.2.2
  refine congrArg (m ((c : Thread nD τ).loc main_arg5)) (funext fun a => ?_)
  match a with
  | ⟨0, _⟩ => exact Fin.ext (by show win0_7.index t 0 * 1 + 1 * 0 = 0; rw [e.1])
  | ⟨1, _⟩ => exact Fin.ext (by show win0_7.index t 1 * 1024 + 1 * d.val = d.val; rw [e.2]; omega)

/-- The tile's rows with their halos are the padded input's rows. -/
theorem rows_eq (c : Dev nD) (t : Fin cfg0.N) (ρ : Fin 544) (k : Fin 1024) :
    k0_pay2 (grid0.coords t) (iblk m c 1 t) (iblk m c 2 t) (iblk m c 0 t) (ix2 ρ k)
      = xpad (aX m c (grid0.coords t 0)) (512 * (grid0.coords t 1).val + ρ.val) k := by
  refine rows_apply (grid0.coords t) _ _ _ _ (fun h ρ k => iblk1 m c t h ρ k) (fun h ρ k => iblk2 m c t h ρ k)
    (fun ρ k => (iblk0 m c t ρ k).trans ?_) ρ k
  have hi : (grid0.coords t 1).val < 16 := (grid0.coords t 1).isLt
  have hρ := ρ.isLt
  rw [xpad, dif_pos (by omega)]
  congr 1
  exact Fin.ext (by show 512 * (grid0.coords t 1).val + ρ.val = 512 * (grid0.coords t 1).val + 16 + ρ.val - 16; omega)

/-- What each grid point writes back is its block of the result. -/
theorem flushed_eq (c : Dev nD) (t : Fin cfg0.N) :
    (dats m 0 c).flushed 8 t = (win0_8.blk t).view.read (Elt Ideal) (G m c) := by
  rw [Value.flushed8_A]
  unfold out0_A_8
  rw [View.read_writes_junk_eq_canon, out_eq]
  funext y
  have hi : (grid0.coords t 1).val < 16 := (grid0.coords t 1).isLt
  have h0 : (y 0).val < 1 := (y 0).isLt
  have h1 : (y 1).val < 512 := (y 1).isLt
  have h2 : (y 2).val < 1024 := (y 2).isLt
  have e := (index_of t).2.2.2
  have e0 : (win0_8.rect t).emb y 0 = (grid0.coords t 0 : Fin 4) :=
    Fin.ext (by show win0_8.index t 0 * 1 + 1 * (y 0).val = _; rw [e.1]; omega)
  have e1 : (win0_8.rect t).emb y 1 = (⟨512 * (grid0.coords t 1).val + (y 1).val, by omega⟩ : Fin 8192) :=
    Fin.ext (by show win0_8.index t 1 * 512 + 1 * (y 1).val = 512 * (grid0.coords t 1).val + (y 1).val; rw [e.2.1]; ring)
  have e2 : (win0_8.rect t).emb y 2 = (⟨(y 2).val, h2⟩ : Fin 1024) :=
    Fin.ext (by show win0_8.index t 2 * 1024 + 1 * (y 2).val = (y 2).val; rw [e.2.2]; omega)
  have hy : (fun a => (⟨(y a).val, (y a).isLt⟩ : Fin (S1x512x1024.size a)))
      = ix3 (0 : Fin 1) (⟨(y 1).val, h1⟩ : Fin 512) (⟨(y 2).val, h2⟩ : Fin 1024) := by
    funext a
    match a with
    | ⟨0, _⟩ => exact Fin.ext (by show (y 0).val = 0; omega)
    | ⟨1, _⟩ => rfl
    | ⟨2, _⟩ => rfl
  show View.canon (outPieces (pieces (k0_pay2 (grid0.coords t) (iblk m c 1 t) (iblk m c 2 t) (iblk m c 0 t)) (iblk m c 3 t)
      (iblk m c 4 t)) (iblk m c 0 t) (iblk m c 5 t) (iblk m c 6 t) (iblk m c 7 t))
      (fun a => (⟨(y a).val, (y a).isLt⟩ : Fin (S1x512x1024.size a))) = G m c ((win0_8.rect t).emb y)
  rw [hy, block_apply]
  unfold G
  rw [e0, e1, e2]
  simp only [scratch_apply _ _ _ _ _ (rows_eq m c t), iblk3, iblk4, iblk5, iblk6, iblk7, iblk0]

/-- Every index of the result lies in the block of its row's tile. -/
theorem cover (i : S4x8192x1024.Idx) : ∃ t : Fin cfg0.N, (cfg0.win 8).flush t = true ∧ i ∈ ((cfg0.win 8).blk t).view.set := by
  have h0 : (i 0).val < 4 := (i 0).isLt
  have h1 : (i 1).val < 8192 := (i 1).isLt
  have h2 : (i 2).val < 1024 := (i 2).isLt
  have hc : ∀ (a : Fin 4) (b : Fin 16), ∃ t : Fin grid0.N, (grid0.coords t 0).val = a.val ∧ (grid0.coords t 1).val = b.val := by
    decide +kernel
  obtain ⟨t, ha, hb⟩ := hc ⟨(i 0).val, h0⟩ ⟨(i 1).val / 512, by omega⟩
  refine ⟨t, flush0_8 t, ?_⟩
  have e := (index_of t).2.2.2
  have hb' : (grid0.coords t 1).val = (i 1).val / 512 := hb
  show i ∈ ((View.whole main_v0).slice (win0_8.rect t)).set
  rw [View.set_slice_whole, Rect.mem_set_unit]
  intro a
  match a with
  | ⟨0, _⟩ => show win0_8.index t 0 * 1 ≤ (i 0).val ∧ (i 0).val < win0_8.index t 0 * 1 + 1
              rw [e.1, ha]; dsimp only; omega
  | ⟨1, _⟩ => show win0_8.index t 1 * 512 ≤ (i 1).val ∧ (i 1).val < win0_8.index t 1 * 512 + 512
              rw [e.2.1, hb']; omega
  | ⟨2, _⟩ => show win0_8.index t 2 * 1024 ≤ (i 2).val ∧ (i 2).val < win0_8.index t 2 * 1024 + 1024
              rw [e.2.2]; omega

/-- The result array after the run. -/
theorem final (c : Dev nD) : (dats m 0 c).arrAt 8 cfg0.N = G m c :=
  (dats m 0 c).arrAt_eq_of_cover 8 (G m c) (fun t _ => flushed_eq m c t) cover

end Cert.FfnIdeal.Body

end
-- ==== Proof.FfnRef.lean ====
/-
  The feed-forward reference read at an index: its result is the layer of `FfnMath`.
-/
module

public import proofs.«01_k».proof.Proof.FfnMath
public import proofs.«01_k».proof.Proof.Gen.FfnRefIdeal.Read

@[expose] public section

set_option maxRecDepth 16384

noncomputable section

namespace Cert.FfnRefIdeal.Body

open Idealize.ShloMosaic Idealize.ShloMosaic.TcCoe Idealize.SL.Sem
open Cert.FfnRefIdeal Cert.FfnRefIdeal.Read Cert.FfnMath

variable (x0 : FVec Ideal S4x8192x1024 .f32) (x1 : FVec Ideal S1024x5632 .bf16) (x2 : FVec Ideal S3x5632 .f32)
  (x3 : FVec Ideal S2816x1024 .bf16) (x4 x5 : FVec Ideal S1x1024 .f32)

/-- The padded projection is the projection of the padded input. -/
theorem padded_apply (b : Fin 4) (t : Fin 8194) (j : Fin 5632) :
    val_main_v3 (F := Ideal) x0 x1 (ix3 b t j)
      = up (fun t k => x0 (ix3 b t k)) (fun k j => x1 (ix2 k j)) j (t.val + 15) := by
  unfold val_main_v3 val_main_call0_v0 val_main_c val_main_v2 val_main_v0
  pointwise
  by_cases h : 1 ≤ t.val ∧ t.val - 1 < 8192
  · rw [dif_pos h, up_inside _ _ _ (by omega)]
    refine Finset.sum_congr rfl fun k _ => ?_
    congr 3
  · rw [dif_neg h, up_outside _ _ _ (by omega)]
    show ((Int.cast (0#32 : BitVec 32).toInt : ℝ) : EReal) = 0
    simp

/-- The gated hidden layer. -/
theorem gated_apply (b : Fin 4) (t : Fin 8192) (j : Fin 2816) :
    val_main_v27 (F := Ideal) x0 x1 x2 (ix3 b t j)
      = gated (fun t k => x0 (ix3 b t k)) (fun k j => x1 (ix2 k j)) (fun a j => x2 (ix2 a j)) (t.val + 16) j := by
  unfold val_main_v27 val_main_v26 val_main_v25 val_main_call1_v5 val_main_call1_v4 val_main_call1_v3 val_main_call1_v2
    val_main_call1_v1 val_main_call1_v0 val_main_v24 val_main_call1_cst_0 val_main_call1_cst val_main_v23 val_main_v22
    val_main_v21 val_main_v20 val_main_v19 val_main_v18 val_main_v17 val_main_v16 val_main_v15 val_main_v14 val_main_v13
    val_main_v12 val_main_v11 val_main_v10 val_main_v9 val_main_v8 val_main_v7 val_main_v6 val_main_v5 val_main_v4
  have hp := padded_apply x0 x1 b
  generalize val_main_v3 (F := Ideal) x0 x1 = h at hp
  pointwise
  simp only [hp]
  have e1 : 1 + t.val + 15 = t.val + 16 := by omega
  have e2 : 2 + t.val + 15 = t.val + 16 + 1 := by omega
  simp only [e1, e2]
  rfl

/-- The result. -/
theorem result_apply (b : Fin 4) (t : Fin 8192) (d : Fin 1024) :
    val_main_v55 (F := Ideal) x0 x1 x2 x3 x4 x5 (ix3 b t d)
      = layer (gated (fun t k => x0 (ix3 b t k)) (fun k j => x1 (ix2 k j)) (fun a j => x2 (ix2 a j)) (t.val + 16))
          (fun j d => x3 (ix2 j d)) (fun d => x0 (ix3 b t d)) (fun d => x4 (ix2 0 d)) (fun d => x5 (ix2 0 d)) d := by
  unfold val_main_v55 val_main_v54 val_main_v53 val_main_v52 val_main_v51 val_main_v50 val_main_v49 val_main_v48
    val_main_v47 val_main_v46 val_main_v45 val_main_v44 val_main_v43 val_main_v42 val_main_v41 val_main_v40 val_main_v39
    val_main_v38 val_main_v37 val_main_v36 val_main_v35 val_main_v34 val_main_v33 val_main_v32 val_main_v31 val_main_v30
    val_main_v29 val_main_v28 val_main_v1 val_main_cst_4 val_main_cst_3 val_main_cst_2 val_main_cst_1 val_main_cst_0
    val_main_cst
  have hg := gated_apply x0 x1 x2 b t
  generalize val_main_v27 (F := Ideal) x0 x1 x2 = h at hg
  pointwise
  simp only [hg]
  rfl

end Cert.FfnRefIdeal.Body

end
-- ==== Proof.ScanIdealRun.lean ====
/-
  The scan kernel's body run to its end, at a batch's first tile and at a later one.  A trip of its loop overwrites its
  rows of the two output tiles whatever they held, and this is said first: what lay in them before is then no part of
  what the body leaves.
-/
module

public import proofs.«01_k».proof.Proof.Gen.ScanIdeal.Frame.Runs

@[expose] public section

-- membership in a rectangle of production extents (`View.cover_of_tiled`): the elaborator's structural look
-- recurses once per coordinate of the long axes
set_option maxRecDepth 16384

noncomputable section

namespace Cert.ScanIdeal.Whole

open Cert.ScanIdeal Cert.ScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A trip's pieces are computed from the state buffer alone: what lay before in the two output
    tiles, which every trip overwrites, does not enter. -/
theorem trip_indep (𝒱 : Variants) (c : Dev nD) (bd : Option 𝒱.V) (i : grid0.Coords) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S2x1x768 .f32) (harg8 : arg8.IsWhole) (arg9 : Memref sig .tc .vmem S1x512x768 .f32) (harg9 : arg9.IsWhole) (arg10 : Memref sig .tc .vmem S1x512x768 .f32) (harg10 : arg10.IsWhole) (arg11 : Memref sig .tc .vmem S2x6x128x128 .f32) (harg11 : arg11.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips)
    (f9 g9 : BufTy.Contents (Elt F) arg9.view.ty) (f10 g10 : BufTy.Contents (Elt F) arg10.view.ty) (f11 : BufTy.Contents (Elt F) arg11.view.ty) :
    tripL_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 k f9 f10 f11
      = tripL_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 k g9 g10 f11 := by
  unfold tripL_k0_t1 trip_k0_t1; rfl

/-- So neither do the pieces of several trips depend on it. -/
theorem trips_indep (𝒱 : Variants) (c : Dev nD) (bd : Option 𝒱.V) (i : grid0.Coords) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S2x1x768 .f32) (harg8 : arg8.IsWhole) (arg9 : Memref sig .tc .vmem S1x512x768 .f32) (harg9 : arg9.IsWhole) (arg10 : Memref sig .tc .vmem S1x512x768 .f32) (harg10 : arg10.IsWhole) (arg11 : Memref sig .tc .vmem S2x6x128x128 .f32) (harg11 : arg11.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty)
    (f9 : BufTy.Contents (Elt F) arg9.view.ty) (f10 : BufTy.Contents (Elt F) arg10.view.ty) (f11 : BufTy.Contents (Elt F) arg11.view.ty) (n : ℕ) (hn : n ≤ k0_t1_loop.trips) :
    pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 f9 f10 f11 n
      = pb_k0_t1 (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 (arg9.view.junk (Val := Elt F)) (arg10.view.junk (Val := Elt F)) f11 n := by
  induction n with
  | zero => rw [pb_k0_t1.eq_1, pb_k0_t1.eq_1]
  | succ n ih =>
    rw [pb_k0_t1_succ (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 f9 f10 f11 ⟨n, hn⟩,
      pb_k0_t1_succ (F := F) 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 _ _ f11 ⟨n, hn⟩]
    rw [trip_indep 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 ⟨n, hn⟩ (arg9.view.writes (Elt F) f9 _) (arg9.view.junk (Val := Elt F))
        (arg10.view.writes (Elt F) f10 _) (arg10.view.junk (Val := Elt F)),
      trip_indep 𝒱 c bd i arg2 harg2 arg3 harg3 arg4 harg4 arg5 harg5 arg6 harg6 arg7 harg7 arg8 harg8 arg9 harg9 arg10 harg10 arg11 harg11 X_arg2 X_arg3 X_arg4 X_arg5 X_arg6 X_arg7 X_arg8 ⟨n, hn⟩ (arg9.view.writes (Elt F) (arg9.view.junk (Val := Elt F)) _) (arg9.view.junk (Val := Elt F))
        (arg10.view.writes (Elt F) (arg10.view.junk (Val := Elt F)) _) (arg10.view.junk (Val := Elt F)),
      ih (Nat.le_of_succ_le hn)]

set_option maxHeartbeats 1000000 in
/-- What the body's stores leave in each output's staging memref, as pieces (last first) IN CASE A (`scf.if` 0 taken: points 0, 16, 32, 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S2x1x768 .f32) (harg8 : arg8.IsWhole) (arg9 : Memref sig .tc .vmem S1x512x768 .f32) (harg9 : arg9.IsWhole) (arg10 : Memref sig .tc .vmem S1x512x768 .f32) (harg10 : arg10.IsWhole) (arg11 : Memref sig .tc .vmem S2x6x128x128 .f32) (harg11 : arg11.IsWhole) (hc0 : cond0_0 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S2x1x768 .f32) :
    Σ' (L7 : List (View.Piece (Elt F) S1x512x768 .f32)), Σ' (L8 : List (View.Piece (Elt F) S1x512x768 .f32)), { LS0 : List (View.Piece (Elt F) S2x6x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_hgrn_scan i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_hgrn_scan_eq_skeleton]; unfold cc0_hgrn_scan_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    rw [trips_indep _ _ _ _ _ _ _ _ _ _ _ _ _ _ _ _ _ _ _ _ _ _ _ _ _ _ _ _ _ _ _ _ _ _ _ (le_refl _)]
    isplitl [H7]; · iexists _; iexact H7
    isplitl [H8]; · iexists _; iexact H8
    iexists _; iexact HS0

set_option maxHeartbeats 1000000 in
/-- What the body's stores leave in each output's staging memref, as pieces (last first) IN CASE B (`scf.if` 0 not taken: points 1, 2, … 63: 60 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S2x1x768 .f32) (harg8 : arg8.IsWhole) (arg9 : Memref sig .tc .vmem S1x512x768 .f32) (harg9 : arg9.IsWhole) (arg10 : Memref sig .tc .vmem S1x512x768 .f32) (harg10 : arg10.IsWhole) (arg11 : Memref sig .tc .vmem S2x6x128x128 .f32) (harg11 : arg11.IsWhole) (hc0 : ¬cond0_0 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S2x1x768 .f32) (xs0 : Vec F S2x6x128x128 .f32) :
    Σ' (L7 : List (View.Piece (Elt F) S1x512x768 .f32)), Σ' (L8 : List (View.Piece (Elt F) S1x512x768 .f32)), { LS0 : List (View.Piece (Elt F) S2x6x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_hgrn_scan i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_hgrn_scan_eq_skeleton]; unfold cc0_hgrn_scan_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    rw [trips_indep _ _ _ _ _ _ _ _ _ _ _ _ _ _ _ _ _ _ _ _ _ _ _ _ _ _ _ _ _ _ _ _ _ _ _ (le_refl _)]
    isplitl [H7]; · iexists _; iexact H7
    isplitl [H8]; · iexists _; iexact H8
    iexists _; iexact HS0

end Cert.ScanIdeal.Whole

end
-- ==== Proof.ScanIdealFrame.lean ====
/-
  The scan kernel's frame: every tile's run in turn, the recurrent state carried from each to the next.
-/
module

public import proofs.«01_k».proof.Proof.ScanIdealRun
public import Idealize.ShloMosaic.Lib.Claim

@[expose] public section

-- membership in a rectangle of production extents (`View.cover_of_tiled`): the elaborator's structural look
-- recurses once per coordinate of the long axes
set_option maxRecDepth 16384

noncomputable section

namespace Cert.ScanIdeal.Whole

open Cert.ScanIdeal Cert.ScanIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 7 tile its block (48 stores of `S1x64x128`, checked by the kernel's evaluation: Lib/Ring.lean `Piece.tiledL`, linear in the pieces, through a loop's `@[irreducible]` trip theorem too), so they cover it. -/
theorem cover0_A_7 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S2x1x768 .f32) (harg8 : arg8.IsWhole) (arg9 : Memref sig .tc .vmem S1x512x768 .f32) (harg9 : arg9.IsWhole) (arg10 : Memref sig .tc .vmem S1x512x768 .f32) (harg10 : arg10.IsWhole) (arg11 : Memref sig .tc .vmem S2x6x128x128 .f32) (harg11 : arg11.IsWhole) (hc0 : cond0_0 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S2x1x768 .f32) (y : S1x512x768.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6).1 S1x64x128.size (by sl_kernel_rfl) y

/-- What case A leaves in output 7's staging buffer: its pieces read back over junk. -/
def out0_A_7 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S2x1x768 .f32) (harg8 : arg8.IsWhole) (arg9 : Memref sig .tc .vmem S1x512x768 .f32) (harg9 : arg9.IsWhole) (arg10 : Memref sig .tc .vmem S1x512x768 .f32) (harg10 : arg10.IsWhole) (arg11 : Memref sig .tc .vmem S2x6x128x128 .f32) (harg11 : arg11.IsWhole) (hc0 : cond0_0 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S2x1x768 .f32) : Vec F S1x512x768 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 x0 x1 x2 x3 x4 x5 x6).1)

/-- Case A's pieces for output 8 tile its block (48 stores of `S1x64x128`, checked by the kernel's evaluation: Lib/Ring.lean `Piece.tiledL`, linear in the pieces, through a loop's `@[irreducible]` trip theorem too), so they cover it. -/
theorem cover0_A_8 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S2x1x768 .f32) (harg8 : arg8.IsWhole) (arg9 : Memref sig .tc .vmem S1x512x768 .f32) (harg9 : arg9.IsWhole) (arg10 : Memref sig .tc .vmem S1x512x768 .f32) (harg10 : arg10.IsWhole) (arg11 : Memref sig .tc .vmem S2x6x128x128 .f32) (harg11 : arg11.IsWhole) (hc0 : cond0_0 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S2x1x768 .f32) (y : S1x512x768.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6).2.1 S1x64x128.size (by sl_kernel_rfl) y

/-- What case A leaves in output 8's staging buffer: its pieces read back over junk. -/
def out0_A_8 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S2x1x768 .f32) (harg8 : arg8.IsWhole) (arg9 : Memref sig .tc .vmem S1x512x768 .f32) (harg9 : arg9.IsWhole) (arg10 : Memref sig .tc .vmem S1x512x768 .f32) (harg10 : arg10.IsWhole) (arg11 : Memref sig .tc .vmem S2x6x128x128 .f32) (harg11 : arg11.IsWhole) (hc0 : cond0_0 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S2x1x768 .f32) : Vec F S1x512x768 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2 x3 x4 x5 x6).2.1)

/-- Case A's pieces for scratch `arg11`, which the kernel carries between points, cover it: one of them a store of the WHOLE buffer (Lib/Ring.lean `sl_whole_mem`). -/
theorem scover0_A_0 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S2x1x768 .f32) (harg8 : arg8.IsWhole) (arg9 : Memref sig .tc .vmem S1x512x768 .f32) (harg9 : arg9.IsWhole) (arg10 : Memref sig .tc .vmem S1x512x768 .f32) (harg10 : arg10.IsWhole) (arg11 : Memref sig .tc .vmem S2x6x128x128 .f32) (harg11 : arg11.IsWhole) (hc0 : cond0_0 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S2x1x768 .f32) (y : S2x6x128x128.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 hc0 x0 x1 x2 x3 x4 x5 x6).2.2.1 (by sl_whole_mem) y

/-- What case A leaves in scratch `arg11`: its pieces read back over junk. -/
def sout0_A_0 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S2x1x768 .f32) (harg8 : arg8.IsWhole) (arg9 : Memref sig .tc .vmem S1x512x768 .f32) (harg9 : arg9.IsWhole) (arg10 : Memref sig .tc .vmem S1x512x768 .f32) (harg10 : arg10.IsWhole) (arg11 : Memref sig .tc .vmem S2x6x128x128 .f32) (harg11 : arg11.IsWhole) (hc0 : cond0_0 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S2x1x768 .f32) : Vec F S2x6x128x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 x0 x1 x2 x3 x4 x5 x6).2.2.1)

/-- Case B's pieces for output 7 tile its block (48 stores of `S1x64x128`, checked by the kernel's evaluation: Lib/Ring.lean `Piece.tiledL`, linear in the pieces, through a loop's `@[irreducible]` trip theorem too), so they cover it. -/
theorem cover0_B_7 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S2x1x768 .f32) (harg8 : arg8.IsWhole) (arg9 : Memref sig .tc .vmem S1x512x768 .f32) (harg9 : arg9.IsWhole) (arg10 : Memref sig .tc .vmem S1x512x768 .f32) (harg10 : arg10.IsWhole) (arg11 : Memref sig .tc .vmem S2x6x128x128 .f32) (harg11 : arg11.IsWhole) (hc0 : ¬cond0_0 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S2x1x768 .f32) (xs0 : Vec F S2x6x128x128 .f32) (y : S1x512x768.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 xs0).1 S1x64x128.size (by sl_kernel_rfl) y

/-- What case B leaves in output 7's staging buffer: its pieces read back over junk. -/
def out0_B_7 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S2x1x768 .f32) (harg8 : arg8.IsWhole) (arg9 : Memref sig .tc .vmem S1x512x768 .f32) (harg9 : arg9.IsWhole) (arg10 : Memref sig .tc .vmem S1x512x768 .f32) (harg10 : arg10.IsWhole) (arg11 : Memref sig .tc .vmem S2x6x128x128 .f32) (harg11 : arg11.IsWhole) (hc0 : ¬cond0_0 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S2x1x768 .f32) (xs0 : Vec F S2x6x128x128 .f32) : Vec F S1x512x768 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 x0 x1 x2 x3 x4 x5 x6 xs0).1)

/-- Case B's pieces for output 8 tile its block (48 stores of `S1x64x128`, checked by the kernel's evaluation: Lib/Ring.lean `Piece.tiledL`, linear in the pieces, through a loop's `@[irreducible]` trip theorem too), so they cover it. -/
theorem cover0_B_8 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S2x1x768 .f32) (harg8 : arg8.IsWhole) (arg9 : Memref sig .tc .vmem S1x512x768 .f32) (harg9 : arg9.IsWhole) (arg10 : Memref sig .tc .vmem S1x512x768 .f32) (harg10 : arg10.IsWhole) (arg11 : Memref sig .tc .vmem S2x6x128x128 .f32) (harg11 : arg11.IsWhole) (hc0 : ¬cond0_0 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S2x1x768 .f32) (xs0 : Vec F S2x6x128x128 .f32) (y : S1x512x768.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 xs0).2.1 S1x64x128.size (by sl_kernel_rfl) y

/-- What case B leaves in output 8's staging buffer: its pieces read back over junk. -/
def out0_B_8 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S2x1x768 .f32) (harg8 : arg8.IsWhole) (arg9 : Memref sig .tc .vmem S1x512x768 .f32) (harg9 : arg9.IsWhole) (arg10 : Memref sig .tc .vmem S1x512x768 .f32) (harg10 : arg10.IsWhole) (arg11 : Memref sig .tc .vmem S2x6x128x128 .f32) (harg11 : arg11.IsWhole) (hc0 : ¬cond0_0 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S2x1x768 .f32) (xs0 : Vec F S2x6x128x128 .f32) : Vec F S1x512x768 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 x0 x1 x2 x3 x4 x5 x6 xs0).2.1)

/-- Case B's pieces for scratch `arg11`, which the kernel carries between points, cover it: 96 pieces of `S1x1x128x128` tiling it (Lib/Ring.lean `Piece.tiledL`). -/
theorem scover0_B_0 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S2x1x768 .f32) (harg8 : arg8.IsWhole) (arg9 : Memref sig .tc .vmem S1x512x768 .f32) (harg9 : arg9.IsWhole) (arg10 : Memref sig .tc .vmem S1x512x768 .f32) (harg10 : arg10.IsWhole) (arg11 : Memref sig .tc .vmem S2x6x128x128 .f32) (harg11 : arg11.IsWhole) (hc0 : ¬cond0_0 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S2x1x768 .f32) (xs0 : Vec F S2x6x128x128 .f32) (y : S2x6x128x128.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 xs0).2.2.1 S1x1x128x128.size (by sl_kernel_rfl) y

/-- What case B leaves in scratch `arg11`: its pieces read back over junk. -/
def sout0_B_0 (c : Dev nD) (i : grid0.Coords) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S2x1x768 .f32) (harg8 : arg8.IsWhole) (arg9 : Memref sig .tc .vmem S1x512x768 .f32) (harg9 : arg9.IsWhole) (arg10 : Memref sig .tc .vmem S1x512x768 .f32) (harg10 : arg10.IsWhole) (arg11 : Memref sig .tc .vmem S2x6x128x128 .f32) (harg11 : arg11.IsWhole) (hc0 : ¬cond0_0 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S2x1x768 .f32) (xs0 : Vec F S2x6x128x128 .f32) : Vec F S2x6x128x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 x0 x1 x2 x3 x4 x5 x6 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x512x768 .f32 × Vec F S1x512x768 .f32 × Vec F S2x6x128x128 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (X0_0 m c ⟨0, hn⟩) (X0_1 m c ⟨0, hn⟩) (X0_2 m c ⟨0, hn⟩) (X0_3 m c ⟨0, hn⟩) (X0_4 m c ⟨0, hn⟩) (X0_5 m c ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (X0_0 m c ⟨0, hn⟩) (X0_1 m c ⟨0, hn⟩) (X0_2 m c ⟨0, hn⟩) (X0_3 m c ⟨0, hn⟩) (X0_4 m c ⟨0, hn⟩) (X0_5 m c ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) ((hcond0_0 ⟨0, hn⟩).mpr (Nat.zero_mod _)) (X0_0 m c ⟨0, hn⟩) (X0_1 m c ⟨0, hn⟩) (X0_2 m c ⟨0, hn⟩) (X0_3 m c ⟨0, hn⟩) (X0_4 m c ⟨0, hn⟩) (X0_5 m c ⟨0, hn⟩) (iblk m c 6 ⟨0, hn⟩))
  | n + 1, hn =>
    if h0 : (n + 1) % 16 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (X0_0 m c ⟨n + 1, hn⟩) (X0_1 m c ⟨n + 1, hn⟩) (X0_2 m c ⟨n + 1, hn⟩) (X0_3 m c ⟨n + 1, hn⟩) (X0_4 m c ⟨n + 1, hn⟩) (X0_5 m c ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (X0_0 m c ⟨n + 1, hn⟩) (X0_1 m c ⟨n + 1, hn⟩) (X0_2 m c ⟨n + 1, hn⟩) (X0_3 m c ⟨n + 1, hn⟩) (X0_4 m c ⟨n + 1, hn⟩) (X0_5 m c ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) ((hcond0_0 ⟨n + 1, hn⟩).mpr h0) (X0_0 m c ⟨n + 1, hn⟩) (X0_1 m c ⟨n + 1, hn⟩) (X0_2 m c ⟨n + 1, hn⟩) (X0_3 m c ⟨n + 1, hn⟩) (X0_4 m c ⟨n + 1, hn⟩) (X0_5 m c ⟨n + 1, hn⟩) (iblk m c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (X0_0 m c ⟨n + 1, hn⟩) (X0_1 m c ⟨n + 1, hn⟩) (X0_2 m c ⟨n + 1, hn⟩) (X0_3 m c ⟨n + 1, hn⟩) (X0_4 m c ⟨n + 1, hn⟩) (X0_5 m c ⟨n + 1, hn⟩) (iblk m c 6 ⟨n + 1, hn⟩) (outsAt0 c n (Nat.lt_of_succ_lt hn)).2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (X0_0 m c ⟨n + 1, hn⟩) (X0_1 m c ⟨n + 1, hn⟩) (X0_2 m c ⟨n + 1, hn⟩) (X0_3 m c ⟨n + 1, hn⟩) (X0_4 m c ⟨n + 1, hn⟩) (X0_5 m c ⟨n + 1, hn⟩) (iblk m c 6 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (fun h => h0 ((hcond0_0 ⟨n + 1, hn⟩).mp h)) (X0_0 m c ⟨n + 1, hn⟩) (X0_1 m c ⟨n + 1, hn⟩) (X0_2 m c ⟨n + 1, hn⟩) (X0_3 m c ⟨n + 1, hn⟩) (X0_4 m c ⟨n + 1, hn⟩) (X0_5 m c ⟨n + 1, hn⟩) (iblk m c 6 ⟨n + 1, hn⟩) (outsAt0 c n (Nat.lt_of_succ_lt hn)).2.2)

/-- `outsAt0` at a point of case A: that case's contents. -/
theorem outsAt0_A (c : Dev nD) (t : Fin cfg0.N) (h0 : t.val % 16 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (X0_0 m c t) (X0_1 m c t) (X0_2 m c t) (X0_3 m c t) (X0_4 m c t) (X0_5 m c t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (X0_0 m c t) (X0_1 m c t) (X0_2 m c t) (X0_3 m c t) (X0_4 m c t) (X0_5 m c t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (X0_0 m c t) (X0_1 m c t) (X0_2 m c t) (X0_3 m c t) (X0_4 m c t) (X0_5 m c t) (iblk m c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (X0_0 m c t) (X0_1 m c t) (X0_2 m c t) (X0_3 m c t) (X0_4 m c t) (X0_5 m c t) (iblk m c 6 t) (outsAt0 m c (t.val - 1) (Nat.lt_of_le_of_lt (Nat.sub_le _ _) t.isLt)).2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (X0_0 m c t) (X0_1 m c t) (X0_2 m c t) (X0_3 m c t) (X0_4 m c t) (X0_5 m c t) (iblk m c 6 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (X0_0 m c t) (X0_1 m c t) (X0_2 m c t) (X0_3 m c t) (X0_4 m c t) (X0_5 m c t) (iblk m c 6 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => X0_5 m c t
    | ⟨6, _⟩ => iblk m c 6 t
    | ⟨7, _⟩ => (outsAt0 m c t.val t.isLt).1
    | ⟨8, _⟩ => (outsAt0 m c t.val t.isLt).2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 64 := lt_of_lt_of_eq t.isLt (show cfg0.N = 64 from N_0)
  by_cases h0 : t.val % 16 = 0
  · by_cases hz : t.val = 0
    · rw [PhiS_castSucc m c t, PhiS_zero m c _ _ hz, PhiA0_eq]
      rw [outsAt0_A m c t h0]
      unfold out0_A_7 out0_A_8 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (X0_0 m c t) (X0_1 m c t) (X0_2 m c t) (X0_3 m c t) (X0_4 m c t) (X0_5 m c t) (iblk m c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      iintro ⟨H0, H1, H2, H3, H4, H5, H6, ⟨%e7, H7⟩, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _)
    · rw [PhiS_castSucc m c t, PhiS_pos m c _ _ hz]
      rw [outsAt0_A m c t h0]
      unfold out0_A_7 out0_A_8 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ ((hcond0_0 t).mpr h0) (X0_0 m c t) (X0_1 m c t) (X0_2 m c t) (X0_3 m c t) (X0_4 m c t) (X0_5 m c t) (iblk m c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexists _; iexact HS0
      iintro ⟨H0, H1, H2, H3, H4, H5, H6, ⟨%e7, H7⟩, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _)
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_7 out0_B_8 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ (fun h => h0 ((hcond0_0 t).mp h)) (X0_0 m c t) (X0_1 m c t) (X0_2 m c t) (X0_3 m c t) (X0_4 m c t) (X0_5 m c t) (iblk m c 6 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      iintro ⟨H0, H1, H2, H3, H4, H5, H6, ⟨%e7, H7⟩, ⟨%e8, H8⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _)
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_ScanIdeal`'s statement (Defs.lean) at any `F` — Proof.lean cites it at `Bits`:
    `theorem Cert.Proof.claim : Cert.Claim := ⟨Cert.ScanIdeal.Gen.facts, fun m ρ _ => Cert.ScanIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.ScanIdeal.Whole

end
-- ==== Proof.ScanIdealValue.lean ====
/-
  What the scan kernel's run leaves in its two results, tile by tile.
-/
module

public import proofs.«01_k».proof.Proof.ScanIdealFrame
public import Idealize.ShloMosaic.Lib.Pipeline.Value

@[expose] public section

noncomputable section

namespace Cert.ScanIdeal.Whole

open Cert.ScanIdeal Cert.ScanIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the run's contents for that window after the body (`Gen.outsAt0`: its component 0), read through the window's block. -/
theorem flushed7 (c : Dev nD) (t : Fin cfg0.N) :
    (dats m 0 c).flushed 7 t = (cfg0.win 7).cut (grid0.coords t) ((outsAt0 m c t.val t.isLt).1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 16 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (X0_0 m c t) (X0_1 m c t) (X0_2 m c t) (X0_3 m c t) (X0_4 m c t) (X0_5 m c t) (iblk m c 6 t)) := by
  simp only [flushed7, outsAt0_A m c t h0]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 16 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (X0_0 m c t) (X0_1 m c t) (X0_2 m c t) (X0_3 m c t) (X0_4 m c t) (X0_5 m c t) (iblk m c 6 t) (outsAt0 m c (t.val - 1) (Nat.lt_of_le_of_lt (Nat.sub_le _ _) t.isLt)).2.2) := by
  simp only [flushed7, outsAt0_B m c t h0]

/-- The index map sends distinct grid points to distinct block indices (decided over the 64 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S4x8192x768.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 1), read through the window's block. -/
theorem flushed8 (c : Dev nD) (t : Fin cfg0.N) :
    (dats m 0 c).flushed 8 t = (cfg0.win 8).cut (grid0.coords t) ((outsAt0 m c t.val t.isLt).2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 16 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (X0_0 m c t) (X0_1 m c t) (X0_2 m c t) (X0_3 m c t) (X0_4 m c t) (X0_5 m c t) (iblk m c 6 t)) := by
  simp only [flushed8, outsAt0_A m c t h0]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 16 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (X0_0 m c t) (X0_1 m c t) (X0_2 m c t) (X0_3 m c t) (X0_4 m c t) (X0_5 m c t) (iblk m c 6 t) (outsAt0 m c (t.val - 1) (Nat.lt_of_le_of_lt (Nat.sub_le _ _) t.isLt)).2.2) := by
  simp only [flushed8, outsAt0_B m c t h0]

/-- The index map sends distinct grid points to distinct block indices (decided over the 64 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S4x8192x768.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_1) = (dats m 0 c).arrAt 8 cfg0.N :=
  (h c).1 8

/-- After the frame run, argument `main_arg0` is as launched: input window 5 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 5).trans (((dats m 0 c).arrAt_in 5 rfl _).trans ((A_eq m c 5).trans (V_main_arg0 m c)))

/-- After the frame run, argument `main_arg1` is as launched: input window 6 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 6).trans (((dats m 0 c).arrAt_in 6 rfl _).trans ((A_eq m c 6).trans (V_main_arg1 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post7 m r h c,
      post8 m r h c,
      kept_main_arg0 m r h c,
      kept_main_arg1 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 16)
    stores the scratch whole without reading what it held, and `acc` does not enter there (nor where no point meets the
    conditions: `acc`, never read). -/
def scAt0_0 (c : Dev nD) (n : ℕ) (hb : n < cfg0.N) (acc : Vec F S2x6x128x128 .f32) : Vec F S2x6x128x128 .f32 :=
  if h0 : n % 16 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) ((hcond0_0 (⟨n, hb⟩ : Fin cfg0.N)).mpr h0) (X0_0 m c (⟨n, hb⟩ : Fin cfg0.N)) (X0_1 m c (⟨n, hb⟩ : Fin cfg0.N)) (X0_2 m c (⟨n, hb⟩ : Fin cfg0.N)) (X0_3 m c (⟨n, hb⟩ : Fin cfg0.N)) (X0_4 m c (⟨n, hb⟩ : Fin cfg0.N)) (X0_5 m c (⟨n, hb⟩ : Fin cfg0.N)) (iblk m c 6 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) (fun h => h0 ((hcond0_0 (⟨n, hb⟩ : Fin cfg0.N)).mp h)) (X0_0 m c (⟨n, hb⟩ : Fin cfg0.N)) (X0_1 m c (⟨n, hb⟩ : Fin cfg0.N)) (X0_2 m c (⟨n, hb⟩ : Fin cfg0.N)) (X0_3 m c (⟨n, hb⟩ : Fin cfg0.N)) (X0_4 m c (⟨n, hb⟩ : Fin cfg0.N)) (X0_5 m c (⟨n, hb⟩ : Fin cfg0.N)) (iblk m c 6 (⟨n, hb⟩ : Fin cfg0.N)) acc

/-- WHAT CARRIED SCRATCH 0 HOLDS after point `t`: the fold of its run up to `t`, from the reset at the run's first point
    `16·(t / 16)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2 = Pipeline.accAt (fun n h => scAt0_0 m c n h (VS0_0.read (Elt F) VS0_0.junk)) (scAt0_0 m c) (16 * (t.val / 16)) (t.val % 16)
      (by have h1 := t.isLt; have h2 := Nat.div_add_mod t.val 16; omega) :=
  Pipeline.eq_accAt_of_mod (fun n h => (outsAt0 m c n h).2.2) 16 (fun n h => scAt0_0 m c n h (VS0_0.read (Elt F) VS0_0.junk)) (scAt0_0 m c)
    (fun n h hn => by
      have hN := lt_of_lt_of_eq h (show cfg0.N = 64 from N_0)
      by_cases h0 : n % 16 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 64 from N_0)
      by_cases h0 : (n + 1) % 16 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

end Cert.ScanIdeal.Whole

end
-- ==== Proof.FinishRead.lean ====
/-
  What the recurrence's finish leaves in its result, and what its reference leaves: the two directions added, each head
  divided by its root mean square and scaled, and the gate.
-/
module

public import proofs.«01_k».proof.Proof.Gen.FinishIdeal.Value
public import proofs.«01_k».proof.Proof.Gen.FinishIdeal
public import proofs.«01_k».proof.Proof.Gen.FinishRefIdeal.Read
public import proofs.«01_k».proof.Proof.FfnRead
public import Idealize.ShloMosaic.Lib.Pointwise
public import Idealize.ShloMosaic.Lib.Pipeline.ValueKit

@[expose] public section

set_option maxRecDepth 65536

noncomputable section

namespace Cert.FinishIdeal.Body

open Idealize.ShloMosaic Idealize.ShloMosaic.TcCoe Idealize.SL.Sem
open Idealize.ShloMosaic.Pipeline (Dat)
open Cert.FinishIdeal Cert.FinishIdeal.Gen Cert.FfnMath

/-- One over the root mean square of a head's lanes. -/
def invRms (f : Fin 128 → EReal) : EReal :=
  Ideal.rsqrt (Ideal.div (∑ j, f j * f j) (Ideal.ofBits .f32 0x43000000#32) + Ideal.ofBits .f32 0x3727C5AC#32)

/-- The lane `j` of the head that column `C` is in. -/
def mate (C : Fin 768) (j : Fin 128) : Fin 768 := ⟨C.val / 128 * 128 + j.val, by omega⟩

/-- A row's result at a column, from its sum over the directions, the scale and the gate. -/
def gatedNorm (s w z : Fin 768 → EReal) (C : Fin 768) : EReal := s C * invRms (fun j => s (mate C j)) * w C * silu (z C)

/-- A head's columns of the output block, from the head's columns of the operands. -/
def normVec (s : FVec Ideal S512x128 .f32) (w : FVec Ideal S1x128 .f32) (g : FVec Ideal S512x128 .f32) : FVec Ideal S512x128 .bf16 :=
  truncf .bf16
    (mulf
      (mulf
        (mulf s
          (broadcastTo S512x128
            (rsqrt
              (addf
                (divf
                  (shapeCast S512x1 (multiReduction .add [1] S512 (mulf s s) 0x00000000#32 reduces_S512x128_S512 (.inl rfl) rfl)
                    shapeCasts_S512_S512x1)
                  (broadcast S512x1 (Scalar.ofBits .f32 0x43000000#32)))
                (broadcast S512x1 (Scalar.ofBits .f32 0x3727C5AC#32))))
            broadcasts_S512x1_S512x128))
        (broadcastTo S512x128 w broadcasts_S1x128_S512x128))
      g)
    bitsLt_bf16_f32

/-- The head of the columns from `o` on. -/
def headVec (o : ℕ) (h1 : S512x768.Slices ![0, o] S512x128) (h2 : S1x768.Slices ![0, o] S1x128)
    (s g : FVec Ideal S512x768 .f32) (w : Vec Ideal S1x768 .f32) : FVec Ideal S512x128 .bf16 :=
  normVec (extractStridedSlice S512x128 ![0, o] s h1) (extractStridedSlice S1x128 ![0, o] w h2)
    (extractStridedSlice S512x128 ![0, o] g h1)

/-- A head's columns at an index. -/
theorem norm_apply (s : FVec Ideal S512x128 .f32) (w : FVec Ideal S1x128 .f32) (g : FVec Ideal S512x128 .f32) (r : Fin 512) (j : Fin 128) :
    normVec s w g (ix2 r j) = s (ix2 r j) * invRms (fun k => s (ix2 r k)) * w (ix2 0 j) * g (ix2 r j) := by
  unfold normVec
  pointwise
  rfl

/-- The gate at an index. -/
theorem gate_apply (z : Vec Ideal S512x768 .f32) (r : Fin 512) (C : Fin 768) : k0_pay5 z (ix2 r C) = silu (z (ix2 r C)) := by
  unfold k0_pay5
  pointwise
  exact congrArg (fun y => z (ix2 r C) * y) (sigm_eq (z (ix2 r C)))

/-- The columns of a head at an index. -/
theorem slice_apply {A : ℕ} (o : ℕ) (ho : o + 128 ≤ 768) (x : FVec Ideal ⟨2, ![A, 768]⟩ .f32)
    (h : (⟨2, ![A, 768]⟩ : Shape).Slices ![0, o] ⟨2, ![A, 128]⟩) (r : Fin A) (j : Fin 128) :
    extractStridedSlice (⟨2, ![A, 128]⟩ : Shape) ![0, o] x h (ix2 r j) = x (ix2 r ⟨o + j.val, by omega⟩) :=
  extractStridedSlice_apply _ _ _ _ _ fun a => by
    match a with
    | ⟨0, _⟩ => show r.val = 0 + r.val; omega
    | ⟨1, _⟩ => rfl

/-- A head of the output block at an index. -/
theorem head_apply (n : ℕ) (hn : n < 6) (h1 : S512x768.Slices ![0, n * 128] S512x128) (h2 : S1x768.Slices ![0, n * 128] S1x128)
    (x0 x1 z : Vec Ideal S512x768 .f32) (w : Vec Ideal S1x768 .f32) (r : Fin 512) (j : Fin 128) :
    headVec (n * 128) h1 h2 (k0_pay4 x0 x1) (k0_pay5 z) w (ix2 r j)
      = gatedNorm (fun C => x0 (ix2 r C) + x1 (ix2 r C)) (fun C => w (ix2 0 C)) (fun C => z (ix2 r C)) ⟨n * 128 + j.val, by omega⟩ := by
  have hs : ∀ k : Fin 128, extractStridedSlice S512x128 ![0, n * 128] (k0_pay4 x0 x1) h1 (ix2 r k)
      = (x0 (ix2 r ⟨n * 128 + k.val, by omega⟩) + x1 (ix2 r ⟨n * 128 + k.val, by omega⟩) : EReal) :=
    fun k => (slice_apply (n * 128) (by omega) _ _ r k).trans rfl
  have hw := slice_apply (n * 128) (by omega) w h2 (0 : Fin 1) j
  have hg := (slice_apply (n * 128) (by omega) (k0_pay5 z) h1 r j).trans (gate_apply z r _)
  have hm : ∀ k : Fin 128, mate ⟨n * 128 + j.val, by omega⟩ k = ⟨n * 128 + k.val, by omega⟩ := fun k =>
    Fin.ext (by show (n * 128 + j.val) / 128 * 128 + k.val = n * 128 + k.val; omega)
  unfold headVec
  refine (norm_apply _ _ _ r j).trans ?_
  unfold gatedNorm
  simp only [hm, hs]
  exact congrArg₂ (fun a b : EReal => _ * a * b) hw hg

/-- The six writes into the output block, the last first. -/
def pieces (x0 x1 z : Vec Ideal S512x768 .f32) (w : Vec Ideal S1x768 .f32) : List (View.Piece (Elt Ideal) S512x768 .bf16) :=
  [⟨Rect.unit ![0, 640] S512x128.size inb_S512x768_S512x128_0_640,
      headVec 640 slices_S512x768_o0_640_S512x128 slices_S1x768_o0_640_S1x128 (k0_pay4 x0 x1) (k0_pay5 z) w⟩,
   ⟨Rect.unit ![0, 512] S512x128.size inb_S512x768_S512x128_0_512,
      headVec 512 slices_S512x768_o0_512_S512x128 slices_S1x768_o0_512_S1x128 (k0_pay4 x0 x1) (k0_pay5 z) w⟩,
   ⟨Rect.unit ![0, 384] S512x128.size inb_S512x768_S512x128_0_384,
      headVec 384 slices_S512x768_o0_384_S512x128 slices_S1x768_o0_384_S1x128 (k0_pay4 x0 x1) (k0_pay5 z) w⟩,
   ⟨Rect.unit ![0, 256] S512x128.size inb_S512x768_S512x128_0_256,
      headVec 256 slices_S512x768_o0_256_S512x128 slices_S1x768_o0_256_S1x128 (k0_pay4 x0 x1) (k0_pay5 z) w⟩,
   ⟨Rect.unit ![0, 128] S512x128.size inb_S512x768_S512x128_0_128,
      headVec 128 slices_S512x768_o0_128_S512x128 slices_S1x768_o0_128_S1x128 (k0_pay4 x0 x1) (k0_pay5 z) w⟩,
   ⟨Rect.unit ![0, 0] S512x128.size inb_S512x768_S512x128_0_0,
      headVec 0 slices_S512x768_o0_0_S512x128 slices_S1x768_o0_0_S1x128 (k0_pay4 x0 x1) (k0_pay5 z) w⟩]

/-- The body's writes are these. -/
theorem out_eq (c : Dev nD) (i : grid0.Coords) (arg1 : Memref sig .tc .vmem S512x768 .f32) (harg1 : arg1.IsWhole)
    (arg2 : Memref sig .tc .vmem S512x768 .f32) (harg2 : arg2.IsWhole) (arg3 : Memref sig .tc .vmem S512x768 .f32) (harg3 : arg3.IsWhole)
    (arg4 : Memref sig .tc .vmem S1x768 .f32) (harg4 : arg4.IsWhole) (arg5 : Memref sig .tc .vmem S512x768 .bf16) (harg5 : arg5.IsWhole)
    (x0 x1 x2 : Vec Ideal S512x768 .f32) (x3 : Vec Ideal S1x768 .f32) :
    (kernelRun0_A c i arg1 harg1 arg2 harg2 arg3 harg3 arg4 harg4 arg5 harg5 x0 x1 x2 x3).1 = pieces x0 x1 x2 x3 := by
  have z2 : (![0, 0] : Fin 2 → ℕ) = fun _ => 0 := funext fun a => by fin_cases a <;> rfl
  have e : ∀ (b : Memref sig .tc .vmem S512x768 .f32) (hb : b.IsWhole) (x : Vec Ideal S512x768 .f32),
      View.readAt (Elt Ideal) b.view (Rect.unit ![0, 0] S512x768.size inb_S512x768_S512x768_0_0).toLoadRect (hb.unread x) = x := by
    intro b hb x; rw [View.readAt_eq_ld, Memref.IsWhole.read_unread]; exact View.ld_unit_zero z2 _ _
  have e4 : View.readAt (Elt Ideal) arg4.view (Rect.unit ![0, 0] S1x768.size inb_S1x768_S1x768_0_0).toLoadRect (harg4.unread x3) = x3 := by
    rw [View.readAt_eq_ld, Memref.IsWhole.read_unread]; exact View.ld_unit_zero z2 _ _
  unfold kernelRun0_A
  dsimp only
  delta kernelRun0_A.sl.r kernelRun0_A.sl.r_1 kernelRun0_A.sl.r_2 kernelRun0_A.sl.r_3 kernelRun0_A.sl.r_4 kernelRun0_A.sl.r_5
  simp only [e, e4]
  rfl

/-! ## The windows' blocks, and the result array -/

/-- Where each grid point's blocks begin, by the row tile the result's block is at. -/
theorem index_of : ∀ t : Fin grid0.N, (win0_0.index t 0 = win0_4.index t 0 ∧ win0_0.index t 1 = 0)
    ∧ (win0_1.index t 0 = win0_4.index t 0 ∧ win0_1.index t 1 = 0) ∧ (win0_2.index t 0 = win0_4.index t 0 ∧ win0_2.index t 1 = 2)
    ∧ (win0_3.index t 0 = 0 ∧ win0_3.index t 1 = 0) ∧ win0_4.index t 0 < 64 ∧ win0_4.index t 1 = 0 := by
  decide +kernel

variable (m : (ℓ : Loc nD τ sig) → Buf (Elt Ideal) ℓ)

/-- The argument arrays by a row of the result and a column. -/
abbrev aF (c : Dev nD) (R : Fin 32768) (C : Fin 768) : EReal := m ((c : Thread nD τ).loc main_arg0) (ix2 R C)
abbrev aB (c : Dev nD) (R : Fin 32768) (C : Fin 768) : EReal := m ((c : Thread nD τ).loc main_arg1) (ix2 R C)
abbrev aZ (c : Dev nD) (R : Fin 32768) (C : Fin 768) : EReal :=
  m ((c : Thread nD τ).loc main_arg2) (ix2 R (⟨1536 + C.val, by omega⟩ : Fin 4096))
abbrev aW (c : Dev nD) (C : Fin 768) : EReal := m ((c : Thread nD τ).loc main_arg3) (ix2 0 C)

/-- An element of the result. -/
def elem (c : Dev nD) (R : Fin 32768) (C : Fin 768) : EReal :=
  gatedNorm (fun C => aF m c R C + aB m c R C) (aW m c) (aZ m c R) C

/-- What the result array is shown to hold. -/
def G (c : Dev nD) : Buf (Elt Ideal) ((c : Thread nD τ).loc main_v0) := fun i : S32768x768.Idx => elem m c (i 0) (i 1)

/-- The row of the result that row `ρ` of grid point `t`'s block is. -/
def row (t : Fin cfg0.N) (ρ : Fin 512) : Fin 32768 :=
  ⟨512 * win0_4.index t 0 + ρ.val, by have := (index_of t).2.2.2.2.1; omega⟩

/-- The forward direction's block. -/
theorem iblk0 (c : Dev nD) (t : Fin cfg0.N) (ρ : Fin 512) (C : Fin 768) :
    (iblk m c 0 t : Vec Ideal S512x768 .f32) (ix2 ρ C) = aF m c (row t ρ) C := by
  have e := (index_of t).1
  refine congrArg (m ((c : Thread nD τ).loc main_arg0)) (funext fun a => ?_)
  match a with
  | ⟨0, _⟩ => exact Fin.ext (by show win0_0.index t 0 * 512 + 1 * ρ.val = 512 * win0_4.index t 0 + ρ.val; rw [e.1]; ring)
  | ⟨1, _⟩ => exact Fin.ext (by show win0_0.index t 1 * 768 + 1 * C.val = C.val; rw [e.2]; omega)

/-- The backward direction's block. -/
theorem iblk1 (c : Dev nD) (t : Fin cfg0.N) (ρ : Fin 512) (C : Fin 768) :
    (iblk m c 1 t : Vec Ideal S512x768 .f32) (ix2 ρ C) = aB m c (row t ρ) C := by
  have e := (index_of t).2.1
  refine congrArg (m ((c : Thread nD τ).loc main_arg1)) (funext fun a => ?_)
  match a with
  | ⟨0, _⟩ => exact Fin.ext (by show win0_1.index t 0 * 512 + 1 * ρ.val = 512 * win0_4.index t 0 + ρ.val; rw [e.1]; ring)
  | ⟨1, _⟩ => exact Fin.ext (by show win0_1.index t 1 * 768 + 1 * C.val = C.val; rw [e.2]; omega)

/-- The gate's block: the third part of the projection's columns. -/
theorem X2_apply (c : Dev nD) (t : Fin cfg0.N) (ρ : Fin 512) (C : Fin 768) :
    (X0_2 m c t : Vec Ideal S512x768 .f32) (ix2 ρ C) = aZ m c (row t ρ) C := by
  have e := (index_of t).2.2.1
  unfold X0_2 Pipeline.Window.fill
  rw [dif_pos (moved0_2 t _)]
  refine congrArg (m ((c : Thread nD τ).loc main_arg2)) (funext fun a => ?_)
  match a with
  | ⟨0, _⟩ => exact Fin.ext (by show win0_2.index t 0 * 512 + 1 * ρ.val = 512 * win0_4.index t 0 + ρ.val; rw [e.1]; ring)
  | ⟨1, _⟩ => exact Fin.ext (by show win0_2.index t 1 * 768 + 1 * C.val = 1536 + C.val; rw [e.2]; omega)

/-- The scale, whole at every point. -/
theorem iblk3 (c : Dev nD) (t : Fin cfg0.N) (C : Fin 768) : (iblk m c 3 t : Vec Ideal S1x768 .f32) (ix2 0 C) = aW m c C := by
  have e := (index_of t).2.2.2.1
  refine congrArg (m ((c : Thread nD τ).loc main_arg3)) (funext fun a => ?_)
  match a with
  | ⟨0, _⟩ => exact Fin.ext (by show win0_3.index t 0 * 1 + 1 * 0 = 0; rw [e.1])
  | ⟨1, _⟩ => exact Fin.ext (by show win0_3.index t 1 * 768 + 1 * C.val = C.val; rw [e.2]; omega)

/-- The six writes leave one function of the row and the column. -/
theorem block_apply (x0 x1 z : Vec Ideal S512x768 .f32) (w : Vec Ideal S1x768 .f32) (r : Fin 512) (C : Fin 768)
    (hc : ∃ p ∈ pieces x0 x1 z w, ix2 r C ∈ p.1.set) :
    View.canon (pieces x0 x1 z w) (ix2 r C)
      = gatedNorm (fun C => x0 (ix2 r C) + x1 (ix2 r C)) (fun C => w (ix2 0 C)) (fun C => z (ix2 r C)) C := by
  have hhead : ∀ (n : ℕ) (hn : n < 6) (o : ℕ) (ho : o = n * 128) (h1 : S512x768.Slices ![0, o] S512x128)
      (h2 : S1x768.Slices ![0, o] S1x128) (h : ∀ a, (![0, o] : Fin 2 → ℕ) a + S512x128.size a ≤ S512x768.size a) (y : S512x128.Idx),
      headVec o h1 h2 (k0_pay4 x0 x1) (k0_pay5 z) w y
        = (fun y : S512x768.Idx => gatedNorm (fun C => x0 (ix2 (y 0 : Fin 512) C) + x1 (ix2 (y 0 : Fin 512) C)) (fun C => w (ix2 0 C))
            (fun C => z (ix2 (y 0 : Fin 512) C)) (y 1)) ((Rect.unit (s := S512x768) ![0, o] S512x128.size h).emb y) := by
    intro n hn o ho h1 h2 h y
    subst ho
    have hy : y = ix2 (y 0 : Fin 512) (y 1 : Fin 128) := by
      funext a; match a with | ⟨0, _⟩ => rfl | ⟨1, _⟩ => rfl
    have y1 : (y 1).val < 128 := (y 1).isLt
    have e0 : (Rect.unit (s := S512x768) ![0, n * 128] S512x128.size h).emb y 0 = (y 0 : Fin 512) :=
      Fin.ext (by show 0 + 1 * (y 0).val = (y 0).val; omega)
    have e1 : (Rect.unit (s := S512x768) ![0, n * 128] S512x128.size h).emb y 1 = (⟨n * 128 + (y 1).val, by omega⟩ : Fin 768) :=
      Fin.ext (by show n * 128 + 1 * (y 1).val = n * 128 + (y 1).val; omega)
    dsimp only
    rw [e0, e1]
    exact (congrArg _ hy).trans (head_apply n hn h1 h2 x0 x1 z w (y 0 : Fin 512) (y 1 : Fin 128))
  refine Cert.FfnIdeal.Body.canon_of_agree (fun y : S512x768.Idx => gatedNorm (fun C => x0 (ix2 (y 0 : Fin 512) C) + x1 (ix2 (y 0 : Fin 512) C))
    (fun C => w (ix2 0 C)) (fun C => z (ix2 (y 0 : Fin 512) C)) (y 1)) (ix2 r C) (pieces x0 x1 z w) ?_ hc
  intro p hp
  simp only [pieces, List.mem_cons, List.not_mem_nil, or_false] at hp
  rcases hp with rfl | rfl | rfl | rfl | rfl | rfl
  · exact hhead 5 (by omega) 640 rfl _ _ inb_S512x768_S512x128_0_640
  · exact hhead 4 (by omega) 512 rfl _ _ inb_S512x768_S512x128_0_512
  · exact hhead 3 (by omega) 384 rfl _ _ inb_S512x768_S512x128_0_384
  · exact hhead 2 (by omega) 256 rfl _ _ inb_S512x768_S512x128_0_256
  · exact hhead 1 (by omega) 128 rfl _ _ inb_S512x768_S512x128_0_128
  · exact hhead 0 (by omega) 0 rfl _ _ inb_S512x768_S512x128_0_0

/-- What each grid point writes back is its block of the result. -/
theorem flushed_eq (c : Dev nD) (t : Fin cfg0.N) :
    (dats m 0 c).flushed 4 t = (win0_4.blk t).view.read (Elt Ideal) (G m c) := by
  rw [Value.flushed4_A]
  unfold out0_A_4
  rw [View.read_writes_junk_eq_canon]
  funext y
  have h0 : (y 0).val < 512 := (y 0).isLt
  have h1 : (y 1).val < 768 := (y 1).isLt
  have e := (index_of t).2.2.2.2
  have hc := cover0_A_4 c (grid0.coords t) (ms0_0 t) (hs0_0 t) (ms0_1 t) (hs0_1 t) (ms0_2 t) (hs0_2 t) (ms0_3 t) (hs0_3 t) (ms0_4 t)
    (hs0_4 t) (iblk m c 0 t) (iblk m c 1 t) (X0_2 m c t) (iblk m c 3 t) (ix2 (⟨(y 0).val, h0⟩ : Fin 512) (⟨(y 1).val, h1⟩ : Fin 768))
  rw [out_eq] at hc ⊢
  have e0 : (win0_4.rect t).emb y 0 = row t ⟨(y 0).val, h0⟩ :=
    Fin.ext (by show win0_4.index t 0 * 512 + 1 * (y 0).val = 512 * win0_4.index t 0 + (y 0).val; ring)
  have e1 : (win0_4.rect t).emb y 1 = (⟨(y 1).val, h1⟩ : Fin 768) :=
    Fin.ext (by show win0_4.index t 1 * 768 + 1 * (y 1).val = (y 1).val; rw [e.2]; omega)
  have hy : (fun a => (⟨(y a).val, (y a).isLt⟩ : Fin (S512x768.size a)))
      = ix2 (⟨(y 0).val, h0⟩ : Fin 512) (⟨(y 1).val, h1⟩ : Fin 768) := by
    funext a
    match a with
    | ⟨0, _⟩ => rfl
    | ⟨1, _⟩ => rfl
  show View.canon (pieces (iblk m c 0 t) (iblk m c 1 t) (X0_2 m c t) (iblk m c 3 t))
      (fun a => (⟨(y a).val, (y a).isLt⟩ : Fin (S512x768.size a))) = G m c ((win0_4.rect t).emb y)
  rw [hy, block_apply _ _ _ _ _ _ hc]
  unfold G
  rw [e0, e1]
  simp only [iblk0, iblk1, X2_apply, iblk3]
  rfl

/-- Every index of the result lies in the block of its row's tile. -/
theorem cover (i : S32768x768.Idx) : ∃ t : Fin cfg0.N, (cfg0.win 4).flush t = true ∧ i ∈ ((cfg0.win 4).blk t).view.set := by
  have h0 : (i 0).val < 32768 := (i 0).isLt
  have h1 : (i 1).val < 768 := (i 1).isLt
  have hc : ∀ a : Fin 64, ∃ t : Fin grid0.N, win0_4.index t 0 = a.val := by decide +kernel
  obtain ⟨t, ha⟩ := hc ⟨(i 0).val / 512, by omega⟩
  have e := (index_of t).2.2.2.2
  refine ⟨t, flush0_4 t, ?_⟩
  show i ∈ ((View.whole main_v0).slice (win0_4.rect t)).set
  rw [View.set_slice_whole, Rect.mem_set_unit]
  intro a
  match a with
  | ⟨0, _⟩ => show win0_4.index t 0 * 512 ≤ (i 0).val ∧ (i 0).val < win0_4.index t 0 * 512 + 512
              rw [ha]; dsimp only; omega
  | ⟨1, _⟩ => show win0_4.index t 1 * 768 ≤ (i 1).val ∧ (i 1).val < win0_4.index t 1 * 768 + 768
              rw [e.2]; omega

/-- The result array after the run. -/
theorem final (c : Dev nD) : (dats m 0 c).arrAt 4 cfg0.N = G m c :=
  (dats m 0 c).arrAt_eq_of_cover 4 (G m c) (fun t _ => flushed_eq m c t) cover

end Cert.FinishIdeal.Body

namespace Cert.FinishRefIdeal.Body

open Idealize.ShloMosaic Idealize.SL.Sem
open Cert.FinishRefIdeal Cert.FinishRefIdeal.Gen Cert.FinishRefIdeal.Read Cert.FfnMath
open Cert.FinishIdeal.Body (invRms mate gatedNorm)

variable (x0 x1 : (⟨S32768x768, .f32⟩ : BufTy).Contents (Elt Ideal)) (x2 : (⟨S32768x4096, .f32⟩ : BufTy).Contents (Elt Ideal))
  (x3 : (⟨S1x768, .f32⟩ : BufTy).Contents (Elt Ideal))

/-- The sum over the directions, by heads. -/
theorem sum_apply (r : Fin 32768) (h : Fin 6) (j : Fin 128) :
    val_main_v1 (F := Ideal) x0 x1 (ix3 r h j)
      = (x0 (ix2 r ⟨h.val * 128 + j.val, by omega⟩) + x1 (ix2 r ⟨h.val * 128 + j.val, by omega⟩) : EReal) := by
  have hi : idx_main_v1 (ix3 r h j) = ix2 r ⟨h.val * 128 + j.val, by omega⟩ := by
    funext a
    match a with
    | ⟨0, _⟩ => exact Fin.ext (by show ((r.val * 6 + h.val) * 128 + j.val) / 768 = r.val; omega)
    | ⟨1, _⟩ => exact Fin.ext (by show ((r.val * 6 + h.val) * 128 + j.val) % 768 = h.val * 128 + j.val; omega)
  rw [val_main_v1_apply, hi]
  rfl

/-- The scaled heads, by heads. -/
theorem normed_apply (r : Fin 32768) (h : Fin 6) (j : Fin 128) :
    val_main_v15 (F := Ideal) x0 x1 x3 (ix3 r h j)
      = val_main_v1 (F := Ideal) x0 x1 (ix3 r h j) * invRms (fun k => val_main_v1 (F := Ideal) x0 x1 (ix3 r h k))
          * x3 (ix2 0 ⟨h.val * 128 + j.val, by omega⟩) := by
  have hw : val_main_v12 (F := Ideal) x3 (ix2 h j) = x3 (ix2 0 ⟨h.val * 128 + j.val, by omega⟩) := by
    rw [val_main_v12_apply]
    refine congrArg x3 (funext fun a => ?_)
    match a with
    | ⟨0, _⟩ => rfl
    | ⟨1, _⟩ => exact Fin.ext (by show (h.val * 128 + j.val) % 768 = h.val * 128 + j.val; omega)
  rw [← hw]
  unfold val_main_v15 val_main_v14 val_main_v13 val_main_v11 val_main_v10 val_main_v9 val_main_v8 val_main_v7 val_main_v6 val_main_v5
    val_main_v4 val_main_v3 val_main_v2 val_main_cst val_main_cst_0 val_main_cst_1
  generalize val_main_v1 (F := Ideal) x0 x1 = s
  generalize val_main_v12 (F := Ideal) x3 = w
  pointwise
  rfl

/-- The gate. -/
theorem gate_apply (r : Fin 32768) (C : Fin 768) :
    val_main_v18 (F := Ideal) x2 (ix2 r C) = silu (x2 (ix2 r ⟨1536 + C.val, by omega⟩)) := by
  unfold val_main_v18 val_main_call0_v5 val_main_call0_v4 val_main_call0_v3 val_main_call0_v2 val_main_call0_v1 val_main_call0_v0
    val_main_v17 val_main_call0_cst val_main_call0_cst_0
  pointwise
  rfl

/-- The reference's result at an index. -/
theorem result_apply (r : Fin 32768) (C : Fin 768) :
    val_main_v20 (F := Ideal) x0 x1 x2 x3 (ix2 r C)
      = gatedNorm (fun C => x0 (ix2 r C) + x1 (ix2 r C)) (fun C => x3 (ix2 0 C)) (fun C => x2 (ix2 r ⟨1536 + C.val, by omega⟩)) C := by
  have hi : idx_main_v16 (ix2 r C) = ix3 r (⟨C.val / 128, by omega⟩ : Fin 6) (⟨C.val % 128, by omega⟩ : Fin 128) := by
    funext a
    match a with
    | ⟨0, _⟩ => exact Fin.ext (by show (r.val * 768 + C.val) / 768 = r.val; omega)
    | ⟨1, _⟩ => exact Fin.ext (by show (r.val * 768 + C.val) / 128 % 6 = C.val / 128; omega)
    | ⟨2, _⟩ => exact Fin.ext (by show (r.val * 768 + C.val) % 128 = C.val % 128; omega)
  have hC : ∀ h, (⟨C.val / 128 * 128 + C.val % 128, h⟩ : Fin 768) = C := fun h => Fin.ext (by show C.val / 128 * 128 + C.val % 128 = C.val; omega)
  show val_main_v16 (F := Ideal) x0 x1 x3 (ix2 r C) * val_main_v18 (F := Ideal) x2 (ix2 r C) = _
  rw [val_main_v16_apply, hi, normed_apply, gate_apply]
  simp only [sum_apply, hC]
  rfl

/-- The reference's result, on the arguments the kernel has, is the array the kernel's run ends with. -/
theorem result_eq (m : (ℓ : Loc Cert.FinishIdeal.nD Cert.FinishIdeal.τ Cert.FinishIdeal.sig) → Buf (Elt Ideal) ℓ)
    (m' : (ℓ : Loc Cert.FinishRefIdeal.nD Cert.FinishRefIdeal.τ Cert.FinishRefIdeal.sig) → Buf (Elt Ideal) ℓ) (c : Dev Cert.FinishIdeal.nD)
    (h : m' ((c.tc : Thread Cert.FinishRefIdeal.nD Cert.FinishRefIdeal.τ).loc Cert.FinishRefIdeal.main_arg0) = m ((c.tc : Thread Cert.FinishIdeal.nD Cert.FinishIdeal.τ).loc Cert.FinishIdeal.main_arg0)
      ∧ m' ((c.tc : Thread Cert.FinishRefIdeal.nD Cert.FinishRefIdeal.τ).loc Cert.FinishRefIdeal.main_arg1) = m ((c.tc : Thread Cert.FinishIdeal.nD Cert.FinishIdeal.τ).loc Cert.FinishIdeal.main_arg1)
      ∧ m' ((c.tc : Thread Cert.FinishRefIdeal.nD Cert.FinishRefIdeal.τ).loc Cert.FinishRefIdeal.main_arg2) = m ((c.tc : Thread Cert.FinishIdeal.nD Cert.FinishIdeal.τ).loc Cert.FinishIdeal.main_arg2)
      ∧ m' ((c.tc : Thread Cert.FinishRefIdeal.nD Cert.FinishRefIdeal.τ).loc Cert.FinishRefIdeal.main_arg3) = m ((c.tc : Thread Cert.FinishIdeal.nD Cert.FinishIdeal.τ).loc Cert.FinishIdeal.main_arg3)) :
    val_main_v20 (F := Ideal) (m' ((c.tc : Thread Cert.FinishRefIdeal.nD Cert.FinishRefIdeal.τ).loc Cert.FinishRefIdeal.main_arg0))
        (m' ((c.tc : Thread Cert.FinishRefIdeal.nD Cert.FinishRefIdeal.τ).loc Cert.FinishRefIdeal.main_arg1))
        (m' ((c.tc : Thread Cert.FinishRefIdeal.nD Cert.FinishRefIdeal.τ).loc Cert.FinishRefIdeal.main_arg2))
        (m' ((c.tc : Thread Cert.FinishRefIdeal.nD Cert.FinishRefIdeal.τ).loc Cert.FinishRefIdeal.main_arg3))
      = Cert.FinishIdeal.Body.G m c := by
  rw [h.1, h.2.1, h.2.2.1, h.2.2.2]
  funext i
  have hi : i = ix2 (i 0 : Fin 32768) (i 1 : Fin 768) := by
    funext a; match a with | ⟨0, _⟩ => rfl | ⟨1, _⟩ => rfl
  refine (congrArg _ hi).trans ((result_apply _ _ _ _ (i 0 : Fin 32768) (i 1 : Fin 768)).trans ?_)
  rfl

end Cert.FinishRefIdeal.Body

end
-- ==== Proof.ProjRead.lean ====
/-
  What the attention layers' projection leaves in its result, and what its reference leaves: the product.
-/
module

public import proofs.«01_k».proof.Proof.Gen.ProjIdeal.Value
public import proofs.«01_k».proof.Proof.Gen.ProjRefIdeal.Read
public import Idealize.ShloMosaic.Lib.Pointwise
public import Idealize.ShloMosaic.Lib.Pipeline.ValueKit

@[expose] public section

set_option maxRecDepth 16384

noncomputable section

namespace Cert.ProjIdeal.Body

open Idealize.ShloMosaic Idealize.ShloMosaic.TcCoe Idealize.SL.Sem
open Idealize.ShloMosaic.Pipeline (Dat)
open Cert.ProjIdeal Cert.ProjIdeal.Gen

/-- A tile's payload at an index. -/
theorem pay_apply (x : Vec Ideal S512x1024 .f32) (w : Vec Ideal S1024x2560 .bf16) (r : Fin 512) (q : Fin 2560) :
    k0_pay1 x w (ix2 r q) = ∑ k : Fin 1024, x (ix2 r k) * w (ix2 k q) := by
  unfold k0_pay1
  pointwise

variable (m : (ℓ : Loc nD τ sig) → Buf (Elt Ideal) ℓ)

/-- The argument arrays by their coordinates. -/
abbrev aX (c : Dev nD) (r : Fin 32768) (k : Fin 1024) : EReal := m ((c : Thread nD τ).loc main_arg0) (ix2 r k)
abbrev aW (c : Dev nD) (k : Fin 1024) (q : Fin 2560) : EReal := m ((c : Thread nD τ).loc main_arg1) (ix2 k q)

/-- An element of the product. -/
abbrev prod (c : Dev nD) (r : Fin 32768) (q : Fin 2560) : EReal := ∑ k : Fin 1024, aX m c r k * aW m c k q

/-- What the result array is shown to hold. -/
def G (c : Dev nD) : Buf (Elt Ideal) ((c : Thread nD τ).loc main_v0) := fun i : S32768x2560.Idx => prod m c (i 0) (i 1)

/-- Where each grid point's blocks begin. -/
theorem index_of : ∀ t : Fin grid0.N, win0_0.index t 0 = win0_2.index t 0 ∧ win0_0.index t 1 = 0
    ∧ win0_1.index t 0 = 0 ∧ win0_1.index t 1 = 0 ∧ win0_2.index t 1 = 0 := by
  decide +kernel

/-- The result array after the run. -/
theorem final (c : Dev nD) : (dats m 0 c).arrAt 2 cfg0.N = G m c := by
  refine (dats m 0 c).arrAt_eq_of_covers 2 _ (by decide +kernel) fun t hf y => ?_
  blk_simp
  rw [after0_2]
  frame_out
  obtain ⟨e0, e1, e2, e3, e4⟩ := index_of t
  have hy : y = ix2 (y 0 : Fin 512) (y 1 : Fin 2560) := by
    funext a; match a with | ⟨0, _⟩ => rfl | ⟨1, _⟩ => rfl
  refine (congrArg _ hy).trans ((pay_apply _ _ (y 0 : Fin 512) (y 1 : Fin 2560)).trans ?_)
  refine Finset.sum_congr rfl fun k _ => congrArg₂ (fun a b : EReal => a * b) ?_ ?_
  · refine congrArg (m ((c : Thread nD τ).loc main_arg0)) (funext fun a => ?_)
    match a with
    | ⟨0, _⟩ => exact Fin.ext (by
        show win0_0.index t 0 * 512 + 1 * (y 0).val = win0_2.index t 0 * 512 + 1 * (y 0).val; rw [e0])
    | ⟨1, _⟩ => exact Fin.ext (by show win0_0.index t 1 * 1024 + 1 * k.val = k.val; rw [e1]; omega)
  · refine congrArg (m ((c : Thread nD τ).loc main_arg1)) (funext fun a => ?_)
    match a with
    | ⟨0, _⟩ => exact Fin.ext (by show win0_1.index t 0 * 1024 + 1 * k.val = k.val; rw [e2]; omega)
    | ⟨1, _⟩ => exact Fin.ext (by
        show win0_1.index t 1 * 2560 + 1 * (y 1).val = win0_2.index t 1 * 2560 + 1 * (y 1).val; rw [e3, e4])

end Cert.ProjIdeal.Body

namespace Cert.ProjRefIdeal.Body

open Idealize.ShloMosaic Idealize.SL.Sem
open Cert.ProjRefIdeal Cert.ProjRefIdeal.Gen Cert.ProjRefIdeal.Read

/-- The reference's result at an index. -/
theorem result_apply (x : (⟨S32768x1024, .f32⟩ : BufTy).Contents (Elt Ideal)) (w : (⟨S1024x2560, .bf16⟩ : BufTy).Contents (Elt Ideal))
    (r : Fin 32768) (q : Fin 2560) :
    val_main_v2 (F := Ideal) x w (ix2 r q) = ∑ k : Fin 1024, (x (ix2 r k) * w (ix2 k q) : EReal) := by
  unfold val_main_v2 val_main_v1 val_main_v0
  pointwise

/-- The reference's result, on the arguments the kernel has, is the array the kernel's run ends with. -/
theorem result_eq (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ) (c : Dev Cert.ProjIdeal.nD)
    (h0 : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
    (h1 : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) :
    val_main_v2 (F := Ideal) (m' ((c.tc : Thread Cert.ProjRefIdeal.nD Cert.ProjRefIdeal.τ).loc Cert.ProjRefIdeal.main_arg0))
        (m' ((c.tc : Thread Cert.ProjRefIdeal.nD Cert.ProjRefIdeal.τ).loc Cert.ProjRefIdeal.main_arg1))
      = Cert.ProjIdeal.Body.G m c := by
  rw [h0, h1]
  funext i
  have hi : i = ix2 (i 0 : Fin 32768) (i 1 : Fin 2560) := by
    funext a; match a with | ⟨0, _⟩ => rfl | ⟨1, _⟩ => rfl
  refine (congrArg _ hi).trans ((result_apply _ _ (i 0 : Fin 32768) (i 1 : Fin 2560)).trans ?_)
  rfl

end Cert.ProjRefIdeal.Body

end
-- ==== Proof.WideRead.lean ====
/-
  What the recurrent layers' projection leaves in its result, and what its reference leaves: the product.
-/
module

public import proofs.«01_k».proof.Proof.Gen.WideIdeal.Value
public import proofs.«01_k».proof.Proof.Gen.WideRefIdeal.Read
public import Idealize.ShloMosaic.Lib.Pointwise
public import Idealize.ShloMosaic.Lib.Pipeline.ValueKit

@[expose] public section

set_option maxRecDepth 16384

noncomputable section

namespace Cert.WideIdeal.Body

open Idealize.ShloMosaic Idealize.ShloMosaic.TcCoe Idealize.SL.Sem
open Idealize.ShloMosaic.Pipeline (Dat)
open Cert.WideIdeal Cert.WideIdeal.Gen

/-- A tile's payload at an index. -/
theorem pay_apply (x : Vec Ideal S512x1024 .f32) (w : Vec Ideal S1024x4096 .bf16) (r : Fin 512) (q : Fin 4096) :
    k0_pay1 x w (ix2 r q) = ∑ k : Fin 1024, x (ix2 r k) * w (ix2 k q) := by
  unfold k0_pay1
  pointwise

variable (m : (ℓ : Loc nD τ sig) → Buf (Elt Ideal) ℓ)

/-- The argument arrays by their coordinates. -/
abbrev aX (c : Dev nD) (r : Fin 32768) (k : Fin 1024) : EReal := m ((c : Thread nD τ).loc main_arg0) (ix2 r k)
abbrev aW (c : Dev nD) (k : Fin 1024) (q : Fin 4096) : EReal := m ((c : Thread nD τ).loc main_arg1) (ix2 k q)

/-- An element of the product. -/
abbrev prod (c : Dev nD) (r : Fin 32768) (q : Fin 4096) : EReal := ∑ k : Fin 1024, aX m c r k * aW m c k q

/-- What the result array is shown to hold. -/
def G (c : Dev nD) : Buf (Elt Ideal) ((c : Thread nD τ).loc main_v0) := fun i : S32768x4096.Idx => prod m c (i 0) (i 1)

/-- Where each grid point's blocks begin. -/
theorem index_of : ∀ t : Fin grid0.N, win0_0.index t 0 = win0_2.index t 0 ∧ win0_0.index t 1 = 0
    ∧ win0_1.index t 0 = 0 ∧ win0_1.index t 1 = 0 ∧ win0_2.index t 1 = 0 := by
  decide +kernel

/-- The result array after the run. -/
theorem final (c : Dev nD) : (dats m 0 c).arrAt 2 cfg0.N = G m c := by
  refine (dats m 0 c).arrAt_eq_of_covers 2 _ (by decide +kernel) fun t hf y => ?_
  blk_simp
  rw [after0_2]
  frame_out
  obtain ⟨e0, e1, e2, e3, e4⟩ := index_of t
  have hy : y = ix2 (y 0 : Fin 512) (y 1 : Fin 4096) := by
    funext a; match a with | ⟨0, _⟩ => rfl | ⟨1, _⟩ => rfl
  refine (congrArg _ hy).trans ((pay_apply _ _ (y 0 : Fin 512) (y 1 : Fin 4096)).trans ?_)
  refine Finset.sum_congr rfl fun k _ => congrArg₂ (fun a b : EReal => a * b) ?_ ?_
  · refine congrArg (m ((c : Thread nD τ).loc main_arg0)) (funext fun a => ?_)
    match a with
    | ⟨0, _⟩ => exact Fin.ext (by
        show win0_0.index t 0 * 512 + 1 * (y 0).val = win0_2.index t 0 * 512 + 1 * (y 0).val; rw [e0])
    | ⟨1, _⟩ => exact Fin.ext (by show win0_0.index t 1 * 1024 + 1 * k.val = k.val; rw [e1]; omega)
  · refine congrArg (m ((c : Thread nD τ).loc main_arg1)) (funext fun a => ?_)
    match a with
    | ⟨0, _⟩ => exact Fin.ext (by show win0_1.index t 0 * 1024 + 1 * k.val = k.val; rw [e2]; omega)
    | ⟨1, _⟩ => exact Fin.ext (by
        show win0_1.index t 1 * 4096 + 1 * (y 1).val = win0_2.index t 1 * 4096 + 1 * (y 1).val; rw [e3, e4])

end Cert.WideIdeal.Body

namespace Cert.WideRefIdeal.Body

open Idealize.ShloMosaic Idealize.SL.Sem
open Cert.WideRefIdeal Cert.WideRefIdeal.Gen Cert.WideRefIdeal.Read

/-- The reference's result at an index. -/
theorem result_apply (x : (⟨S32768x1024, .f32⟩ : BufTy).Contents (Elt Ideal)) (w : (⟨S1024x4096, .bf16⟩ : BufTy).Contents (Elt Ideal))
    (r : Fin 32768) (q : Fin 4096) :
    val_main_v1 (F := Ideal) x w (ix2 r q) = ∑ k : Fin 1024, (x (ix2 r k) * w (ix2 k q) : EReal) := by
  unfold val_main_v1 val_main_v0
  pointwise

/-- The reference's result, on the arguments the kernel has, is the array the kernel's run ends with. -/
theorem result_eq (m : (ℓ : Loc Cert.WideIdeal.nD Cert.WideIdeal.τ Cert.WideIdeal.sig) → Buf (Elt Ideal) ℓ)
    (m' : (ℓ : Loc Cert.WideRefIdeal.nD Cert.WideRefIdeal.τ Cert.WideRefIdeal.sig) → Buf (Elt Ideal) ℓ) (c : Dev Cert.WideIdeal.nD)
    (h0 : m' ((c.tc : Thread Cert.WideRefIdeal.nD Cert.WideRefIdeal.τ).loc Cert.WideRefIdeal.main_arg0) = m ((c.tc : Thread Cert.WideIdeal.nD Cert.WideIdeal.τ).loc Cert.WideIdeal.main_arg0))
    (h1 : m' ((c.tc : Thread Cert.WideRefIdeal.nD Cert.WideRefIdeal.τ).loc Cert.WideRefIdeal.main_arg1) = m ((c.tc : Thread Cert.WideIdeal.nD Cert.WideIdeal.τ).loc Cert.WideIdeal.main_arg1)) :
    val_main_v1 (F := Ideal) (m' ((c.tc : Thread Cert.WideRefIdeal.nD Cert.WideRefIdeal.τ).loc Cert.WideRefIdeal.main_arg0))
        (m' ((c.tc : Thread Cert.WideRefIdeal.nD Cert.WideRefIdeal.τ).loc Cert.WideRefIdeal.main_arg1))
      = Cert.WideIdeal.Body.G m c := by
  rw [h0, h1]
  funext i
  have hi : i = ix2 (i 0 : Fin 32768) (i 1 : Fin 4096) := by
    funext a; match a with | ⟨0, _⟩ => rfl | ⟨1, _⟩ => rfl
  refine (congrArg _ hi).trans ((result_apply _ _ (i 0 : Fin 32768) (i 1 : Fin 4096)).trans ?_)
  rfl

end Cert.WideRefIdeal.Body

end
-- ==== Proof.OutMath.lean ====
/-
  The attention into the memory over the extended reals: the heads' logits, weights and results as the reference states
  them, and that the kernel's form, over the lanes of all heads with a mask for one of them, is the same.
-/
module

public import proofs.«01_k».proof.Proof.FfnMath

@[expose] public section

noncomputable section

namespace Cert.OutMath

open Idealize.ShloMosaic
open scoped BigOperators

/-- The scale of the logits, 64^(-1/2). -/
def scale : EReal := Ideal.ofBits .f32 0x3E000000#32

theorem scale_eq : scale = ((1 / 8 : ℝ) : EReal) := by
  unfold scale
  simp [Ideal.ofBits, Ideal.ieee, -EReal.coe_mul]
  norm_num

/-- The least element, with which the largest of a row begins. -/
theorem least_eq : Ideal.ofBits .f32 0xFF800000#32 = ⊥ := by
  simp [Ideal.ofBits, Ideal.ieee]

/-- Lane `e` of head `h`. -/
def lane (h : Fin 4) (e : Fin 64) : Fin 256 := ⟨h.val * 64 + e.val, by omega⟩

/-- A scaled logit of head `h`. -/
def logit (q k : Fin 256 → EReal) (h : Fin 4) : EReal := ∑ e, q (lane h e) * scale * k (lane h e)

/-- The exponentials of a row less its largest. -/
def weight (s : Fin 256 → EReal) (m : Fin 256) : EReal := Ideal.exp (s m - Finset.fold max ⊥ s Finset.univ)

/-- What head `h` reads from the memory at its lane `e`. -/
def recall (q : Fin 256 → EReal) (k v : Fin 256 → Fin 256 → EReal) (h : Fin 4) (e : Fin 64) : EReal :=
  ∑ m, v m (lane h e) * Ideal.div (weight (fun m => logit q (k m) h) m) (∑ m, weight (fun m => logit q (k m) h) m)

/-- The sum over all lanes of what a head's mask leaves is the sum over the head's lanes. -/
theorem sum_masked (f : Fin 256 → EReal) (h : Fin 4) :
    (∑ x : Fin 256, if x.val / 64 = h.val then f x else 0) = ∑ e, f (lane h e) := by
  have e1 : ∀ (a : Fin 4) (e : Fin 64), finProdFinEquiv (m := 4) (n := 64) (a, e) = lane a e := fun a e =>
    Fin.ext (by simp [finProdFinEquiv, lane]; omega)
  rw [← (finProdFinEquiv (m := 4) (n := 64)).sum_comp, Fintype.sum_prod_type]
  rw [Finset.sum_eq_single h]
  · refine Finset.sum_congr rfl fun e _ => ?_
    rw [e1, if_pos (by show (h.val * 64 + e.val) / 64 = h.val; omega)]
  · intro a _ ha
    refine Finset.sum_eq_zero fun e _ => ?_
    refine (congrArg (fun y : Fin 256 => if y.val / 64 = h.val then f y else 0) (e1 a e)).trans (if_neg fun hh => ha ?_)
    have : (a.val * 64 + e.val) / 64 = h.val := hh
    exact Fin.ext (by omega)
  · simp

/-- A sum times a nonnegative real is the sum of the products. -/
theorem sum_mul_real {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- The kernel's logits: the mask over all lanes, and the scale after the product. -/
theorem logit_eq (q k : Fin 256 → EReal) (h : Fin 4) :
    (∑ x : Fin 256, if x.val / 64 = h.val then q x * k x else 0) * scale = logit q k h := by
  have h0 : 0 ≤ scale := by rw [scale_eq]; exact_mod_cast (by norm_num : (0 : ℝ) ≤ 1 / 8)
  have ht : scale ≠ ⊤ := by rw [scale_eq]; exact EReal.coe_ne_top _
  rw [sum_masked (fun x => q x * k x), sum_mul_real _ _ h0 ht]
  exact Finset.sum_congr rfl fun e _ => mul_right_comm _ _ _

/-- An extended real that is neither infinity. -/
def IsReal (x : EReal) : Prop := x ≠ ⊥ ∧ x ≠ ⊤

theorem IsReal.coe {x : EReal} (h : IsReal x) : ∃ r : ℝ, x = (r : EReal) := ⟨x.toReal, (EReal.coe_toReal h.2 h.1).symm⟩

theorem sum_real {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The logits of finite rows are real. -/
theorem logit_real (q k : Fin 256 → EReal) (h : Fin 4) (hq : ∀ x, IsReal (q x)) (hk : ∀ x, IsReal (k x)) :
    ∃ r : ℝ, logit q k h = (r : EReal) := by
  choose a ha using fun x => (hq x).coe
  choose b hb using fun x => (hk x).coe
  refine ⟨∑ e, a (lane h e) * (1 / 8) * b (lane h e), ?_⟩
  unfold logit
  rw [← sum_real]
  refine Finset.sum_congr rfl fun e _ => ?_
  rw [ha, hb, scale_eq, EReal.coe_mul, EReal.coe_mul]

/-- The weights of a row of reals sum to a positive real. -/
theorem weight_sum (s : Fin 256 → EReal) (hs : ∀ m, ∃ r : ℝ, s m = (r : EReal)) :
    ∃ l : ℝ, 0 < l ∧ ∑ m, weight s m = (l : EReal) := by
  choose r hr using hs
  have hm : ∃ M : ℝ, Finset.fold max ⊥ s Finset.univ = (M : EReal) := by
    have h1 : Finset.fold max ⊥ s Finset.univ < ⊤ :=
      (Finset.fold_max_lt _).2 ⟨bot_lt_top, fun x _ => by rw [hr]; exact EReal.coe_lt_top _⟩
    have h2 : ⊥ < Finset.fold max ⊥ s Finset.univ :=
      (Finset.lt_fold_max _).2 (Or.inr ⟨0, Finset.mem_univ _, by rw [hr]; exact EReal.bot_lt_coe _⟩)
    exact IsReal.coe ⟨h2.ne', h1.ne⟩
  obtain ⟨M, hM⟩ := hm
  refine ⟨∑ m, Real.exp (r m - M), Finset.sum_pos (fun m _ => Real.exp_pos _) Finset.univ_nonempty, ?_⟩
  rw [← sum_real]
  refine Finset.sum_congr rfl fun m _ => ?_
  unfold weight
  rw [hM, hr, ← EReal.coe_sub]
  rfl

/-- The quotient of a masked sum, at a lane of another head, is zero; -/
theorem head_other (w : Fin 256 → EReal) (v : Fin 256 → EReal) {l : ℝ} (hl : 0 < l) (hw : ∑ m, w m = (l : EReal)) :
    Ideal.div (∑ m : Fin 256, (if False then w m * v m else 0)) (∑ m, w m) = 0 := by
  have : ((l : ℝ) : EReal) ≠ 0 := by exact_mod_cast hl.ne'
  rw [hw, Ideal.div, if_neg this]
  simp

/-- at a lane of the head it is the sum of the quotients. -/
theorem head_own (w : Fin 256 → EReal) (v : Fin 256 → EReal) {l : ℝ} (hl : 0 < l) (hw : ∑ m, w m = (l : EReal)) :
    Ideal.div (∑ m : Fin 256, (if True then w m * v m else 0)) (∑ m, w m)
      = ∑ m, v m * Ideal.div (w m) (∑ m, w m) := by
  have h : ((l : ℝ) : EReal) ≠ 0 := by exact_mod_cast hl.ne'
  have h0 : (0 : EReal) ≤ ((l : ℝ) : EReal)⁻¹ := by
    rw [← EReal.coe_inv]; exact_mod_cast (inv_pos.2 hl).le
  have ht : ((l : ℝ) : EReal)⁻¹ ≠ ⊤ := by rw [← EReal.coe_inv]; exact EReal.coe_ne_top _
  rw [hw, Ideal.div, if_neg h]
  simp only [if_true]
  rw [sum_mul_real _ _ h0 ht]
  refine Finset.sum_congr rfl fun m _ => ?_
  rw [Ideal.div, if_neg h, mul_comm (w m), mul_assoc]

/-- A head's result over all lanes, in the kernel's form. -/
def masked (q : Fin 256 → EReal) (k v : Fin 256 → Fin 256 → EReal) (h : Fin 4) (x : Fin 256) : EReal :=
  Ideal.div
    (∑ m, if x.val / 64 = h.val then weight (fun m => logit q (k m) h) m * v m x else 0)
    (∑ m, weight (fun m => logit q (k m) h) m)

/-- The heads' results added up are, at a lane, the result of the lane's head. -/
theorem masked_sum (q : Fin 256 → EReal) (k v : Fin 256 → Fin 256 → EReal) (hq : ∀ x, IsReal (q x))
    (hk : ∀ m x, IsReal (k m x)) (h : Fin 4) (e : Fin 64) :
    0 + masked q k v 0 (lane h e) + masked q k v 1 (lane h e) + masked q k v 2 (lane h e) + masked q k v 3 (lane h e)
      = recall q k v h e := by
  have key : ∀ a : Fin 4, masked q k v a (lane h e) = if a = h then recall q k v h e else 0 := by
    intro a
    obtain ⟨l, hl, hw⟩ := weight_sum (fun m => logit q (k m) a) fun m => logit_real q (k m) a hq (hk m)
    have hx : (lane h e).val / 64 = h.val := by show (h.val * 64 + e.val) / 64 = h.val; omega
    unfold masked
    by_cases ha : a = h
    · subst ha
      rw [if_pos rfl, hx]
      have t : (a.val = a.val) = True := eq_true rfl
      simp only [t]
      exact head_own _ (fun m => v m (lane a e)) hl hw
    · rw [if_neg ha, hx]
      have t : (h.val = a.val) = False := eq_false fun hh => ha (Fin.ext hh.symm)
      simp only [t]
      exact head_other _ (fun m => v m (lane h e)) hl hw
  simp only [key]
  fin_cases h <;> simp

/-- The output projection's row: the layer's own mixture through the first 768 rows of `W`, and what the heads recall
    through the last 256. -/
def outRow (mixed : Fin 768 → EReal) (R : Fin 4 → Fin 64 → EReal) (W : Fin 1024 → Fin 1024 → EReal) (d : Fin 1024) : EReal :=
  (∑ j : Fin 768, mixed j * W ⟨j.val, by omega⟩ d)
    + ∑ j : Fin 256, R ⟨j.val / 64, by omega⟩ ⟨j.val % 64, by omega⟩ * W ⟨768 + j.val, by omega⟩ d

end Cert.OutMath

end
-- ==== Proof.OutLnRead.lean ====
/-
  What the output projection's kernel leaves in its result, read at an index: a row of the result is the normalised sum
  of the scaled input row and the projection of the mixture and of what the four heads recall from the memory, and the
  blocks fill the result.
-/
module

public import proofs.«01_k».proof.Proof.Gen.OutLnIdeal.Value
public import proofs.«01_k».proof.Proof.Gen.OutLnIdeal
public import proofs.«01_k».proof.Proof.FfnRead
public import proofs.«01_k».proof.Proof.OutMath
public import Idealize.ShloMosaic.Lib.Pointwise
public import Idealize.ShloMosaic.Lib.Pipeline.ValueKit

@[expose] public section

set_option maxRecDepth 65536

noncomputable section

namespace Cert.OutLnIdeal.Body

open Idealize.ShloMosaic Idealize.ShloMosaic.TcCoe Idealize.SL.Sem
open Idealize.ShloMosaic.Pipeline (Dat)
open Cert.OutLnIdeal Cert.OutLnIdeal.Gen Cert.FfnMath Cert.OutMath

/-- The lanes of a head. -/
def lanes (lo hi : BitVec 32) : IVec S256x256 1 :=
  broadcastTo S256x256
    (shapeCast S1x256
      (andi (cmpi .sge (iota .tc S1x256 32 [1] iota_S1x256_d1_w32) (broadcast S1x256 lo))
        (cmpi .slt (iota .tc S1x256 32 [1] iota_S1x256_d1_w32) (broadcast S1x256 hi)))
      shapeCasts_S1x256_S1x256)
    broadcasts_S1x256_S256x256

/-- A head's scaled logits. -/
def logits (lo hi : BitVec 32) (k q : FVec Ideal S256x256 .bf16) : FVec Ideal S256x256 .f32 :=
  mulf
    (matmul dot_S256x256_S256x256_S256x256_1_1_0_0_n_n none
      (select (lanes lo hi) q (broadcast S256x256 (Scalar.ofBits .bf16 0x0000#16))) k
      (constant S256x256 .f32 0x00000000#32))
    (broadcast S256x256 (Scalar.ofBits .f32 0x3E000000#32))

/-- Their exponentials, less the row's largest. -/
def weights (lo hi : BitVec 32) (k q : FVec Ideal S256x256 .bf16) : FVec Ideal S256x256 .f32 :=
  exp (subf (logits lo hi k q)
    (broadcastTo S256x256
      (shapeCast S256x1
        (multiReduction .maximumf [1] S256 (logits lo hi k q) 0xFF800000#32 reduces_S256x256_S256 (.inl rfl) rfl)
        shapeCasts_S256_S256x1)
      broadcasts_S256x1_S256x256))

/-- A head's result in its own lanes. -/
def headVec (lo hi : BitVec 32) (k v q : FVec Ideal S256x256 .bf16) : FVec Ideal S256x256 .f32 :=
  divf
    (matmul dot_S256x256_S256x256_S256x256_1_0_0_1_n_n none
      (truncf .bf16 (weights lo hi k q) bitsLt_bf16_f32)
      (select (lanes lo hi) v (broadcast S256x256 (Scalar.ofBits .bf16 0x0000#16)))
      (constant S256x256 .f32 0x00000000#32))
    (broadcastTo S256x256
      (shapeCast S256x1
        (multiReduction .add [1] S256 (weights lo hi k q) 0x00000000#32 reduces_S256x256_S256 (.inl rfl) rfl)
        shapeCasts_S256_S256x1)
      broadcasts_S256x1_S256x256)

/-- The four heads together. -/
def recalledVec (k v q : FVec Ideal S256x256 .bf16) : FVec Ideal S256x256 .bf16 :=
  truncf .bf16
    (addf (addf (addf (addf (broadcast S256x256 (Scalar.ofBits .f32 0x00000000#32)) (headVec 0#32 64#32 k v q))
      (headVec 64#32 128#32 k v q)) (headVec 128#32 192#32 k v q)) (headVec 192#32 256#32 k v q))
    bitsLt_bf16_f32

/-- A half of the block. -/
def halfVec (k v q : FVec Ideal S256x256 .bf16) (mixed : Vec Ideal S256x768 .bf16) (w1 : Vec Ideal S768x1024 .bf16)
    (w2 : Vec Ideal S256x1024 .bf16) (x : Vec Ideal S256x1024 .f32) (g b : Vec Ideal S1x1024 .f32) :
    FVec Ideal S256x1024 .f32 :=
  k0_pay13 (recalledVec k v q) (k0_pay12 mixed w1) w2 x g b

/-- The output block is the two halves. -/
theorem out_eq (x0 : Vec Ideal S512x1024 .f32) (x1 : Vec Ideal S512x768 .bf16) (x2 : Vec Ideal S1x512x256 .bf16)
    (x3 x4 : Vec Ideal S1x256x256 .bf16) (x5 : Vec Ideal S1024x1024 .bf16) (x6 x7 : Vec Ideal S1x1024 .f32) :
    out0_8 x0 x1 x2 x3 x4 x5 x6 x7 = View.canon (Val := Elt Ideal)
      [⟨r0_9, halfVec (k0_pay2 (View.ld x3 r0_0)) (k0_pay3 (View.ld x4 r0_0)) (k0_pay14 (View.ld x2 r0_7))
          (View.ld x1 r0_8) (View.ld x5 r0_3) (View.ld x5 r0_4) (View.ld x0 r0_9) (View.ld x6 r0_6) (View.ld x7 r0_6)⟩,
        ⟨r0_5, halfVec (k0_pay2 (View.ld x3 r0_0)) (k0_pay3 (View.ld x4 r0_0)) (k0_pay4 (View.ld x2 r0_1))
          (View.ld x1 r0_2) (View.ld x5 r0_3) (View.ld x5 r0_4) (View.ld x0 r0_5) (View.ld x6 r0_6) (View.ld x7 r0_6)⟩] := by
  rfl

/-- The mask between `lo` and `hi` marks the lanes of head `h`. -/
def Marks (lo hi : BitVec 32) (h : Fin 4) : Prop := ∀ x : Fin 256,
  IntOp.andi (IntOp.cmpi .sge (BitVec.ofNat 32 x.val) lo) (IntOp.cmpi .slt (BitVec.ofNat 32 x.val) hi)
    = if x.val / 64 = h.val then 1#1 else 0#1

/-- A choice by such a bit. -/
theorem select_if (p : Prop) [Decidable p] (a c : EReal) : Scalar.select (if p then 1#1 else 0#1) a c = if p then a else c := by
  split <;> rfl

/-- The scaled logits at an index. -/
theorem logits_apply {lo hi : BitVec 32} {h : Fin 4} (hm : Marks lo hi h) (k q : FVec Ideal S256x256 .bf16) (r m : Fin 256) :
    logits lo hi k q (ix2 r m) = logit (fun x => q (ix2 r x)) (fun x => k (ix2 m x)) h := by
  unfold logits lanes
  pointwise
  rw [← logit_eq]
  refine congrArg (fun y : EReal => y * scale) (Finset.sum_congr rfl fun x _ => ?_)
  rw [hm x, select_if]

/-- The weights at an index. -/
theorem weights_apply (lo hi : BitVec 32) (k q : FVec Ideal S256x256 .bf16) (r m : Fin 256) :
    weights lo hi k q (ix2 r m) = weight (fun m => logits lo hi k q (ix2 r m)) m := by
  unfold weights
  generalize logits lo hi k q = h
  pointwise
  unfold weight
  rw [least_eq]

/-- A head's result at an index. -/
theorem head_apply {lo hi : BitVec 32} {h : Fin 4} (hm : Marks lo hi h) (k v q : FVec Ideal S256x256 .bf16) (r x : Fin 256) :
    headVec lo hi k v q (ix2 r x)
      = masked (fun x => q (ix2 r x)) (fun m x => k (ix2 m x)) (fun m x => v (ix2 m x)) h x := by
  have hw : ∀ m : Fin 256, weights lo hi k q (ix2 r m)
      = weight (fun m => logit (fun x => q (ix2 r x)) (fun x => k (ix2 m x)) h) m := fun m => by
    rw [weights_apply]; simp only [logits_apply hm]
  unfold headVec lanes
  generalize weights lo hi k q = w at hw
  pointwise
  unfold masked
  simp only [hw, hm x, select_if]

/-- The heads' results together, at an index. -/
theorem recalled_apply (k v q : FVec Ideal S256x256 .bf16) (r x : Fin 256) (hq : ∀ x, IsReal (q (ix2 r x)))
    (hk : ∀ m x, IsReal (k (ix2 m x))) :
    recalledVec k v q (ix2 r x)
      = recall (fun x => q (ix2 r x)) (fun m x => k (ix2 m x)) (fun m x => v (ix2 m x)) ⟨x.val / 64, by omega⟩
          ⟨x.val % 64, by omega⟩ := by
  have e0 := head_apply (h := 0) (lo := 0#32) (hi := 64#32) (by unfold Marks; decide) k v q r x
  have e1 := head_apply (h := 1) (lo := 64#32) (hi := 128#32) (by unfold Marks; decide) k v q r x
  have e2 := head_apply (h := 2) (lo := 128#32) (hi := 192#32) (by unfold Marks; decide) k v q r x
  have e3 := head_apply (h := 3) (lo := 192#32) (hi := 256#32) (by unfold Marks; decide) k v q r x
  unfold recalledVec
  generalize headVec 0#32 64#32 k v q = h0 at e0
  generalize headVec 64#32 128#32 k v q = h1 at e1
  generalize headVec 128#32 192#32 k v q = h2 at e2
  generalize headVec 192#32 256#32 k v q = h3 at e3
  pointwise
  rw [e0, e1, e2, e3, ← masked_sum _ _ _ hq hk]
  have hx : x = lane ⟨x.val / 64, by omega⟩ ⟨x.val % 64, by omega⟩ :=
    Fin.ext (by show x.val = x.val / 64 * 64 + x.val % 64; omega)
  rw [← hx, zero_add]

/-- A half of the block at an index. -/
theorem half_apply (k v q : FVec Ideal S256x256 .bf16) (mixed : Vec Ideal S256x768 .bf16) (w1 : Vec Ideal S768x1024 .bf16)
    (w2 : Vec Ideal S256x1024 .bf16) (x : Vec Ideal S256x1024 .f32) (g b : Vec Ideal S1x1024 .f32) (r : Fin 256) (d : Fin 1024) :
    halfVec k v q mixed w1 w2 x g b (ix2 r d)
      = norm (resid (fun d => x (ix2 r d)) fun d => (∑ j : Fin 768, (mixed (ix2 r j) * w1 (ix2 j d) : EReal))
          + ∑ j : Fin 256, (recalledVec k v q (ix2 r j) * w2 (ix2 j d) : EReal))
          (fun d => g (ix2 0 d)) (fun d => b (ix2 0 d)) d := by
  unfold halfVec k0_pay13 k0_pay12
  generalize recalledVec k v q = h
  pointwise
  rfl

/-! ## The windows' blocks, and the result array -/

/-- Where each grid point's blocks begin, by the batch and the row tile the result's block is at. -/
theorem index_of : ∀ t : Fin grid0.N,
    (win0_0.index t 0 = win0_8.index t 0 ∧ win0_0.index t 1 = 0) ∧ (win0_1.index t 0 = win0_8.index t 0 ∧ win0_1.index t 1 = 0)
    ∧ (win0_2.index t 0 = win0_8.index t 0 / 16 ∧ win0_2.index t 1 = win0_8.index t 0 % 16 ∧ win0_2.index t 2 = 9)
    ∧ (win0_3.index t 0 = win0_8.index t 0 / 16 ∧ win0_3.index t 1 = 0 ∧ win0_3.index t 2 = 0)
    ∧ (win0_4.index t 0 = win0_8.index t 0 / 16 ∧ win0_4.index t 1 = 0 ∧ win0_4.index t 2 = 1)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 < 64 ∧ win0_8.index t 1 = 0) := by
  decide +kernel

variable (m : (ℓ : Loc nD τ sig) → Buf (Elt Ideal) ℓ)

/-- The argument arrays by a row of the result and their coordinates. -/
abbrev aX (c : Dev nD) (R : Fin 32768) (d : Fin 1024) : EReal := m ((c : Thread nD τ).loc main_arg0) (ix2 R d)
abbrev aM (c : Dev nD) (R : Fin 32768) (j : Fin 768) : EReal := m ((c : Thread nD τ).loc main_arg1) (ix2 R j)
abbrev aQ (c : Dev nD) (R : Fin 32768) (x : Fin 256) : EReal :=
  m ((c : Thread nD τ).loc main_arg2) (ix3 (⟨R.val / 8192, by omega⟩ : Fin 4) (⟨R.val % 8192, by omega⟩ : Fin 8192)
    (⟨2304 + x.val, by omega⟩ : Fin 2560))
abbrev aK (c : Dev nD) (R : Fin 32768) (s x : Fin 256) : EReal :=
  m ((c : Thread nD τ).loc main_arg3) (ix3 (⟨R.val / 8192, by omega⟩ : Fin 4) s (⟨x.val, by omega⟩ : Fin 512))
abbrev aV (c : Dev nD) (R : Fin 32768) (s x : Fin 256) : EReal :=
  m ((c : Thread nD τ).loc main_arg3) (ix3 (⟨R.val / 8192, by omega⟩ : Fin 4) s (⟨256 + x.val, by omega⟩ : Fin 512))
abbrev aW (c : Dev nD) (j d : Fin 1024) : EReal := m ((c : Thread nD τ).loc main_arg4) (ix2 j d)
abbrev aG (c : Dev nD) (d : Fin 1024) : EReal := m ((c : Thread nD τ).loc main_arg5) (ix2 0 d)
abbrev aB (c : Dev nD) (d : Fin 1024) : EReal := m ((c : Thread nD τ).loc main_arg6) (ix2 0 d)

/-- An element of the result. -/
def elem (c : Dev nD) (R : Fin 32768) (d : Fin 1024) : EReal :=
  norm (resid (aX m c R) (outRow (aM m c R) (recall (aQ m c R) (aK m c R) (aV m c R)) (aW m c))) (aG m c) (aB m c) d

/-- What the result array is shown to hold. -/
def G (c : Dev nD) : Buf (Elt Ideal) ((c : Thread nD τ).loc main_v0) := fun i : S32768x1024.Idx => elem m c (i 0) (i 1)

/-- The row of the result that row `ρ` of grid point `t`'s block is. -/
def row (t : Fin cfg0.N) (ρ : Fin 512) : Fin 32768 :=
  ⟨512 * win0_8.index t 0 + ρ.val, by have := (index_of t).2.2.2.2.2.2.2.2.1; omega⟩

/-- The input rows' block. -/
theorem iblk0 (c : Dev nD) (t : Fin cfg0.N) (ρ : Fin 512) (d : Fin 1024) :
    (iblk m c 0 t : Vec Ideal S512x1024 .f32) (ix2 ρ d) = aX m c (row t ρ) d := by
  have e := (index_of t).1
  refine congrArg (m ((c : Thread nD τ).loc main_arg0)) (funext fun a => ?_)
  match a with
  | ⟨0, _⟩ => exact Fin.ext (by show win0_0.index t 0 * 512 + 1 * ρ.val = 512 * win0_8.index t 0 + ρ.val; rw [e.1]; ring)
  | ⟨1, _⟩ => exact Fin.ext (by show win0_0.index t 1 * 1024 + 1 * d.val = d.val; rw [e.2]; omega)

/-- The mixture rows' block. -/
theorem iblk1 (c : Dev nD) (t : Fin cfg0.N) (ρ : Fin 512) (j : Fin 768) :
    (iblk m c 1 t : Vec Ideal S512x768 .bf16) (ix2 ρ j) = aM m c (row t ρ) j := by
  have e := (index_of t).2.1
  refine congrArg (m ((c : Thread nD τ).loc main_arg1)) (funext fun a => ?_)
  match a with
  | ⟨0, _⟩ => exact Fin.ext (by show win0_1.index t 0 * 512 + 1 * ρ.val = 512 * win0_8.index t 0 + ρ.val; rw [e.1]; ring)
  | ⟨1, _⟩ => exact Fin.ext (by show win0_1.index t 1 * 768 + 1 * j.val = j.val; rw [e.2]; omega)

/-- The queries' block: the last columns of the projection. -/
theorem iblk2 (c : Dev nD) (t : Fin cfg0.N) (ρ : Fin 512) (x : Fin 256) :
    (iblk m c 2 t : Vec Ideal S1x512x256 .bf16) (ix3 0 ρ x) = aQ m c (row t ρ) x := by
  have e := (index_of t).2.2.1
  have hρ := ρ.isLt
  refine congrArg (m ((c : Thread nD τ).loc main_arg2)) (funext fun a => ?_)
  match a with
  | ⟨0, _⟩ => exact Fin.ext (by
      show win0_2.index t 0 * 1 + 1 * 0 = (512 * win0_8.index t 0 + ρ.val) / 8192; rw [e.1]
      generalize win0_8.index t 0 = n; omega)
  | ⟨1, _⟩ => exact Fin.ext (by
      show win0_2.index t 1 * 512 + 1 * ρ.val = (512 * win0_8.index t 0 + ρ.val) % 8192; rw [e.2.1]
      generalize win0_8.index t 0 = n; omega)
  | ⟨2, _⟩ => exact Fin.ext (by show win0_2.index t 2 * 256 + 1 * x.val = 2304 + x.val; rw [e.2.2]; omega)

/-- The memory's keys, of the row's batch. -/
theorem iblk3 (c : Dev nD) (t : Fin cfg0.N) (ρ : Fin 512) (s x : Fin 256) :
    (iblk m c 3 t : Vec Ideal S1x256x256 .bf16) (ix3 0 s x) = aK m c (row t ρ) s x := by
  have e := (index_of t).2.2.2.1
  have hρ := ρ.isLt
  refine congrArg (m ((c : Thread nD τ).loc main_arg3)) (funext fun a => ?_)
  match a with
  | ⟨0, _⟩ => exact Fin.ext (by
      show win0_3.index t 0 * 1 + 1 * 0 = (512 * win0_8.index t 0 + ρ.val) / 8192; rw [e.1]
      generalize win0_8.index t 0 = n; omega)
  | ⟨1, _⟩ => exact Fin.ext (by show win0_3.index t 1 * 256 + 1 * s.val = s.val; rw [e.2.1]; omega)
  | ⟨2, _⟩ => exact Fin.ext (by show win0_3.index t 2 * 256 + 1 * x.val = x.val; rw [e.2.2]; omega)

/-- The memory's values, of the row's batch. -/
theorem iblk4 (c : Dev nD) (t : Fin cfg0.N) (ρ : Fin 512) (s x : Fin 256) :
    (iblk m c 4 t : Vec Ideal S1x256x256 .bf16) (ix3 0 s x) = aV m c (row t ρ) s x := by
  have e := (index_of t).2.2.2.2.1
  have hρ := ρ.isLt
  refine congrArg (m ((c : Thread nD τ).loc main_arg3)) (funext fun a => ?_)
  match a with
  | ⟨0, _⟩ => exact Fin.ext (by
      show win0_4.index t 0 * 1 + 1 * 0 = (512 * win0_8.index t 0 + ρ.val) / 8192; rw [e.1]
      generalize win0_8.index t 0 = n; omega)
  | ⟨1, _⟩ => exact Fin.ext (by show win0_4.index t 1 * 256 + 1 * s.val = s.val; rw [e.2.1]; omega)
  | ⟨2, _⟩ => exact Fin.ext (by show win0_4.index t 2 * 256 + 1 * x.val = 256 + x.val; rw [e.2.2]; omega)

/-- The output weights, whole at every point. -/
theorem iblk5 (c : Dev nD) (t : Fin cfg0.N) (j d : Fin 1024) :
    (iblk m c 5 t : Vec Ideal S1024x1024 .bf16) (ix2 j d) = aW m c j d := by
  have e := (index_of t).2.2.2.2.2.1
  refine congrArg (m ((c : Thread nD τ).loc main_arg4)) (funext fun a => ?_)
  match a with
  | ⟨0, _⟩ => exact Fin.ext (by show win0_5.index t 0 * 1024 + 1 * j.val = j.val; rw [e.1]; omega)
  | ⟨1, _⟩ => exact Fin.ext (by show win0_5.index t 1 * 1024 + 1 * d.val = d.val; rw [e.2]; omega)

/-- The normalisation's scale, whole at every point. -/
theorem iblk6 (c : Dev nD) (t : Fin cfg0.N) (d : Fin 1024) :
    (iblk m c 6 t : Vec Ideal S1x1024 .f32) (ix2 0 d) = aG m c d := by
  have e := (index_of t).2.2.2.2.2.2.1
  refine congrArg (m ((c : Thread nD τ).loc main_arg5)) (funext fun a => ?_)
  match a with
  | ⟨0, _⟩ => exact Fin.ext (by show win0_6.index t 0 * 1 + 1 * 0 = 0; rw [e.1])
  | ⟨1, _⟩ => exact Fin.ext (by show win0_6.index t 1 * 1024 + 1 * d.val = d.val; rw [e.2]; omega)

/-- The normalisation's shift, whole at every point. -/
theorem iblk7 (c : Dev nD) (t : Fin cfg0.N) (d : Fin 1024) :
    (iblk m c 7 t : Vec Ideal S1x1024 .f32) (ix2 0 d) = aB m c d := by
  have e := (index_of t).2.2.2.2.2.2.2.1
  refine congrArg (m ((c : Thread nD τ).loc main_arg6)) (funext fun a => ?_)
  match a with
  | ⟨0, _⟩ => exact Fin.ext (by show win0_7.index t 0 * 1 + 1 * 0 = 0; rw [e.1])
  | ⟨1, _⟩ => exact Fin.ext (by show win0_7.index t 1 * 1024 + 1 * d.val = d.val; rw [e.2]; omega)

/-- The arrays the weights are made from are real at every row. -/
def Finite (c : Dev nD) : Prop := (∀ R x, IsReal (aQ m c R x)) ∧ ∀ R s x, IsReal (aK m c R s x)

/-- A half of the block at an index, its blocks' rows given. -/
theorem half_row (k v q : FVec Ideal S256x256 .bf16) (mixed : Vec Ideal S256x768 .bf16) (w1 : Vec Ideal S768x1024 .bf16)
    (w2 : Vec Ideal S256x1024 .bf16) (x : Vec Ideal S256x1024 .f32) (g b : Vec Ideal S1x1024 .f32) (c : Dev nD) (hf : Finite m c)
    (R : Fin 32768) (r : Fin 256) (d : Fin 1024) (hk : ∀ s x, k (ix2 s x) = aK m c R s x)
    (hv : ∀ s x, v (ix2 s x) = aV m c R s x) (hq : ∀ x, q (ix2 r x) = aQ m c R x) (hm : ∀ j, mixed (ix2 r j) = aM m c R j)
    (h1 : ∀ j d, w1 (ix2 j d) = aW m c ⟨j.val, by omega⟩ d) (h2 : ∀ j d, w2 (ix2 j d) = aW m c ⟨768 + j.val, by omega⟩ d)
    (hx : ∀ d, x (ix2 r d) = aX m c R d) (hg : ∀ d, g (ix2 0 d) = aG m c d) (hb : ∀ d, b (ix2 0 d) = aB m c d) :
    halfVec k v q mixed w1 w2 x g b (ix2 r d) = elem m c R d := by
  have hr : ∀ j : Fin 256, recalledVec k v q (ix2 r j)
      = recall (aQ m c R) (aK m c R) (aV m c R) ⟨j.val / 64, by omega⟩ ⟨j.val % 64, by omega⟩ := fun j => by
    rw [recalled_apply k v q r j (fun x => by rw [hq]; exact hf.1 R x) (fun s x => by rw [hk]; exact hf.2 R s x)]
    simp only [hq, hk, hv]
  rw [half_apply]
  simp only [hr, hm, h1, h2, hx, hg, hb]
  rfl

/-- An index that a rank-two load reads at. -/
theorem ld2 {A B A' B' : ℕ} {e : EltTy} (x : Vec Ideal ⟨2, ![A, B]⟩ e) (o p : ℕ)
    (h : ∀ a, (![o, p] : Fin 2 → ℕ) a + (![A', B'] : Fin 2 → ℕ) a ≤ (⟨2, ![A, B]⟩ : Shape).size a) (r : Fin A') (q : Fin B') :
    View.ld x (Rect.unit (s := ⟨2, ![A, B]⟩) ![o, p] ![A', B'] h) (ix2 r q)
      = x (ix2 ⟨o + r.val, by have := h 0; have := r.isLt; simp at *; omega⟩ ⟨p + q.val, by have := h 1; have := q.isLt; simp at *; omega⟩) := by
  refine congrArg x (funext fun a => ?_)
  match a with
  | ⟨0, _⟩ => exact Fin.ext (by show o + 1 * r.val = o + r.val; omega)
  | ⟨1, _⟩ => exact Fin.ext (by show p + 1 * q.val = p + q.val; omega)

/-- A rank-three block's plane at an index. -/
theorem plane_apply (x : Vec Ideal S1x256x256 .bf16) (r q : Fin 256) : k0_pay4 x (ix2 r q) = x (ix3 0 r q) := by
  unfold k0_pay4
  pointwise

/-- The output block at an index. -/
theorem block_apply (c : Dev nD) (hf : Finite m c) (t : Fin cfg0.N) (ρ : Fin 512) (d : Fin 1024) :
    out0_8 (iblk m c 0 t) (iblk m c 1 t) (iblk m c 2 t) (iblk m c 3 t) (iblk m c 4 t) (iblk m c 5 t) (iblk m c 6 t)
      (iblk m c 7 t) (ix2 ρ d) = elem m c (row t ρ) d := by
  rw [out_eq]
  have hhalf : ∀ (o : ℕ) (h1 : ∀ a, (![o, 0] : Fin 2 → ℕ) a + S256x1024.size a ≤ S512x1024.size a)
      (h2 : ∀ a, (![o, 0] : Fin 2 → ℕ) a + S256x768.size a ≤ S512x768.size a)
      (h3 : ∀ a, (![0, o, 0] : Fin 3 → ℕ) a + S1x256x256.size a ≤ S1x512x256.size a) (y : S256x1024.Idx),
      halfVec (k0_pay4 (View.ld (iblk m c 3 t) r0_0)) (k0_pay4 (View.ld (iblk m c 4 t) r0_0))
          (k0_pay4 (View.ld (iblk m c 2 t) (Rect.unit (s := S1x512x256) ![0, o, 0] S1x256x256.size h3)))
          (View.ld (iblk m c 1 t) (Rect.unit (s := S512x768) ![o, 0] S256x768.size h2)) (View.ld (iblk m c 5 t) r0_3)
          (View.ld (iblk m c 5 t) r0_4) (View.ld (iblk m c 0 t) (Rect.unit (s := S512x1024) ![o, 0] S256x1024.size h1))
          (View.ld (iblk m c 6 t) r0_6) (View.ld (iblk m c 7 t) r0_6) y
        = (fun z : S512x1024.Idx => elem m c (row t (z 0)) (z 1)) ((Rect.unit (s := S512x1024) ![o, 0] S256x1024.size h1).emb y) := by
    intro o h1 h2 h3 y
    have ho : o + 256 ≤ 512 := h1 0
    have hy : y = ix2 (y 0 : Fin 256) (y 1 : Fin 1024) := by
      funext a; match a with | ⟨0, _⟩ => rfl | ⟨1, _⟩ => rfl
    have y0 : (y 0).val < 256 := (y 0).isLt
    have e0 : (Rect.unit (s := S512x1024) ![o, 0] S256x1024.size h1).emb y 0 = (⟨o + (y 0).val, by omega⟩ : Fin 512) :=
      Fin.ext (by show o + 1 * (y 0).val = o + (y 0).val; omega)
    have e1 : (Rect.unit (s := S512x1024) ![o, 0] S256x1024.size h1).emb y 1 = (y 1 : Fin 1024) :=
      Fin.ext (by show 0 + 1 * (y 1).val = (y 1).val; omega)
    dsimp only
    rw [e0, e1]
    refine (congrArg _ hy).trans (half_row m _ _ _ _ _ _ _ _ _ c hf _ _ _ ?_ ?_ ?_ ?_ ?_ ?_ ?_ ?_ ?_)
    · intro s x
      rw [plane_apply, ← iblk3 m c t]
      refine congrArg (iblk m c 3 t : Vec Ideal S1x256x256 .bf16) (funext fun a => ?_)
      match a with
      | ⟨0, _⟩ => rfl
      | ⟨1, _⟩ => exact Fin.ext (by show 0 + 1 * s.val = s.val; omega)
      | ⟨2, _⟩ => exact Fin.ext (by show 0 + 1 * x.val = x.val; omega)
    · intro s x
      rw [plane_apply, ← iblk4 m c t]
      refine congrArg (iblk m c 4 t : Vec Ideal S1x256x256 .bf16) (funext fun a => ?_)
      match a with
      | ⟨0, _⟩ => rfl
      | ⟨1, _⟩ => exact Fin.ext (by show 0 + 1 * s.val = s.val; omega)
      | ⟨2, _⟩ => exact Fin.ext (by show 0 + 1 * x.val = x.val; omega)
    · intro x
      rw [← iblk2 m c t]
      refine (plane_apply _ (y 0 : Fin 256) x).trans ?_
      refine congrArg (iblk m c 2 t : Vec Ideal S1x512x256 .bf16) (funext fun a => ?_)
      match a with
      | ⟨0, _⟩ => rfl
      | ⟨1, _⟩ => exact Fin.ext (by show o + 1 * (y 0).val = o + (y 0).val; omega)
      | ⟨2, _⟩ => exact Fin.ext (by show 0 + 1 * x.val = x.val; omega)
    · intro j
      rw [← iblk1 m c t]
      refine (ld2 (iblk m c 1 t : Vec Ideal S512x768 .bf16) o 0 h2 (y 0) j).trans ?_
      simp only [Nat.zero_add]
    · intro j d
      rw [← iblk5 m c t]
      refine (ld2 (iblk m c 5 t : Vec Ideal S1024x1024 .bf16) 0 0 _ j d).trans ?_
      simp only [Nat.zero_add]
    · intro j d
      rw [← iblk5 m c t]
      refine (ld2 (iblk m c 5 t : Vec Ideal S1024x1024 .bf16) 768 0 _ j d).trans ?_
      simp only [Nat.zero_add]
    · intro d
      rw [← iblk0 m c t]
      refine (ld2 (iblk m c 0 t : Vec Ideal S512x1024 .f32) o 0 h1 (y 0) d).trans ?_
      simp only [Nat.zero_add]
    · intro d
      rw [← iblk6 m c t]
      refine (ld2 (iblk m c 6 t : Vec Ideal S1x1024 .f32) 0 0 _ 0 d).trans ?_
      simp only [Nat.zero_add]
    · intro d
      rw [← iblk7 m c t]
      refine (ld2 (iblk m c 7 t : Vec Ideal S1x1024 .f32) 0 0 _ 0 d).trans ?_
      simp only [Nat.zero_add]
  refine Cert.FfnIdeal.Body.canon_of_agree (fun z : S512x1024.Idx => elem m c (row t (z 0)) (z 1)) (ix2 ρ d) _ ?_ (cover0_8 _ _ _)
  intro p hp
  simp only [List.mem_cons, List.not_mem_nil, or_false] at hp
  rcases hp with rfl | rfl
  · exact hhalf 256 inb_S512x1024_S256x1024_256_0 inb_S512x768_S256x768_256_0 inb_S1x512x256_S1x256x256_0_256_0
  · exact hhalf 0 inb_S512x1024_S256x1024_0_0 inb_S512x768_S256x768_0_0 inb_S1x512x256_S1x256x256_0_0_0

/-- What each grid point writes back is its block of the result. -/
theorem flushed_eq (c : Dev nD) (hf : Finite m c) (t : Fin cfg0.N) :
    (dats m 0 c).flushed 8 t = (win0_8.blk t).view.read (Elt Ideal) (G m c) := by
  rw [Value.flushed8]
  funext y
  have h0 : (y 0).val < 512 := (y 0).isLt
  have h1 : (y 1).val < 1024 := (y 1).isLt
  have e := (index_of t).2.2.2.2.2.2.2.2
  have e0 : (win0_8.rect t).emb y 0 = row t ⟨(y 0).val, h0⟩ :=
    Fin.ext (by show win0_8.index t 0 * 512 + 1 * (y 0).val = 512 * win0_8.index t 0 + (y 0).val; ring)
  have e1 : (win0_8.rect t).emb y 1 = (⟨(y 1).val, h1⟩ : Fin 1024) :=
    Fin.ext (by show win0_8.index t 1 * 1024 + 1 * (y 1).val = (y 1).val; rw [e.2]; omega)
  have hy : (fun a => (⟨(y a).val, (y a).isLt⟩ : Fin (S512x1024.size a)))
      = ix2 (⟨(y 0).val, h0⟩ : Fin 512) (⟨(y 1).val, h1⟩ : Fin 1024) := by
    funext a
    match a with
    | ⟨0, _⟩ => rfl
    | ⟨1, _⟩ => rfl
  show out0_8 (iblk m c 0 t) (iblk m c 1 t) (iblk m c 2 t) (iblk m c 3 t) (iblk m c 4 t) (iblk m c 5 t) (iblk m c 6 t)
      (iblk m c 7 t) (fun a => (⟨(y a).val, (y a).isLt⟩ : Fin (S512x1024.size a))) = G m c ((win0_8.rect t).emb y)
  rw [hy, block_apply m c hf]
  unfold G
  rw [e0, e1]

/-- Every index of the result lies in the block of its row's tile. -/
theorem cover (i : S32768x1024.Idx) : ∃ t : Fin cfg0.N, (cfg0.win 8).flush t = true ∧ i ∈ ((cfg0.win 8).blk t).view.set := by
  have h0 : (i 0).val < 32768 := (i 0).isLt
  have h1 : (i 1).val < 1024 := (i 1).isLt
  have hc : ∀ a : Fin 64, ∃ t : Fin grid0.N, win0_8.index t 0 = a.val := by decide +kernel
  obtain ⟨t, ha⟩ := hc ⟨(i 0).val / 512, by omega⟩
  have e := (index_of t).2.2.2.2.2.2.2.2
  refine ⟨t, flush0_8 t, ?_⟩
  show i ∈ ((View.whole main_v0).slice (win0_8.rect t)).set
  rw [View.set_slice_whole, Rect.mem_set_unit]
  intro a
  match a with
  | ⟨0, _⟩ => show win0_8.index t 0 * 512 ≤ (i 0).val ∧ (i 0).val < win0_8.index t 0 * 512 + 512
              rw [ha]; dsimp only; omega
  | ⟨1, _⟩ => show win0_8.index t 1 * 1024 ≤ (i 1).val ∧ (i 1).val < win0_8.index t 1 * 1024 + 1024
              rw [e.2]; omega

/-- The result array after the run. -/
theorem final (c : Dev nD) (hf : Finite m c) : (dats m 0 c).arrAt 8 cfg0.N = G m c :=
  (dats m 0 c).arrAt_eq_of_cover 8 (G m c) (fun t _ => flushed_eq m c hf t) cover

end Cert.OutLnIdeal.Body

end
-- ==== Proof.OutLnRef.lean ====
/-
  The output projection's reference read at an index, and that under the precondition its result is the kernel's.
-/
module

public import proofs.«01_k».proof.Proof.OutLnRead
public import proofs.«01_k».proof.Proof.Gen.OutLnRefIdeal.Read
public import proofs.«01_k».proof.Proof.Gen.Pre_finite_logits
public import Idealize.ShloMosaic.Lib.ReduceAll

@[expose] public section

set_option maxRecDepth 16384

noncomputable section

namespace Cert.OutLnRefIdeal.Body

open Idealize.ShloMosaic Idealize.ShloMosaic.TcCoe Idealize.SL.Sem
open Cert.OutLnRefIdeal Cert.OutLnRefIdeal.Gen Cert.OutLnRefIdeal.Read Cert.FfnMath Cert.OutMath

variable (x0 : FVec Ideal S32768x1024 .f32) (x1 : FVec Ideal S32768x768 .bf16) (x2 : FVec Ideal S4x8192x2560 .bf16)
  (x3 : FVec Ideal S4x256x512 .bf16) (x4 : FVec Ideal S1024x1024 .bf16) (x5 x6 : FVec Ideal S1x1024 .f32)

/-- The queries, keys and values at a batch and a position, by their lanes. -/
abbrev qs (b : Fin 4) (t : Fin 8192) (x : Fin 256) : EReal := x2 (ix3 b t (⟨2304 + x.val, by omega⟩ : Fin 2560))
abbrev ks (b : Fin 4) (s x : Fin 256) : EReal := x3 (ix3 b s (⟨x.val, by omega⟩ : Fin 512))
abbrev vs (b : Fin 4) (s x : Fin 256) : EReal := x3 (ix3 b s (⟨256 + x.val, by omega⟩ : Fin 512))

/-- A logit. -/
theorem logit_apply (b h : Fin 4) (t : Fin 8192) (s : Fin 256) :
    val_main_v12 (F := Ideal) x2 x3 (ix4 b h t s) = logit (qs x2 b t) (ks x3 b s) h := by
  unfold val_main_v12 val_main_v10 val_main_v9 val_main_v8 val_main_v7 val_main_v6 val_main_v4 val_main_v1 val_main_v0 val_main_cst
  pointwise
  rfl

/-- The largest along the last of four axes, from an initial value. -/
theorem largest_apply {A B C D : ℕ} {u : Shape} (hred : (⟨4, ![A, B, C, D]⟩ : Shape).ReducesTo [3] ⟨3, ![A, B, C]⟩)
    (hu : 0 < u.numel) (l : (⟨4, ![A, B, C, D]⟩ : Shape).Idx → EReal) (init : u.Idx → EReal) (a : Fin A) (b : Fin B) (t : Fin C) :
    Host.reduce (max : EReal → EReal → EReal) l init hred hu (ix3 a b t)
      = Finset.fold max (init (Shape.Idx.first hu)) (fun s : Fin D => l (ix4 a b t s)) Finset.univ :=
  (Host.reduce_eq_fold _ _ _ _ _ _).trans (Shape.ReducesTo.fold_fiber_r4_a3 hred (ix3 a b t) max _ l)

/-- The largest logit of a row. -/
theorem row_largest (b h : Fin 4) (t : Fin 8192) :
    val_main_v13 (F := Ideal) x2 x3 (ix3 b h t)
      = Finset.fold max ⊥ (fun s => val_main_v12 (F := Ideal) x2 x3 (ix4 b h t s)) Finset.univ := by
  unfold val_main_v13
  generalize val_main_v12 (F := Ideal) x2 x3 = l
  refine (largest_apply reducesTo_S4x4x8192x256_S4x4x8192_d3 h_S_ l _ b h t).trans ?_
  rw [val_main_cst_0_apply]
  exact congrArg (fun z => Finset.fold max z _ _) least_eq

/-- A weight. -/
theorem weight_apply (b h : Fin 4) (t : Fin 8192) (s : Fin 256) :
    val_main_v19 (F := Ideal) x2 x3 (ix4 b h t s) = weight (fun s => logit (qs x2 b t) (ks x3 b s) h) s := by
  have hl := logit_apply x2 x3 b h t
  have hm := row_largest x2 x3 b h t
  simp only [hl] at hm
  have e16 : idx_main_v16 (idx_main_v17 (ix4 b h t s)) = ix3 b h t := by
    funext a; match a with | ⟨0, _⟩ => rfl | ⟨1, _⟩ => rfl | ⟨2, _⟩ => rfl
  rw [val_main_v19_apply, val_main_v18_apply, val_main_v17_apply, val_main_v16_apply, e16, val_main_v15_apply,
    val_main_v14_apply, val_main_cst_1_apply, hl, hm]
  refine (congrArg (fun z => Ideal.exp (logit (qs x2 b t) (ks x3 b s) h - max z _)) least_eq).trans ?_
  rw [max_eq_right bot_le]
  rfl

/-- What a head recalls. -/
theorem recall_apply (b h : Fin 4) (e : Fin 64) (t : Fin 8192) :
    val_main_v24 (F := Ideal) x2 x3 (ix4 b h e t) = recall (qs x2 b t) (ks x3 b) (vs x3 b) h e := by
  have hw := weight_apply x2 x3 b h t
  unfold val_main_v24 val_main_v23 val_main_v22 val_main_v21 val_main_v20 val_main_v11 val_main_v5 val_main_v1 val_main_cst_2
  generalize val_main_v19 (F := Ideal) x2 x3 = w at hw
  pointwise
  simp only [hw]
  rfl

/-- What the heads recall, row by row. -/
theorem recalled_apply (R : Fin 32768) (j : Fin 256) :
    val_main_v26 (F := Ideal) x2 x3 (ix2 R j)
      = recall (qs x2 ⟨R.val / 8192, by omega⟩ ⟨R.val % 8192, by omega⟩) (ks x3 ⟨R.val / 8192, by omega⟩)
          (vs x3 ⟨R.val / 8192, by omega⟩) ⟨j.val / 64, by omega⟩ ⟨j.val % 64, by omega⟩ := by
  have hr := recall_apply x2 x3
  unfold val_main_v26 val_main_v25
  generalize val_main_v24 (F := Ideal) x2 x3 = w at hr
  pointwise
  exact hr _ _ _ _

/-- The output projection's row. -/
theorem proj_apply (R : Fin 32768) (d : Fin 1024) :
    val_main_v30 (F := Ideal) x1 x2 x3 x4 (ix2 R d)
      = outRow (fun j => x1 (ix2 R j))
          (recall (qs x2 ⟨R.val / 8192, by omega⟩ ⟨R.val % 8192, by omega⟩) (ks x3 ⟨R.val / 8192, by omega⟩)
            (vs x3 ⟨R.val / 8192, by omega⟩)) (fun j d => x4 (ix2 j d)) d := by
  have hr := recalled_apply x2 x3 R
  unfold val_main_v30 val_main_v29 val_main_v3 val_main_v2
  generalize val_main_v26 (F := Ideal) x2 x3 = w at hr
  pointwise
  simp only [hr]
  rfl

/-- The result. -/
theorem result_apply (R : Fin 32768) (d : Fin 1024) :
    val_main_v55 (F := Ideal) x0 x1 x2 x3 x4 x5 x6 (ix2 R d)
      = norm (resid (fun d => x0 (ix2 R d)) (outRow (fun j => x1 (ix2 R j))
          (recall (qs x2 ⟨R.val / 8192, by omega⟩ ⟨R.val % 8192, by omega⟩) (ks x3 ⟨R.val / 8192, by omega⟩)
            (vs x3 ⟨R.val / 8192, by omega⟩)) (fun j d => x4 (ix2 j d)))) (fun d => x5 (ix2 0 d)) (fun d => x6 (ix2 0 d)) d := by
  have hp := proj_apply x1 x2 x3 x4 R
  unfold val_main_v55 val_main_v54 val_main_v53 val_main_v52 val_main_v51 val_main_v50 val_main_v49 val_main_v48
    val_main_v47 val_main_v46 val_main_v45 val_main_v44 val_main_v43 val_main_v42 val_main_v41 val_main_v40 val_main_v39
    val_main_v38 val_main_v37 val_main_v36 val_main_v35 val_main_v34 val_main_v33 val_main_v32 val_main_v31
    val_main_v28 val_main_v27 val_main_cst_3 val_main_cst_4 val_main_cst_5 val_main_cst_6 val_main_cst_7 val_main_cst_8
  generalize val_main_v30 (F := Ideal) x1 x2 x3 x4 = h at hp
  pointwise
  simp only [hp]
  rfl

/-! ## The precondition -/

/-- A bitwise conjunction of two bits that is one has both. -/
theorem both {a b : BitVec 1} (h : IntOp.andi a b = 1#1) : a = 1#1 ∧ b = 1#1 := by
  revert a b; decide

/-- The absolute value below plus infinity: the argument is neither infinity. -/
theorem isReal_of_abs {x : EReal} (h : BitVec.ofBool (decide (max x (-x) < Ideal.ofBits .f32 0x7F800000#32)) = 1#1) : IsReal x := by
  have ht : Ideal.ofBits .f32 0x7F800000#32 = ⊤ := by simp [Ideal.ofBits, Ideal.ieee]
  rw [ht] at h
  have hlt : max x (-x) < ⊤ := by
    by_contra hc
    rw [decide_eq_false hc] at h
    exact absurd h (by decide)
  constructor
  · rintro rfl
    simp at hlt
  · rintro rfl
    simp at hlt

/-- What the precondition says of the queries and the memory's keys. -/
theorem real_of_pre (h : Cert.Pre_finite_logits.fn (F := Ideal) x0 x1 x2 x3 x4 x5 x6 = fun _ => 1#1) :
    (∀ b t x, IsReal (qs x2 b t x)) ∧ ∀ b s x, IsReal (ks x3 b s x) := by
  have e := congrFun h (fun a => a.elim0)
  simp only [Cert.Pre_finite_logits.fn] at e
  obtain ⟨e1, e2⟩ := both e
  haveI : Subsingleton Cert.Pre_finite_logits.S_.Idx := ⟨fun a b => funext fun i => i.elim0⟩
  have q1 := fun i => Host.reduce_andi_all _ _ _ _ _ e1 i
  have q2 := fun i => Host.reduce_andi_all _ _ _ _ _ e2 i
  clear e e1 e2 h
  constructor
  · intro b t x
    have := q1 (ix3 b t x)
    pointwise at this
    exact isReal_of_abs this
  · intro b s x
    have := q2 (ix3 b s x)
    pointwise at this
    exact isReal_of_abs this

/-- The kernel's queries and keys are real under the precondition. -/
theorem finite_of_pre (m : (ℓ : Loc Cert.OutLnIdeal.nD Cert.OutLnIdeal.τ Cert.OutLnIdeal.sig) → Buf (Elt Ideal) ℓ)
    (c : Dev Cert.OutLnIdeal.nD)
    (h : Cert.Pre_finite_logits.fn (F := Ideal) (m ((c.tc : Thread Cert.OutLnIdeal.nD Cert.OutLnIdeal.τ).loc Cert.OutLnIdeal.main_arg0)) (m ((c.tc : Thread Cert.OutLnIdeal.nD Cert.OutLnIdeal.τ).loc Cert.OutLnIdeal.main_arg1)) (m ((c.tc : Thread Cert.OutLnIdeal.nD Cert.OutLnIdeal.τ).loc Cert.OutLnIdeal.main_arg2)) (m ((c.tc : Thread Cert.OutLnIdeal.nD Cert.OutLnIdeal.τ).loc Cert.OutLnIdeal.main_arg3)) (m ((c.tc : Thread Cert.OutLnIdeal.nD Cert.OutLnIdeal.τ).loc Cert.OutLnIdeal.main_arg4)) (m ((c.tc : Thread Cert.OutLnIdeal.nD Cert.OutLnIdeal.τ).loc Cert.OutLnIdeal.main_arg5)) (m ((c.tc : Thread Cert.OutLnIdeal.nD Cert.OutLnIdeal.τ).loc Cert.OutLnIdeal.main_arg6)) = fun _ => 1#1) :
    Cert.OutLnIdeal.Body.Finite m c := by
  obtain ⟨h1, h2⟩ := real_of_pre _ _ _ _ _ _ _ h
  exact ⟨fun R x => h1 _ _ x, fun R s x => h2 _ s x⟩

end Cert.OutLnRefIdeal.Body

end
-- ==== Proof.ScanMath.lean ====
/-
  The gated recurrence over the extended reals: what the gate's decay and key are, one chunk of the recurrence as the
  reference states it, and that the kernel's forms of both are the same.
-/
module

public import proofs.«01_k».proof.Proof.OutMath

@[expose] public section

noncomputable section

namespace Cert.ScanMath

open Idealize.ShloMosaic Cert.FfnMath Cert.OutMath
open scoped BigOperators

/-! ## The gate -/

/-- The decay of a gate `z` with the lower bound `l`. -/
def decay (l z : EReal) : EReal := l + (1 - l) * sigm z

/-- What it leaves. -/
def left (l z : EReal) : EReal := (1 - l) * sigm (-z)

/-- The logarithm of the sum of two exponentials, as the reference's operation has it. -/
def lae (x y : EReal) : EReal :=
  if x - y ≠ x - y then x + y else max x y + Ideal.log1p (Ideal.exp (-(max (x - y) (-(x - y)))))

/-- The logarithm of the decay as the reference has it. -/
def logDecay (l z : EReal) : EReal := lae (Ideal.log l) (Ideal.log1p (-l) - lae (-z) 0)

theorem log_pos {x : ℝ} (h : 0 < x) : Ideal.log (x : EReal) = ((Real.log x : ℝ) : EReal) := by
  show (if x ≤ 0 then ⊥ else ((Real.log x : ℝ) : EReal)) = _
  rw [if_neg (not_le.2 h)]

theorem log_zero : Ideal.log (0 : EReal) = ⊥ := by
  show (if (0 : ℝ) ≤ 0 then (⊥ : EReal) else ((Real.log 0 : ℝ) : EReal)) = _
  rw [if_pos le_rfl]

theorem one_coe : (1 : EReal) = ((1 : ℝ) : EReal) := rfl

/-- Of two logarithms it is the logarithm of the sum, where the first is of a positive number. -/
theorem lae_log_pos {x y : ℝ} (hx : 0 < x) (hy : 0 ≤ y) : lae (Ideal.log x) (Ideal.log y) = ((Real.log (x + y) : ℝ) : EReal) := by
  unfold lae
  rw [if_neg (not_not.2 rfl), log_pos hx]
  rcases hy.eq_or_lt with rfl | hy
  · have : ((0 : ℝ) : EReal) = 0 := rfl
    rw [this, log_zero, EReal.coe_sub_bot, max_eq_left bot_le, max_eq_left (by simp)]
    have e : Ideal.exp (-⊤) = 0 := rfl
    rw [e, Ideal.log1p, add_zero, one_coe, log_pos one_pos, Real.log_one, add_zero]
    exact add_zero _
  · rw [log_pos hy, ← EReal.coe_sub]
    have hm : max (((Real.log x - Real.log y : ℝ)) : EReal) (-((Real.log x - Real.log y : ℝ) : EReal))
        = ((|Real.log x - Real.log y| : ℝ) : EReal) := by
      rw [← EReal.coe_neg]; exact (EReal.coe_strictMono.monotone.map_max).symm
    have hx' : max ((Real.log x : ℝ) : EReal) ((Real.log y : ℝ) : EReal) = ((max (Real.log x) (Real.log y) : ℝ) : EReal) :=
      (EReal.coe_strictMono.monotone.map_max).symm
    rw [hm, hx', ← EReal.coe_neg]
    have e : ∀ r : ℝ, Ideal.exp (r : EReal) = ((Real.exp r : ℝ) : EReal) := fun _ => rfl
    have p := Real.exp_pos (-|Real.log x - Real.log y|)
    rw [e, Ideal.log1p, one_coe, ← EReal.coe_add, log_pos (by positivity), ← EReal.coe_add]
    congr 1
    rcases le_total x y with h | h
    · have h' := Real.log_le_log hx h
      rw [max_eq_right h', abs_of_nonpos (a := Real.log x - Real.log y) (by linarith), neg_neg, Real.exp_sub, Real.exp_log hx, Real.exp_log hy,
        ← Real.log_mul hy.ne' (by positivity)]
      congr 1
      field_simp
      exact add_comm _ _
    · have h' := Real.log_le_log hy h
      rw [max_eq_left h', abs_of_nonneg (a := Real.log x - Real.log y) (by linarith), neg_sub, Real.exp_sub, Real.exp_log hx, Real.exp_log hy,
        ← Real.log_mul hx.ne' (by positivity)]
      congr 1
      field_simp

/-- And where either is of zero. -/
theorem lae_log {x y : ℝ} (hx : 0 ≤ x) (hy : 0 ≤ y) : lae (Ideal.log x) (Ideal.log y) = Ideal.log ((x + y : ℝ) : EReal) := by
  have z0 : ((0 : ℝ) : EReal) = 0 := rfl
  have e : Ideal.exp (-⊤) = 0 := rfl
  rcases hx.eq_or_lt with rfl | hx
  · unfold lae
    rw [if_neg (not_not.2 rfl), zero_add, z0, log_zero, EReal.bot_sub, EReal.neg_bot, max_eq_right bot_le, max_eq_right bot_le, e,
      Ideal.log1p, add_zero, one_coe, log_pos one_pos, Real.log_one, z0, add_zero]
  · rw [lae_log_pos hx hy, log_pos (by linarith)]

/-- The logistic of any gate and of its negation are two parts of one, and the reference's logarithm is of the first. -/
theorem sigm_parts (z : EReal) : ∃ s : ℝ, 0 ≤ s ∧ s ≤ 1 ∧ sigm z = (s : EReal) ∧ sigm (-z) = ((1 - s : ℝ) : EReal)
    ∧ -(lae (-z) 0) = Ideal.log (s : EReal) := by
  have z0 : ((0 : ℝ) : EReal) = 0 := rfl
  have d1 : Ideal.div 1 (1 + 0) = 1 := by
    rw [add_zero, one_coe, div_coe one_pos, div_one]
  have d0 : Ideal.div 1 (1 + ⊤) = 0 := by
    rw [Ideal.div, EReal.add_top_of_ne_bot (by decide), if_neg (by decide), EReal.inv_top, mul_zero]
  have t1 : Ideal.exp (⊤ : EReal) = ⊤ := rfl
  have t2 : Ideal.exp (⊥ : EReal) = 0 := rfl
  induction z using EReal.rec with
  | bot =>
    refine ⟨0, le_rfl, zero_le_one, ?_, ?_, ?_⟩
    · unfold sigm; rw [EReal.neg_bot, t1, d0]; rfl
    · unfold sigm; rw [neg_neg, t2, d1, sub_zero]; rfl
    · unfold lae
      rw [if_neg (not_not.2 rfl), EReal.neg_bot, z0, log_zero, sub_zero, max_eq_left le_top, max_eq_left le_top, EReal.neg_top, t2,
        Ideal.log1p, add_zero, one_coe, log_pos one_pos, Real.log_one, z0, add_zero, EReal.neg_top]
  | top =>
    refine ⟨1, zero_le_one, le_rfl, ?_, ?_, ?_⟩
    · unfold sigm; rw [EReal.neg_top, t2, d1]; rfl
    · unfold sigm; rw [neg_neg, t1, d0, sub_self]; rfl
    · unfold lae
      rw [if_neg (not_not.2 rfl), EReal.neg_top, sub_zero, EReal.neg_bot, max_eq_right bot_le, max_eq_right bot_le, EReal.neg_top, t2,
        Ideal.log1p, add_zero, one_coe, log_pos one_pos, Real.log_one, z0, add_zero, neg_zero]
  | coe x =>
    have p1 := Real.exp_pos x
    have p2 := Real.exp_pos (-x)
    have e : ∀ r : ℝ, Ideal.exp (r : EReal) = ((Real.exp r : ℝ) : EReal) := fun _ => rfl
    refine ⟨1 / (1 + Real.exp (-x)), by positivity, (div_le_one (by positivity)).2 (by linarith), ?_, ?_, ?_⟩
    · unfold sigm
      rw [← EReal.coe_neg, e, one_coe, ← EReal.coe_add, div_coe (by positivity)]
    · unfold sigm
      rw [neg_neg, e, one_coe, ← EReal.coe_add, div_coe (by positivity), Real.exp_neg]
      congr 1
      field_simp
      ring
    · have h1 : -(x : EReal) = Ideal.log ((Real.exp (-x) : ℝ) : EReal) := by
        rw [log_pos p2, Real.log_exp, EReal.coe_neg]
      have h2 : (0 : EReal) = Ideal.log ((1 : ℝ) : EReal) := by rw [log_pos one_pos, Real.log_one]; rfl
      rw [h1, h2, lae_log_pos p2 zero_le_one, log_pos (by positivity), ← EReal.coe_neg]
      congr 1
      rw [Real.log_div one_ne_zero (by positivity), Real.log_one, zero_sub, add_comm]

/-- With a lower bound between zero and one the decay is too, the reference's logarithm is its logarithm, and what is left
    is one less it. -/
theorem gate {l : EReal} (h0 : 0 ≤ l) (h1 : l ≤ 1) (z : EReal) : ∃ f : ℝ, 0 ≤ f ∧ f ≤ 1 ∧ decay l z = (f : EReal)
    ∧ left l z = ((1 - f : ℝ) : EReal) ∧ logDecay l z = Ideal.log (f : EReal) := by
  obtain ⟨s, hs0, hs1, e1, e2, e3⟩ := sigm_parts z
  have ht : l ≠ ⊤ := fun h => absurd (h ▸ h1) (by decide)
  lift l to ℝ using ⟨ht, (EReal.bot_lt_zero.trans_le h0).ne'⟩
  have l0 : 0 ≤ l := by exact_mod_cast h0
  have l1 : l ≤ 1 := by exact_mod_cast h1
  have hp : 0 ≤ (1 - l) * s := mul_nonneg (by linarith) hs0
  refine ⟨l + (1 - l) * s, by linarith, by nlinarith, ?_, ?_, ?_⟩
  · unfold decay
    rw [e1, one_coe, ← EReal.coe_sub, ← EReal.coe_mul, ← EReal.coe_add]
  · unfold left
    rw [e2, one_coe, ← EReal.coe_sub, ← EReal.coe_mul]
    congr 1
    ring
  · unfold logDecay
    have hm : Ideal.log1p (-(l : EReal)) - lae (-z) 0 = Ideal.log (((1 - l) * s : ℝ) : EReal) := by
      rw [sub_eq_add_neg, e3, Ideal.log1p, one_coe, ← EReal.coe_neg, ← EReal.coe_add, ← sub_eq_add_neg]
      have z0 : ((0 : ℝ) : EReal) = 0 := rfl
      rcases l1.eq_or_lt with rfl | l1
      · rw [sub_self, zero_mul, z0, log_zero, EReal.bot_add]
      rcases hs0.eq_or_lt with rfl | hs0
      · rw [mul_zero, z0, log_zero, EReal.add_bot]
      have := sub_pos.2 l1
      rw [log_pos this, log_pos hs0, log_pos (mul_pos this hs0), ← EReal.coe_add, Real.log_mul this.ne' hs0.ne']
    rw [hm, lae_log l0 hp]

/-- The reference's key: one less the exponential of the decay's logarithm. -/
theorem left_eq {l : EReal} (h0 : 0 ≤ l) (h1 : l ≤ 1) (z : EReal) : -(Ideal.exp (logDecay l z) - 1) = left l z := by
  obtain ⟨f, hf, -, -, e2, e3⟩ := gate h0 h1 z
  rw [e2, e3]
  have : Ideal.exp (Ideal.log (f : EReal)) = ((f : ℝ) : EReal) := by
    rcases hf.eq_or_lt with rfl | hf
    · have z0 : ((0 : ℝ) : EReal) = 0 := rfl
      rw [z0, log_zero]
      rfl
    · rw [log_pos hf]
      show ((Real.exp (Real.log f) : ℝ) : EReal) = _
      rw [Real.exp_log hf]
  rw [this, one_coe, ← EReal.coe_sub, ← EReal.coe_neg, neg_sub]

/-- The kernel's logarithm of the decay is the reference's, and at most zero. -/
theorem log_decay {l : EReal} (h0 : 0 ≤ l) (h1 : l ≤ 1) (z : EReal) : Ideal.log (decay l z) = logDecay l z := by
  obtain ⟨f, -, -, e1, -, e3⟩ := gate h0 h1 z
  rw [e1, e3]

theorem logDecay_le {l : EReal} (h0 : 0 ≤ l) (h1 : l ≤ 1) (z : EReal) : logDecay l z ≤ 0 := by
  obtain ⟨f, hf, hf1, -, -, e3⟩ := gate h0 h1 z
  rw [e3]
  rcases hf.eq_or_lt with rfl | hf
  · have z0 : ((0 : ℝ) : EReal) = 0 := rfl
    rw [z0, log_zero]
    exact bot_le
  · rw [log_pos hf]
    exact_mod_cast Real.log_nonpos hf.le hf1

/-- The kernel's other choice between the two forms on `exp (−|z|)` is the logistic of the negation. -/
theorem sigm_neg_eq (z : EReal) :
    (if 0 ≤ z then Ideal.exp (0 - max z (-z)) * Ideal.div 1 (1 + Ideal.exp (0 - max z (-z)))
      else Ideal.div 1 (1 + Ideal.exp (0 - max z (-z)))) = sigm (-z) := by
  have h := sigm_eq (-z)
  rw [neg_neg, max_comm] at h
  rw [← h]
  by_cases hz : 0 ≤ z
  · rw [if_pos hz]
    by_cases h' : 0 ≤ -z
    · have : z = 0 := le_antisymm (by simpa using EReal.neg_le_neg_iff.2 h') hz
      subst this
      have e : Ideal.exp (0 - max (0 : EReal) (-0)) = 1 := by
        rw [neg_zero, max_self, sub_zero]
        show ((Real.exp 0 : ℝ) : EReal) = 1
        rw [Real.exp_zero]; rfl
      rw [if_pos h', e, one_mul]
    · rw [if_neg h']
  · rw [if_neg hz, if_pos (by simpa using EReal.neg_le_neg_iff.2 (le_of_lt (not_le.1 hz)))]

/-! ## A chunk -/

/-- The running sums of a chunk's rows. -/
def csum (g : Fin 64 → Fin 128 → EReal) (t : Fin 64) (d : Fin 128) : EReal := ∑ s, if s ≤ t then g s d else 0

/-- The chunk's result at a row and a lane: the rows up to it, weighted, and what the state holds. -/
def out (q k : Fin 64 → Fin 128 → EReal) (v : Fin 64 → Fin 128 → EReal) (g : Fin 64 → Fin 128 → EReal)
    (S : Fin 128 → Fin 128 → EReal) (t : Fin 64) (e : Fin 128) : EReal :=
  (∑ s, if s ≤ t then (∑ d, q t d * Ideal.exp (csum g t d - csum g s d) * k s d) * v s e else 0)
    + ∑ d, q t d * Ideal.exp (csum g t d) * S d e

/-- The state after the chunk. -/
def next (k : Fin 64 → Fin 128 → EReal) (v : Fin 64 → Fin 128 → EReal) (g : Fin 64 → Fin 128 → EReal)
    (S : Fin 128 → Fin 128 → EReal) (d e : Fin 128) : EReal :=
  Ideal.exp (csum g 63 d) * S d e + ∑ s, k s d * Ideal.exp (csum g 63 d - csum g s d) * v s e

/-- The running sums of rows at most zero are at most zero, and fall. -/
theorem csum_le {g : Fin 64 → Fin 128 → EReal} (hg : ∀ s d, g s d ≤ 0) (t : Fin 64) (d : Fin 128) : csum g t d ≤ 0 :=
  Finset.sum_nonpos fun s _ => by
    split
    · exact hg s d
    · exact le_rfl

theorem csum_anti {g : Fin 64 → Fin 128 → EReal} (hg : ∀ s d, g s d ≤ 0) {s t : Fin 64} (h : s ≤ t) (d : Fin 128) :
    csum g t d ≤ csum g s d := Finset.sum_le_sum fun x _ => by
  by_cases hs : x ≤ s
  · rw [if_pos hs, if_pos (hs.trans h)]
  · rw [if_neg hs]
    split
    · exact hg x d
    · exact le_rfl

/-- Of a number and what its cast leaves of it, the sums are those of the number. -/
theorem sum_parts (p : Fin 64 → Prop) [DecidablePred p] {g : Fin 64 → EReal} (hg : ∀ s, g s ≤ 0) :
    (∑ s, if p s then g s else 0) + (∑ s, if p s then g s - g s else 0) = ∑ s, if p s then g s else 0 := by
  rw [← Finset.sum_add_distrib]
  refine Finset.sum_congr rfl fun s _ => ?_
  split
  · have h := hg s
    generalize g s = x at h
    induction x using EReal.rec with
    | bot => rw [EReal.bot_add]
    | top => exact absurd h (by decide)
    | coe r => rw [← EReal.coe_sub, sub_self]; exact add_zero _
  · exact add_zero _

/-- The kernel's weight of two rows, each against the running sum of a row before the later, is the weight of their
    difference. -/
theorem weight_between (q k : Fin 128 → EReal) {c c' b : Fin 128 → EReal} (hc : ∀ d, c d ≤ c' d) (hb : ∀ d, c d ≤ b d)
    (hc' : ∀ d, c' d ≤ 0) (hb' : ∀ d, b d ≤ 0) :
    (∑ d, q d * Ideal.exp (c d - b d) * (k d * Ideal.exp (b d - c' d))) = ∑ d, q d * Ideal.exp (c d - c' d) * k d := by
  refine Finset.sum_congr rfl fun d _ => ?_
  have e : ∀ r : ℝ, Ideal.exp (r : EReal) = ((Real.exp r : ℝ) : EReal) := fun _ => rfl
  have t : ∀ y : EReal, y ≤ 0 → y ≠ ⊤ := fun y hy h => absurd (h ▸ hy) (by decide)
  have h1 := hc d
  have h2 := hb d
  have h3 := t _ (hc' d)
  have h4 := t _ (hb' d)
  generalize c d = x at h1 h2 ⊢
  generalize c' d = y at h1 h3 ⊢
  generalize b d = z at h2 h4 ⊢
  induction x using EReal.rec with
  | bot =>
    have e0 : Ideal.exp (⊥ : EReal) = 0 := rfl
    rw [EReal.bot_sub, EReal.bot_sub, e0, mul_zero, zero_mul, zero_mul]
  | top => exact absurd (top_le_iff.1 h1) h3
  | coe x =>
    lift y to ℝ using ⟨h3, fun h => absurd (h ▸ h1) (not_le.2 (EReal.bot_lt_coe x))⟩
    lift z to ℝ using ⟨h4, fun h => absurd (h ▸ h2) (not_le.2 (EReal.bot_lt_coe x))⟩
    rw [← EReal.coe_sub, ← EReal.coe_sub, ← EReal.coe_sub, e, e, e]
    have : Real.exp (x - y) = Real.exp (x - z) * Real.exp (z - y) := by rw [← Real.exp_add]; congr 1; ring
    rw [this, EReal.coe_mul]
    generalize ((Real.exp (x - z) : ℝ) : EReal) = u
    generalize ((Real.exp (z - y) : ℝ) : EReal) = w
    rw [mul_assoc, mul_assoc, mul_left_comm u (k d) w, mul_comm (k d)]

/-- A sum over a stretch of the rows that has all rows of a kind is the sum over all rows. -/
theorem sum_stretch {N : ℕ} (o : ℕ) (hN : o + N ≤ 64) (p : Fin 64 → Prop) [DecidablePred p]
    (hp : ∀ s : Fin 64, p s → o ≤ s.val ∧ s.val < o + N) (f : Fin 64 → EReal) :
    (∑ x : Fin N, if p ⟨o + x.val, by omega⟩ then f ⟨o + x.val, by omega⟩ else 0) = ∑ s : Fin 64, if p s then f s else 0 := by
  refine Finset.sum_of_injOn (fun x : Fin N => (⟨o + x.val, by omega⟩ : Fin 64)) ?_ (fun _ _ => Finset.mem_coe.2 (Finset.mem_univ _)) ?_ (fun _ _ => rfl)
  · intro a _ b _ h
    have := congrArg Fin.val h
    exact Fin.ext (by simp at this; omega)
  · intro s _ hs
    rw [if_neg]
    intro h
    obtain ⟨h1, h2⟩ := hp s h
    exact hs ⟨⟨s.val - o, by omega⟩, Finset.mem_coe.2 (Finset.mem_univ _), Fin.ext (by simp; omega)⟩

end Cert.ScanMath

end
-- ==== Proof.ScanRead.lean ====
/-
  The recurrence kernel's work on one chunk of one head, in both directions, read at an index: the results and the new
  state of the chunk as the recurrence states them, the rows of the second direction in reverse.
-/
module

public import proofs.«01_k».proof.Proof.Gen.ScanIdeal.Frame.Runs
public import proofs.«01_k».proof.Proof.ScanMath
public import Idealize.ShloMosaic.Lib.Pointwise
public import Idealize.ShloMosaic.Lib.Pipeline.ValueKit

@[expose] public section

set_option maxRecDepth 65536

noncomputable section

namespace Cert.ScanIdeal.Body

open Idealize.ShloMosaic Idealize.ShloMosaic.TcCoe Idealize.SL.Sem
open Cert.ScanIdeal Cert.ScanIdeal.Gen Cert.FfnMath Cert.OutMath Cert.ScanMath

/-! ## The chunk's work, of the gates, queries, values, lower bounds and the state -/

section work

variable {F : FTy → Type} [FloatOps F]
variable (z q v : FVec F S64x128 .f32) (lb : FVec F S1x128 .f32) (st : FVec F S128x128 .f32)

/-- The running sums of the decays' logarithms, from the first row and from the last. -/
def cumF : FVec F S64x128 .f32 :=
  k0_pay72 k0_pay2 (k0_pay70 z lb) (k0_pay71 z lb) (constant S64x128 .f32 0x00000000#32)
def cumB : FVec F S64x128 .f32 := k0_pay80 k0_pay3 (k0_pay78 z lb) (k0_pay79 z lb)

/-- The chunk's results. -/
def outF : FVec F S1x64x128 .f32 :=
  k0_pay279 (k0_pay74 v) (k0_pay162 st (cumF z lb) (k0_pay73 q))
    (k0_pay169 (k0_pay166 (cumF z lb) (k0_pay73 q)) (k0_pay167 (k0_pay68 z lb)) (k0_pay168 (cumF z lb)))
    (k0_pay170 (k0_pay68 z lb) (cumF z lb) (k0_pay73 q)) (k0_pay171 (k0_pay68 z lb) (cumF z lb) (k0_pay73 q))
    (k0_pay277 (k0_pay74 v) (k0_pay162 st (cumF z lb) (k0_pay73 q)) (k0_pay164 (k0_pay68 z lb) (cumF z lb) (k0_pay73 q)))
    k0_pay278
def outB : FVec F S1x64x128 .f32 :=
  k0_pay286 (k0_pay82 v) (k0_pay172 st (cumB z lb) (k0_pay81 q))
    (k0_pay184 (k0_pay182 (cumB z lb) (k0_pay81 q)) (k0_pay183 (k0_pay77 z lb) (cumB z lb)))
    (k0_pay281 (k0_pay82 v) (k0_pay172 st (cumB z lb) (k0_pay81 q))
      (k0_pay178 (k0_pay77 z lb) (cumB z lb) (k0_pay174 (cumB z lb)) (k0_pay175 (k0_pay81 q)) (k0_pay176 (cumB z lb))
        (k0_pay177 (cumB z lb))))
    (k0_pay282 (k0_pay82 v) (k0_pay172 st (cumB z lb) (k0_pay81 q)) (k0_pay179 (k0_pay77 z lb) (cumB z lb) (k0_pay81 q)))
    (k0_pay283 (k0_pay82 v) (k0_pay172 st (cumB z lb) (k0_pay81 q)) (k0_pay180 (k0_pay77 z lb) (cumB z lb) (k0_pay81 q)))
    k0_pay284 (iota .tc S16x16 32 [1] iota_S16x16_d1_w32) k0_pay285

/-- The state after it. -/
def stF : FVec F S128x128 .f32 := k0_pay163 v st (k0_pay68 z lb) (cumF z lb)
def stB : FVec F S128x128 .f32 := k0_pay173 v st (k0_pay77 z lb) (cumB z lb)

end work

/-! ## Comparisons of small numbers -/

theorem le_bit : ∀ x y : Fin 64, IntOp.cmpi .sle (BitVec.ofNat 32 x.val) (BitVec.ofNat 32 y.val) = if x ≤ y then 1#1 else 0#1 := by
  decide +kernel

theorem ge_bit : ∀ x y : Fin 64, IntOp.cmpi .sge (BitVec.ofNat 32 x.val) (BitVec.ofNat 32 y.val) = if y ≤ x then 1#1 else 0#1 := by
  decide +kernel

theorem le_bit_off {x y o p : ℕ} (s t : Fin 64) (hs : s.val = x + o) (ht : t.val = y + p) :
    IntOp.cmpi .sle (IntOp.addi (BitVec.ofNat 32 x) (BitVec.ofNat 32 o)) (IntOp.addi (BitVec.ofNat 32 y) (BitVec.ofNat 32 p))
      = if s ≤ t then 1#1 else 0#1 := by
  rw [← le_bit, hs, ht, BitVec.ofNat_add, BitVec.ofNat_add]
  rfl

theorem ge_bit_off {x y o p : ℕ} (s t : Fin 64) (hs : s.val = x + o) (ht : t.val = y + p) :
    IntOp.cmpi .sge (IntOp.addi (BitVec.ofNat 32 x) (BitVec.ofNat 32 o)) (IntOp.addi (BitVec.ofNat 32 y) (BitVec.ofNat 32 p))
      = if t ≤ s then 1#1 else 0#1 := by
  rw [← ge_bit, hs, ht, BitVec.ofNat_add, BitVec.ofNat_add]
  rfl

/-- A comparison's bit as a number. -/
theorem bit_mul (p : Prop) [Decidable p] (a : EReal) :
    (FloatOps.sitofp (F := Ideal) .f32 (BitVec.setWidth 32 (if p then 1#1 else 0#1)) : EReal) * a = if p then a else 0 := by
  split
  · have : (FloatOps.sitofp (F := Ideal) .f32 (BitVec.setWidth 32 (1#1)) : EReal) = 1 := by
      show (((BitVec.setWidth 32 (1#1)).toInt : ℝ) : EReal) = 1
      norm_num
    rw [this, one_mul]
  · have : (FloatOps.sitofp (F := Ideal) .f32 (BitVec.setWidth 32 (0#1)) : EReal) = 0 := by
      show (((BitVec.setWidth 32 (0#1)).toInt : ℝ) : EReal) = 0
      norm_num
    rw [this, zero_mul]

/-- A block of the chunk's weighted rows, over the stretch of rows it looks at, is the sum over all rows it may see. -/
theorem part {N : ℕ} (o : ℕ) (hN : o + N ≤ 64) (p : Fin 64 → Prop) [DecidablePred p]
    (hp : ∀ s : Fin 64, p s → o ≤ s.val ∧ s.val < o + N) (q ct b : Fin 128 → EReal) (k c : Fin 64 → Fin 128 → EReal)
    (v : Fin 64 → EReal) (hct : ∀ s, p s → ∀ d, ct d ≤ c s d) (hc : ∀ s d, c s d ≤ 0)
    (hb : ∀ d, ct d ≤ b d) (hb' : ∀ d, b d ≤ 0) (bit : Fin N → BitVec 1) (G : Fin N → EReal)
    (hbit : ∀ x : Fin N, bit x = if p ⟨o + x.val, by omega⟩ then 1#1 else 0#1)
    (hG : ∀ x : Fin N, G x = (∑ d, q d * Ideal.exp (ct d - b d) * (k ⟨o + x.val, by omega⟩ d * Ideal.exp (b d - c ⟨o + x.val, by omega⟩ d)))
      * v ⟨o + x.val, by omega⟩) :
    (∑ x, Scalar.select (bit x) (G x) 0) = ∑ s, if p s then (∑ d, q d * Ideal.exp (ct d - c s d) * k s d) * v s else 0 := by
  rw [← sum_stretch o hN p hp]
  refine Finset.sum_congr rfl fun x _ => ?_
  rw [hbit, hG]
  split
  · next h =>
    rw [weight_between q _ (hct _ h) hb (hc _) hb']
    rfl
  · rfl

/-! ## The readings -/

/-- The scaled queries, the keys, the values, the logarithms of the decays and the state, by row and lane. -/
def qs (q : FVec Ideal S64x128 .f32) (t : Fin 64) (d : Fin 128) : EReal := silu (q (ix2 t d)) * Ideal.ofBits .f32 0x3DB504F3#32
def ks (z : FVec Ideal S64x128 .f32) (lb : FVec Ideal S1x128 .f32) (t : Fin 64) (d : Fin 128) : EReal := left (lb (ix2 0 d)) (z (ix2 t d))
def vs (v : FVec Ideal S64x128 .f32) (t : Fin 64) (d : Fin 128) : EReal := v (ix2 t d)
def gs (z : FVec Ideal S64x128 .f32) (lb : FVec Ideal S1x128 .f32) (t : Fin 64) (d : Fin 128) : EReal := logDecay (lb (ix2 0 d)) (z (ix2 t d))
def ss (st : FVec Ideal S128x128 .f32) (d e : Fin 128) : EReal := st (ix2 e d)

/-- The running sums from the last row, as the sums of the rows in reverse. -/
def rsum (g : Fin 64 → Fin 128 → EReal) (t : Fin 64) (d : Fin 128) : EReal := ∑ s, if t ≤ s then g s d else 0

variable (z q v : FVec Ideal S64x128 .f32) (lb : FVec Ideal S1x128 .f32) (st : FVec Ideal S128x128 .f32)

theorem kk_apply (t : Fin 64) (d : Fin 128) : k0_pay68 z lb (ix2 t d) = ks z lb t d := by
  unfold k0_pay68 k0_pay67 k0_pay66
  pointwise
  exact congrArg (fun y => (1 - lb (ix2 0 d)) * y) (sigm_neg_eq (z (ix2 t d)))

theorem qh_apply (t : Fin 64) (d : Fin 128) : k0_pay73 q (ix2 t d) = qs q t d := by
  unfold k0_pay73
  pointwise
  exact congrArg (fun y => q (ix2 t d) * y * Ideal.ofBits .f32 0x3DB504F3#32) (sigm_eq (q (ix2 t d)))

/-- The lower bounds of the lanes lie between zero and one. -/
def Bounds (lb : FVec Ideal S1x128 .f32) : Prop := ∀ d : Fin 128, 0 ≤ lb (ix2 0 d) ∧ lb (ix2 0 d) ≤ 1

variable {lb} (hl : Bounds lb)
include hl

theorem log_apply (t : Fin 64) (d : Fin 128) : k0_pay69 z lb (ix2 t d) = gs z lb t d := by
  refine Eq.trans ?_ (log_decay (hl d).1 (hl d).2 (z (ix2 t d)))
  unfold k0_pay69 k0_pay67 k0_pay66
  pointwise
  exact congrArg (fun y => Ideal.log (lb (ix2 0 d) + (1 - lb (ix2 0 d)) * y)) (sigm_eq (z (ix2 t d)))

theorem gs_le (t : Fin 64) (d : Fin 128) : gs z lb t d ≤ 0 := logDecay_le (hl d).1 (hl d).2 _

theorem cumF_apply (t : Fin 64) (d : Fin 128) : cumF z lb (ix2 t d) = csum (gs z lb) t d := by
  have h := log_apply z hl
  unfold cumF k0_pay72 k0_pay71 k0_pay70 k0_pay2
  generalize k0_pay69 z lb = g at h
  pointwise
  simp only [h, le_bit, bit_mul]
  exact sum_parts (fun s => s ≤ t) fun s => gs_le z hl s d

theorem cumB_apply (t : Fin 64) (d : Fin 128) : cumB z lb (ix2 t d) = rsum (gs z lb) t d := by
  have h : ∀ t d, k0_pay78 z lb (ix2 t d) = gs z lb t d := log_apply z hl
  unfold cumB k0_pay80 k0_pay79 k0_pay3
  generalize k0_pay78 z lb = g at h
  pointwise
  simp only [h, ge_bit, bit_mul]
  exact sum_parts (fun s => t ≤ s) fun s => gs_le z hl s d

omit hl in
theorem rsum_eq (g : Fin 64 → Fin 128 → EReal) (t : Fin 64) (d : Fin 128) : rsum g t d = csum (fun s => g s.rev) t.rev d := by
  unfold rsum csum
  rw [← Equiv.sum_comp Fin.revPerm]
  refine Finset.sum_congr rfl fun s _ => ?_
  simp only [Fin.revPerm_apply, Fin.le_rev_iff]

theorem rsum_le (t : Fin 64) (d : Fin 128) : rsum (gs z lb) t d ≤ 0 := by
  rw [rsum_eq]
  exact csum_le (fun s d => gs_le z hl _ d) _ _

theorem rsum_mono {t s : Fin 64} (h : t ≤ s) (d : Fin 128) : rsum (gs z lb) t d ≤ rsum (gs z lb) s d := by
  rw [rsum_eq, rsum_eq]
  exact csum_anti (fun s d => gs_le z hl _ d) (Fin.rev_le_rev.2 h) d

theorem stF_apply (d e : Fin 128) : stF z v lb st (ix2 e d) = next (ks z lb) (vs v) (gs z lb) (ss st) d e := by
  have hc := cumF_apply z hl
  have hk := kk_apply z lb
  unfold stF k0_pay163
  generalize cumF z lb = c at hc
  generalize k0_pay68 z lb = k at hk
  pointwise
  simp only [hc, hk]
  unfold next ss vs
  rw [mul_comm]
  exact congrArg _ (Finset.sum_congr rfl fun s _ => mul_comm _ _)

/-- A block of rows of the first direction: it looks at the first `N` rows, of which it may see those up to its own. -/
theorem partF (N : ℕ) (hN : N ≤ 64) (t : Fin 64) (ht : t.val < N) (e : Fin 128) (b : Fin 128 → EReal)
    (hb : ∀ d, csum (gs z lb) t d ≤ b d) (hb' : ∀ d, b d ≤ 0) (y p : ℕ) (hy : t.val = y + p) (G : Fin N → EReal)
    (hG : ∀ x : Fin N, G x = (∑ d, qs q t d * Ideal.exp (csum (gs z lb) t d - b d)
      * (ks z lb ⟨x.val, by omega⟩ d * Ideal.exp (b d - csum (gs z lb) ⟨x.val, by omega⟩ d))) * vs v ⟨x.val, by omega⟩ e) :
    (∑ x : Fin N, Scalar.select (IntOp.cmpi .sle (IntOp.addi (BitVec.ofNat 32 x.val) 0#32)
        (IntOp.addi (BitVec.ofNat 32 y) (BitVec.ofNat 32 p))) (G x) 0)
      = ∑ s, if s ≤ t then (∑ d, qs q t d * Ideal.exp (csum (gs z lb) t d - csum (gs z lb) s d) * ks z lb s d) * vs v s e else 0 := by
  refine part 0 (by omega) (fun s => s ≤ t) (fun s hs => ⟨Nat.zero_le _, by have : s.val ≤ t.val := hs; omega⟩) (qs q t)
    (csum (gs z lb) t) b (ks z lb) (csum (gs z lb)) (fun s => vs v s e) (fun _ hs => csum_anti (gs_le z hl) hs)
    (csum_le (gs_le z hl)) hb hb' _ G
    (fun x => le_bit_off ⟨0 + x.val, by omega⟩ t (Nat.zero_add _) hy) (fun x => ?_)
  simp only [Nat.zero_add]
  exact hG x

/-- A block of rows of the second direction: it looks at the rows from `o`, of which it may see those from its own. -/
theorem partB (N o : ℕ) (hN : o + N = 64) (t : Fin 64) (ht : o ≤ t.val) (e : Fin 128) (b : Fin 128 → EReal)
    (hb : ∀ d, rsum (gs z lb) t d ≤ b d) (hb' : ∀ d, b d ≤ 0) (y p : ℕ) (hy : t.val = y + p) (G : Fin N → EReal)
    (hG : ∀ x : Fin N, G x = (∑ d, qs q t d * Ideal.exp (rsum (gs z lb) t d - b d)
      * (ks z lb ⟨o + x.val, by omega⟩ d * Ideal.exp (b d - rsum (gs z lb) ⟨o + x.val, by omega⟩ d))) * vs v ⟨o + x.val, by omega⟩ e) :
    (∑ x : Fin N, Scalar.select (IntOp.cmpi .sge (IntOp.addi (BitVec.ofNat 32 x.val) (BitVec.ofNat 32 o))
        (IntOp.addi (BitVec.ofNat 32 y) (BitVec.ofNat 32 p))) (G x) 0)
      = ∑ s, if t ≤ s then (∑ d, qs q t d * Ideal.exp (rsum (gs z lb) t d - rsum (gs z lb) s d) * ks z lb s d) * vs v s e else 0 :=
  part o (by omega) (fun s => t ≤ s) (fun s hs => ⟨by have : t.val ≤ s.val := hs; omega, by omega⟩) (qs q t)
    (rsum (gs z lb) t) b (ks z lb) (rsum (gs z lb)) (fun s => vs v s e) (fun _ hs => rsum_mono z hl hs) (rsum_le z hl) hb hb' _ G
    (fun x => ge_bit_off ⟨o + x.val, by omega⟩ t (Nat.add_comm _ _) hy) hG

set_option maxHeartbeats 2000000 in
theorem outF_apply (t : Fin 64) (e : Fin 128) :
    outF z q v lb st (ix3 0 t e) = out (qs q) (ks z lb) (vs v) (gs z lb) (ss st) t e := by
  have hc := cumF_apply z hl
  have hr := csum_le (gs_le z hl)
  have ha : ∀ {s : Fin 64}, s ≤ t → ∀ d, csum (gs z lb) t d ≤ csum (gs z lb) s d := csum_anti (gs_le z hl)
  have hk := kk_apply z lb
  have hq := qh_apply q
  unfold outF k0_pay279 k0_pay278 k0_pay277 k0_pay169 k0_pay170 k0_pay171 k0_pay166 k0_pay167 k0_pay168 k0_pay165 k0_pay164 k0_pay162 k0_pay74
  generalize cumF z lb = c at hc
  generalize k0_pay68 z lb = k at hk
  generalize k0_pay73 q = qq at hq
  pointwise
  simp only [hc, hk, hq]
  unfold out ss
  refine Eq.trans ?_ (add_comm _ _)
  by_cases h1 : t.val < 16
  · rw [dif_pos h1]
    refine congrArg _ (partF z q v hl 16 (by omega) t (by omega) e (fun _ => 0) (hr t) (fun _ => le_rfl) t.val 0 rfl _ (fun x => ?_))
    simp only [sub_zero]
    rfl
  rw [dif_neg h1]
  have e1 : (⟨16 + (t.val - 16), by omega⟩ : Fin 64) = t := Fin.ext (by simp; omega)
  by_cases h2 : t.val - 16 < 16
  · rw [dif_pos h2]
    simp only [e1]
    exact congrArg _ (partF z q v hl 32 (by omega) t (by omega) e (csum (gs z lb) 15) (ha (by rw [Fin.le_def]; show 15 ≤ t.val; omega)) (hr 15) (t.val - 16) 16 (by omega) _ (fun x => rfl))
  rw [dif_neg h2]
  have e2 : (⟨32 + (t.val - 16 - 16), by omega⟩ : Fin 64) = t := Fin.ext (by simp; omega)
  by_cases h3 : t.val - 16 - 16 < 16
  · rw [dif_pos h3]
    simp only [e2]
    exact congrArg _ (partF z q v hl 48 (by omega) t (by omega) e (csum (gs z lb) 31) (ha (by rw [Fin.le_def]; show 31 ≤ t.val; omega)) (hr 31) (t.val - 16 - 16) 32 (by omega) _ (fun x => rfl))
  rw [dif_neg h3]
  have e3 : (⟨48 + (t.val - 16 - 16 - 16), by omega⟩ : Fin 64) = t := Fin.ext (by simp; omega)
  simp only [e3]
  exact congrArg _ (partF z q v hl 64 (by omega) t (by omega) e (csum (gs z lb) 47) (ha (by rw [Fin.le_def]; show 47 ≤ t.val; omega)) (hr 47) (t.val - 16 - 16 - 16) 48 (by omega) _ (fun x => rfl))

theorem stB_apply (d e : Fin 128) :
    stB z v lb st (ix2 e d) = next (fun s => ks z lb s.rev) (fun s => vs v s.rev) (fun s => gs z lb s.rev) (ss st) d e := by
  have hc := cumB_apply z hl
  have hk : ∀ t d, k0_pay77 z lb (ix2 t d) = ks z lb t d := kk_apply z lb
  unfold stB k0_pay173
  generalize cumB z lb = c at hc
  generalize k0_pay77 z lb = k at hk
  pointwise
  simp only [hc, hk, rsum_eq]
  unfold next ss vs
  rw [mul_comm]
  refine congrArg _ ?_
  rw [← Equiv.sum_comp Fin.revPerm]
  refine Finset.sum_congr rfl fun s _ => ?_
  simp only [Fin.revPerm_apply, Fin.rev_rev]
  exact mul_comm _ _

set_option maxHeartbeats 2000000 in
theorem outB_apply (t : Fin 64) (e : Fin 128) :
    outB z q v lb st (ix3 0 t e) = out (fun s => qs q s.rev) (fun s => ks z lb s.rev) (fun s => vs v s.rev) (fun s => gs z lb s.rev)
      (ss st) t.rev e := by
  have hc := cumB_apply z hl
  have hr := rsum_le z hl
  have ha : ∀ {s : Fin 64}, t ≤ s → ∀ d, rsum (gs z lb) t d ≤ rsum (gs z lb) s d := rsum_mono z hl
  have hk : ∀ t d, k0_pay77 z lb (ix2 t d) = ks z lb t d := kk_apply z lb
  have hq : ∀ t d, k0_pay81 q (ix2 t d) = qs q t d := qh_apply q
  refine Eq.trans (b := (∑ d, qs q t d * Ideal.exp (rsum (gs z lb) t d) * ss st d e)
    + ∑ s, if t ≤ s then (∑ d, qs q t d * Ideal.exp (rsum (gs z lb) t d - rsum (gs z lb) s d) * ks z lb s d) * vs v s e else 0) ?_ ?_
  · unfold outB k0_pay286 k0_pay285 k0_pay284 k0_pay283 k0_pay282 k0_pay281 k0_pay184 k0_pay183 k0_pay182 k0_pay181 k0_pay180 k0_pay179 k0_pay178
      k0_pay177 k0_pay176 k0_pay175 k0_pay174 k0_pay172 k0_pay82
    generalize cumB z lb = c at hc
    generalize k0_pay77 z lb = k at hk
    generalize k0_pay81 q = qq at hq
    pointwise
    simp only [hc, hk, hq]
    by_cases h1 : t.val < 16
    · rw [dif_pos h1]
      refine congrArg _ (partB z q v hl 64 0 rfl t (by omega) e (rsum (gs z lb) 16) (ha (by rw [Fin.le_def]; show t.val ≤ 16; omega)) (hr 16) t.val 0 rfl _ (fun x => ?_))
      simp only [Nat.zero_add]
      rfl
    rw [dif_neg h1]
    have e1 : (⟨16 + (t.val - 16), by omega⟩ : Fin 64) = t := Fin.ext (by simp; omega)
    by_cases h2 : t.val - 16 < 16
    · rw [dif_pos h2]
      simp only [e1]
      exact congrArg _ (partB z q v hl 48 16 rfl t (by omega) e (rsum (gs z lb) 32) (ha (by rw [Fin.le_def]; show t.val ≤ 32; omega)) (hr 32) (t.val - 16) 16 (by omega) _ (fun x => rfl))
    rw [dif_neg h2]
    have e2 : (⟨32 + (t.val - 16 - 16), by omega⟩ : Fin 64) = t := Fin.ext (by simp; omega)
    by_cases h3 : t.val - 16 - 16 < 16
    · rw [dif_pos h3]
      simp only [e2]
      exact congrArg _ (partB z q v hl 32 32 rfl t (by omega) e (rsum (gs z lb) 48) (ha (by rw [Fin.le_def]; show t.val ≤ 48; omega)) (hr 48) (t.val - 16 - 16) 32 (by omega) _ (fun x => rfl))
    rw [dif_neg h3]
    have e3 : (⟨48 + (t.val - 16 - 16 - 16), by omega⟩ : Fin 64) = t := Fin.ext (by simp; omega)
    simp only [e3]
    refine congrArg _ (partB z q v hl 16 48 rfl t (by omega) e (fun _ => 0) (hr t) (fun _ => le_rfl) (t.val - 16 - 16 - 16) 48 (by omega) _ (fun x => ?_))
    simp only [sub_zero]
    rfl
  · unfold out
    rw [add_comm]
    refine congrArg₂ _ ?_ ?_
    · rw [← Equiv.sum_comp Fin.revPerm]
      refine Finset.sum_congr rfl fun s _ => ?_
      simp only [Fin.revPerm_apply, Fin.rev_rev, Fin.le_rev_iff, rsum_eq]
    · simp only [Fin.rev_rev, rsum_eq]

end Cert.ScanIdeal.Body

end
-- ==== Proof.ScanTrip.lean ====
/-
  What one trip of the recurrence kernel's loop writes: for each head and direction the chunk's results and the state
  after it, each as the chunk's work on the blocks the trip reads.
-/
module

public import proofs.«01_k».proof.Proof.ScanRead

@[expose] public section

set_option maxRecDepth 65536

noncomputable section

namespace Cert.ScanIdeal.Body

open Idealize.ShloMosaic Idealize.ShloMosaic.TcCoe Idealize.SL.Sem
open Cert.ScanIdeal Cert.ScanIdeal.Gen

/-- The buffers of one grid point, and what the ones it reads hold. -/
structure Tile (F : FTy → Type) [FloatOps F] where
  𝒱 : Variants
  c : Dev nD
  bd : Option 𝒱.V
  i : grid0.Coords
  arg2 : Memref sig .tc .vmem S1x512x768 .f32
  h2 : arg2.IsWhole
  arg3 : Memref sig .tc .vmem S1x512x768 .f32
  h3 : arg3.IsWhole
  arg4 : Memref sig .tc .vmem S1x512x768 .f32
  h4 : arg4.IsWhole
  arg5 : Memref sig .tc .vmem S1x512x768 .f32
  h5 : arg5.IsWhole
  arg6 : Memref sig .tc .vmem S1x512x768 .f32
  h6 : arg6.IsWhole
  arg7 : Memref sig .tc .vmem S1x512x768 .f32
  h7 : arg7.IsWhole
  arg8 : Memref sig .tc .vmem S2x1x768 .f32
  h8 : arg8.IsWhole
  arg9 : Memref sig .tc .vmem S1x512x768 .f32
  h9 : arg9.IsWhole
  arg10 : Memref sig .tc .vmem S1x512x768 .f32
  h10 : arg10.IsWhole
  arg11 : Memref sig .tc .vmem S2x6x128x128 .f32
  h11 : arg11.IsWhole
  X2 : BufTy.Contents (Elt F) arg2.view.ty
  X3 : BufTy.Contents (Elt F) arg3.view.ty
  X4 : BufTy.Contents (Elt F) arg4.view.ty
  X5 : BufTy.Contents (Elt F) arg5.view.ty
  X6 : BufTy.Contents (Elt F) arg6.view.ty
  X7 : BufTy.Contents (Elt F) arg7.view.ty
  X8 : BufTy.Contents (Elt F) arg8.view.ty

/-- The corners of the two directions' blocks in trip `k`, head by head. -/
def offF (k : Fin k0_t1_loop.trips) : Fin 6 → Fin 3 → ℕ := ![k0_off1 k, k0_off3 k, k0_off5 k, k0_off7 k, k0_off9 k, k0_off11 k]
def offB (k : Fin k0_t1_loop.trips) : Fin 6 → Fin 3 → ℕ := ![k0_off2 k, k0_off4 k, k0_off6 k, k0_off8 k, k0_off10 k, k0_off12 k]

theorem offF_eq : ∀ (k : Fin k0_t1_loop.trips) (h : Fin 6), offF k h = ![0, 64 * k.val, 128 * h.val] := by decide +kernel
theorem offB_eq : ∀ (k : Fin k0_t1_loop.trips) (h : Fin 6), offB k h = ![0, 64 * (7 - k.val), 128 * h.val] := by decide +kernel

theorem inF : ∀ (k : Fin k0_t1_loop.trips) (h : Fin 6) (a : Fin 3), offF k h a + S1x64x128.size a ≤ S1x512x768.size a := by decide +kernel
theorem inB : ∀ (k : Fin k0_t1_loop.trips) (h : Fin 6) (a : Fin 3), offB k h a + S1x64x128.size a ≤ S1x512x768.size a := by decide +kernel
theorem inL : ∀ (d : Fin 2) (h : Fin 6) (a : Fin 3), (![d.val, 0, 128 * h.val] : Fin 3 → ℕ) a + S1x1x128.size a ≤ S2x1x768.size a := by decide +kernel
theorem inS : ∀ (d : Fin 2) (h : Fin 6) (a : Fin 4), (![d.val, h.val, 0, 0] : Fin 4 → ℕ) a + S1x1x128x128.size a ≤ S2x6x128x128.size a := by decide +kernel

variable {F : FTy → Type} [FloatOps F]

/-- A head's block of rows of a tile, its lower bounds, and its state. -/
def rows (X : S1x512x768.Idx → F .f32) (off : Fin 3 → ℕ) (inb : ∀ a : Fin 3, off a + S1x64x128.size a ≤ S1x512x768.size a) : FVec F S64x128 .f32 :=
  shapeCast S64x128 (fun x => X ((Rect.toLoadRect (Rect.unit (s := S1x512x768) off S1x64x128.size inb)).idx x)) shapeCasts_S1x64x128_S64x128
def bounds (X : S2x1x768.Idx → F .f32) (d : Fin 2) (h : Fin 6) : FVec F S1x128 .f32 :=
  shapeCast S1x128 (fun x => X ((Rect.toLoadRect (Rect.unit (s := S2x1x768) ![d.val, 0, 128 * h.val] S1x1x128.size (inL d h))).idx x)) shapeCasts_S1x1x128_S1x128
def state (X : S2x6x128x128.Idx → F .f32) (d : Fin 2) (h : Fin 6) : FVec F S128x128 .f32 :=
  shapeCast S128x128 (fun x => X ((Rect.toLoadRect (Rect.unit (s := S2x6x128x128) ![d.val, h.val, 0, 0] S1x1x128x128.size (inS d h))).idx x)) shapeCasts_S1x1x128x128_S128x128

namespace Tile

variable (T : Tile F) (k : Fin k0_t1_loop.trips)

/-- The trip's pieces, and those of the trips before it. -/
def trip (f9 : BufTy.Contents (Elt F) T.arg9.view.ty) (f10 : BufTy.Contents (Elt F) T.arg10.view.ty) (f11 : BufTy.Contents (Elt F) T.arg11.view.ty) :=
  tripL_k0_t1 (F := F) T.𝒱 T.c T.bd T.i T.arg2 T.h2 T.arg3 T.h3 T.arg4 T.h4 T.arg5 T.h5 T.arg6 T.h6 T.arg7 T.h7 T.arg8 T.h8 T.arg9 T.h9
    T.arg10 T.h10 T.arg11 T.h11 T.X2 T.X3 T.X4 T.X5 T.X6 T.X7 T.X8 k f9 f10 f11

/-- A direction's results and states in the trip, head by head, of the states before it. -/
def resF (S : S2x6x128x128.Idx → F .f32) (h : Fin 6) : FVec F S1x64x128 .f32 :=
  outF (rows (T.arg4.view.read (Elt F) T.X4) _ (inF k h)) (rows (T.arg2.view.read (Elt F) T.X2) _ (inF k h))
    (rows (T.arg3.view.read (Elt F) T.X3) _ (inF k h)) (bounds (T.arg8.view.read (Elt F) T.X8) 0 h) (state S 0 h)
def resB (S : S2x6x128x128.Idx → F .f32) (h : Fin 6) : FVec F S1x64x128 .f32 :=
  outB (rows (T.arg7.view.read (Elt F) T.X7) _ (inB k h)) (rows (T.arg5.view.read (Elt F) T.X5) _ (inB k h))
    (rows (T.arg6.view.read (Elt F) T.X6) _ (inB k h)) (bounds (T.arg8.view.read (Elt F) T.X8) 1 h) (state S 1 h)
def nextF (S : S2x6x128x128.Idx → F .f32) (h : Fin 6) : FVec F S1x1x128x128 .f32 :=
  shapeCast S1x1x128x128 (stF (rows (T.arg4.view.read (Elt F) T.X4) _ (inF k h)) (rows (T.arg3.view.read (Elt F) T.X3) _ (inF k h))
    (bounds (T.arg8.view.read (Elt F) T.X8) 0 h) (state S 0 h)) shapeCasts_S128x128_S1x1x128x128
def nextB (S : S2x6x128x128.Idx → F .f32) (h : Fin 6) : FVec F S1x1x128x128 .f32 :=
  shapeCast S1x1x128x128 (stB (rows (T.arg7.view.read (Elt F) T.X7) _ (inB k h)) (rows (T.arg6.view.read (Elt F) T.X6) _ (inB k h))
    (bounds (T.arg8.view.read (Elt F) T.X8) 1 h) (state S 1 h)) shapeCasts_S128x128_S1x1x128x128

/-- The pieces. -/
def pieceF (S : S2x6x128x128.Idx → F .f32) (h : Fin 6) : View.Piece (Elt F) S1x512x768 .f32 :=
  ⟨Rect.unit (offF k h) S1x64x128.size (inF k h), T.resF k S h⟩
def pieceB (S : S2x6x128x128.Idx → F .f32) (h : Fin 6) : View.Piece (Elt F) S1x512x768 .f32 :=
  ⟨Rect.unit (offB k h) S1x64x128.size (inB k h), T.resB k S h⟩
def pieceS (S : S2x6x128x128.Idx → F .f32) (d : Fin 2) (h : Fin 6) : View.Piece (Elt F) S2x6x128x128 .f32 :=
  ⟨Rect.unit ![d.val, h.val, 0, 0] S1x1x128x128.size (inS d h), if d = 0 then T.nextF k S h else T.nextB k S h⟩

variable (f9 : BufTy.Contents (Elt F) T.arg9.view.ty) (f10 : BufTy.Contents (Elt F) T.arg10.view.ty) (f11 : BufTy.Contents (Elt F) T.arg11.view.ty)

theorem trip_results : (T.trip k f9 f10 f11).1 = [5, 4, 3, 2, 1, 0].map (T.pieceF k (T.arg11.view.read (Elt F) f11)) := by
  unfold trip tripL_k0_t1 trip_k0_t1
  rfl

theorem trip_results' : (T.trip k f9 f10 f11).2.1 = [5, 4, 3, 2, 1, 0].map (T.pieceB k (T.arg11.view.read (Elt F) f11)) := by
  unfold trip tripL_k0_t1 trip_k0_t1
  rfl

theorem trip_states : (T.trip k f9 f10 f11).2.2 = ([(1, 5), (0, 5), (1, 4), (0, 4), (1, 3), (0, 3), (1, 2), (0, 2), (1, 1), (0, 1), (1, 0), (0, 0)] :
    List (Fin 2 × Fin 6)).map (fun p => T.pieceS k (T.arg11.view.read (Elt F) f11) p.1 p.2) := by
  unfold trip tripL_k0_t1 trip_k0_t1
  rfl

end Tile

end Cert.ScanIdeal.Body

end
-- ==== Proof.ScanRec.lean ====
/-
  The recurrence over the whole sequence, chunk by chunk, in both directions, and what each result is of it.
-/
module

public import proofs.«01_k».proof.Proof.ScanMath

@[expose] public section

noncomputable section

namespace Cert.ScanMath

open Idealize.ShloMosaic Cert.FfnMath Cert.OutMath

/-- A direction's row of chunk `n`: the second direction runs from the sequence's end. -/
def row (d : Fin 2) (n : ℕ) (t : Fin 64) : Fin 8192 :=
  if d = 0 then ⟨(64 * n + t.val) % 8192, Nat.mod_lt _ (by omega)⟩ else Fin.rev ⟨(64 * n + t.val) % 8192, Nat.mod_lt _ (by omega)⟩

/-- A head's lane among all lanes, and its gate's column in a direction. -/
def headLane (h : Fin 6) (j : Fin 128) : Fin 768 := ⟨128 * h.val + j.val, by omega⟩
def col (o : ℕ) (ho : o + 768 ≤ 4096) (h : Fin 6) (j : Fin 128) : Fin 4096 := ⟨o + (headLane h j).val, by have := (headLane h j).isLt; omega⟩
def gateCol (d : Fin 2) (h : Fin 6) (j : Fin 128) : Fin 4096 := if d = 0 then col 2304 (by omega) h j else col 3072 (by omega) h j

variable (x : Fin 4 → Fin 8192 → Fin 4096 → EReal) (l : Fin 2 → Fin 768 → EReal) (d : Fin 2) (b : Fin 4) (h : Fin 6) (n : ℕ)

/-- A chunk's queries, keys, values and logarithms of decays. -/
def cq (t : Fin 64) (j : Fin 128) : EReal := silu (x b (row d n t) (col 0 (by omega) h j)) * Ideal.ofBits .f32 0x3DB504F3#32
def ck (t : Fin 64) (j : Fin 128) : EReal := left (l d (headLane h j)) (x b (row d n t) (gateCol d h j))
def cv (t : Fin 64) (j : Fin 128) : EReal := x b (row d n t) (col 768 (by omega) h j)
def cg (t : Fin 64) (j : Fin 128) : EReal := logDecay (l d (headLane h j)) (x b (row d n t) (gateCol d h j))

/-- The state before chunk `n`. -/
def hist : ℕ → Fin 128 → Fin 128 → EReal
  | 0 => fun _ _ => 0
  | n + 1 => next (ck x l d b h n) (cv x d b h n) (cg x l d b h n) (hist n)

/-- The chunk's results. -/
def res (t : Fin 64) (j : Fin 128) : EReal :=
  out (cq x d b h n) (ck x l d b h n) (cv x d b h n) (cg x l d b h n) (hist x l d b h n) t j

/-- The two results, by batch row, position and lane. -/
def whole (R : Fin 8192) (C : Fin 768) : EReal :=
  res x l d b ⟨C.val / 128, by omega⟩ ((if d = 0 then R else R.rev).val / 64) ⟨(if d = 0 then R else R.rev).val % 64, by omega⟩
    ⟨C.val % 128, by omega⟩

end Cert.ScanMath

end
-- ==== Proof.ScanFold.lean ====
/-
  The trips of one grid point in turn: the states after each, and the results all of them leave, as the recurrence's.
-/
module

public import proofs.«01_k».proof.Proof.ScanTrip
public import proofs.«01_k».proof.Proof.ScanRec
public import Idealize.ShloMosaic.Lib.WritesUnit

@[expose] public section

set_option maxRecDepth 65536

noncomputable section

namespace Cert.ScanIdeal.Body

open Idealize.ShloMosaic Idealize.ShloMosaic.TcCoe Idealize.SL.Sem
open Cert.ScanIdeal Cert.ScanIdeal.Gen Cert.FfnMath Cert.OutMath Cert.ScanMath

/-- Contents under writes that all agree with one function at an index one of them covers. -/
theorem read_of_agree {sp : Space} {s : Shape} {e : EltTy} (v : View sig .tc sp s e) (f : v.ty.Contents (Elt Ideal)) (G : s.Idx → Elt Ideal e) (y : s.Idx) :
    ∀ L : List (View.Piece (Elt Ideal) s e), (∀ p ∈ L, ∀ x, p.2 x = G (p.1.emb x)) → (∃ p ∈ L, y ∈ p.1.set) →
      v.read (Elt Ideal) (v.writes (Elt Ideal) f L) y = G y := by
  intro L hL hc
  rw [View.read_writes_apply_eq_canon _ _ _ _ hc]
  induction L with
  | nil => obtain ⟨_, hm, _⟩ := hc; exact absurd hm List.not_mem_nil
  | cons p L ih =>
    by_cases hy : y ∈ p.1.set
    · obtain ⟨r, w⟩ := p
      obtain ⟨x, rfl⟩ : ∃ x, r.emb x = y := r.exists_idx_of_mem hy
      rw [View.canon_cons_emb]
      exact hL _ (List.mem_cons_self ..) x
    · rw [View.canon_cons_of_not_mem _ _ hy]
      refine ih (fun p hp => hL p (List.mem_cons_of_mem _ hp)) ?_
      obtain ⟨p', hm, hy'⟩ := hc
      rcases List.mem_cons.1 hm with rfl | hm
      · exact absurd hy' hy
      · exact ⟨p', hm, hy'⟩

/-! ## The blocks read at an index -/

theorem cast_rows (w : FVec Ideal S1x64x128 .f32) (t : Fin 64) (j : Fin 128) :
    shapeCast S64x128 w shapeCasts_S1x64x128_S64x128 (ix2 t j) = w (ix3 0 t j) := by
  pointwise

theorem cast_bounds (w : FVec Ideal S1x1x128 .f32) (j : Fin 128) : shapeCast S1x128 w shapeCasts_S1x1x128_S1x128 (ix2 0 j) = w (ix3 0 0 j) := by
  pointwise

theorem cast_state (w : FVec Ideal S1x1x128x128 .f32) (e j : Fin 128) :
    shapeCast S128x128 w shapeCasts_S1x1x128x128_S128x128 (ix2 e j) = w (ix4 0 0 e j) := by
  pointwise

theorem cast_next (w : FVec Ideal S128x128 .f32) (e j : Fin 128) :
    shapeCast S1x1x128x128 w shapeCasts_S128x128_S1x1x128x128 (ix4 0 0 e j) = w (ix2 e j) := by
  pointwise

theorem rows_apply (X : S1x512x768.Idx → EReal) (off : Fin 3 → ℕ) (inb : ∀ a : Fin 3, off a + S1x64x128.size a ≤ S1x512x768.size a)
    (t : Fin 64) (j : Fin 128) (r : Fin 512) (C : Fin 768) (h0 : off 0 = 0) (h1 : r.val = off 1 + t.val) (h2 : C.val = off 2 + j.val) :
    rows (F := Ideal) X off inb (ix2 t j) = X (ix3 0 r C) := by
  refine (cast_rows _ t j).trans (congrArg X (funext fun a => ?_))
  match a with
  | ⟨0, _⟩ => exact Fin.ext (by show off 0 + 1 * 0 = 0; rw [h0])
  | ⟨1, _⟩ => exact Fin.ext (by show off 1 + 1 * t.val = r.val; omega)
  | ⟨2, _⟩ => exact Fin.ext (by show off 2 + 1 * j.val = C.val; omega)

theorem bounds_apply (X : S2x1x768.Idx → EReal) (d : Fin 2) (h : Fin 6) (j : Fin 128) :
    bounds (F := Ideal) X d h (ix2 0 j) = X (ix3 d 0 (headLane h j)) := by
  refine (cast_bounds _ j).trans (congrArg X (funext fun a => ?_))
  match a with
  | ⟨0, _⟩ => exact Fin.ext (by show d.val + 1 * 0 = d.val; omega)
  | ⟨1, _⟩ => exact Fin.ext (by show 0 + 1 * 0 = 0; omega)
  | ⟨2, _⟩ => exact Fin.ext (by show 128 * h.val + 1 * j.val = (headLane h j).val; unfold headLane; show _ = 128 * h.val + j.val; omega)

theorem state_apply (X : S2x6x128x128.Idx → EReal) (d : Fin 2) (h : Fin 6) (e j : Fin 128) :
    state (F := Ideal) X d h (ix2 e j) = X (ix4 d h e j) := by
  refine (cast_state _ e j).trans (congrArg X (funext fun a => ?_))
  match a with
  | ⟨0, _⟩ => exact Fin.ext (by show d.val + 1 * 0 = d.val; omega)
  | ⟨1, _⟩ => exact Fin.ext (by show h.val + 1 * 0 = h.val; omega)
  | ⟨2, _⟩ => exact Fin.ext (by show 0 + 1 * e.val = e.val; omega)
  | ⟨3, _⟩ => exact Fin.ext (by show 0 + 1 * j.val = j.val; omega)

namespace Tile

/-- The tile's buffers hold its blocks of the sequence: the first direction's tile `i`, and the one as far from the end. -/
structure Holds (T : Tile Ideal) (x : Fin 4 → Fin 8192 → Fin 4096 → EReal) (l : Fin 2 → Fin 768 → EReal) (b : Fin 4) (i : Fin 16) : Prop where
  q : ∀ (r : Fin 512) (C : Fin 768), T.arg2.view.read (Elt Ideal) T.X2 (ix3 0 r C) = x b ⟨512 * i.val + r.val, by omega⟩ ⟨0 + C.val, by omega⟩
  v : ∀ (r : Fin 512) (C : Fin 768), T.arg3.view.read (Elt Ideal) T.X3 (ix3 0 r C) = x b ⟨512 * i.val + r.val, by omega⟩ ⟨768 + C.val, by omega⟩
  z : ∀ (r : Fin 512) (C : Fin 768), T.arg4.view.read (Elt Ideal) T.X4 (ix3 0 r C) = x b ⟨512 * i.val + r.val, by omega⟩ ⟨2304 + C.val, by omega⟩
  q' : ∀ (r : Fin 512) (C : Fin 768), T.arg5.view.read (Elt Ideal) T.X5 (ix3 0 r C) = x b ⟨512 * (15 - i.val) + r.val, by omega⟩ ⟨0 + C.val, by omega⟩
  v' : ∀ (r : Fin 512) (C : Fin 768), T.arg6.view.read (Elt Ideal) T.X6 (ix3 0 r C) = x b ⟨512 * (15 - i.val) + r.val, by omega⟩ ⟨768 + C.val, by omega⟩
  z' : ∀ (r : Fin 512) (C : Fin 768), T.arg7.view.read (Elt Ideal) T.X7 (ix3 0 r C) = x b ⟨512 * (15 - i.val) + r.val, by omega⟩ ⟨3072 + C.val, by omega⟩
  lb : ∀ (d : Fin 2) (C : Fin 768), T.arg8.view.read (Elt Ideal) T.X8 (ix3 d 0 C) = l d C
  pos : ∀ d C, 0 ≤ l d C
  le : ∀ d C, l d C ≤ 1

variable {T : Tile Ideal} {x : Fin 4 → Fin 8192 → Fin 4096 → EReal} {l : Fin 2 → Fin 768 → EReal} {b : Fin 4} {i : Fin 16}

/-- A chunk's rows in the first direction. -/
theorem row_fst (i : Fin 16) (k : Fin k0_t1_loop.trips) (t : Fin 64) (r : Fin 512) (hr : r.val = 64 * k.val + t.val) :
    row 0 (8 * i.val + k.val) t = ⟨512 * i.val + r.val, by omega⟩ := by
  unfold row
  rw [if_pos rfl]
  exact Fin.ext (by show (64 * (8 * i.val + k.val) + t.val) % 8192 = 512 * i.val + r.val; omega)

/-- And in the second, read from the end. -/
theorem row_snd (i : Fin 16) (k : Fin k0_t1_loop.trips) (t : Fin 64) (r : Fin 512) (hr : r.val = 64 * (7 - k.val) + (Fin.rev t).val) :
    row 1 (8 * i.val + k.val) t = ⟨512 * (15 - i.val) + r.val, by omega⟩ := by
  have hk : k.val < 8 := Nat.lt_of_lt_of_le k.isLt k0_t1_abs.2.1
  have ht : (Fin.rev t).val = 63 - t.val := by rw [Fin.val_rev]; omega
  unfold row
  rw [if_neg (by decide)]
  exact Fin.ext (by
    rw [Fin.val_rev]
    show 8192 - ((64 * (8 * i.val + k.val) + t.val) % 8192 + 1) = 512 * (15 - i.val) + r.val
    omega)

section

variable (H : T.Holds x l b i) (k : Fin k0_t1_loop.trips) (h : Fin 6)
include H

theorem bounds_ok (d : Fin 2) : Bounds (bounds (T.arg8.view.read (Elt Ideal) T.X8) d h) := fun j => by
  rw [bounds_apply, H.lb]
  exact ⟨H.pos _ _, H.le _ _⟩

theorem row_lt (t : Fin 64) : 64 * k.val + t.val < 512 ∧ 64 * (7 - k.val) + t.val < 512 := by
  have hk : k.val < 8 := Nat.lt_of_lt_of_le k.isLt k0_t1_abs.2.1
  omega

omit H in
theorem rowsF_apply (X : S1x512x768.Idx → EReal) (o : ℕ) (ho : o + 768 ≤ 4096)
    (hX : ∀ (r : Fin 512) (C : Fin 768), X (ix3 0 r C) = x b ⟨512 * i.val + r.val, by omega⟩ ⟨o + C.val, by omega⟩) (t : Fin 64) (j : Fin 128) :
    rows (F := Ideal) X _ (inF k h) (ix2 t j) = x b (row 0 (8 * i.val + k.val) t) (col o ho h j) := by
  have hk : k.val < 8 := Nat.lt_of_lt_of_le k.isLt k0_t1_abs.2.1
  have e := offF_eq k h
  rw [rows_apply X _ _ t j ⟨64 * k.val + t.val, by omega⟩ (headLane h j) (by rw [e]; rfl) (by rw [e]; rfl) (by rw [e]; rfl), hX,
    row_fst i k t ⟨64 * k.val + t.val, by omega⟩ rfl]
  rfl

omit H in
theorem rowsB_apply (X : S1x512x768.Idx → EReal) (o : ℕ) (ho : o + 768 ≤ 4096)
    (hX : ∀ (r : Fin 512) (C : Fin 768), X (ix3 0 r C) = x b ⟨512 * (15 - i.val) + r.val, by omega⟩ ⟨o + C.val, by omega⟩) (t : Fin 64) (j : Fin 128) :
    rows (F := Ideal) X _ (inB k h) (ix2 t.rev j) = x b (row 1 (8 * i.val + k.val) t) (col o ho h j) := by
  have hk : k.val < 8 := Nat.lt_of_lt_of_le k.isLt k0_t1_abs.2.1
  have ht := t.rev.isLt
  have e := offB_eq k h
  rw [rows_apply X _ _ t.rev j ⟨64 * (7 - k.val) + t.rev.val, by omega⟩ (headLane h j) (by rw [e]; rfl) (by rw [e]; rfl) (by rw [e]; rfl), hX,
    row_snd i k t ⟨64 * (7 - k.val) + t.rev.val, by omega⟩ rfl]
  rfl

/-- The state buffer holds the recurrence's states before chunk `n`. -/
def At (x : Fin 4 → Fin 8192 → Fin 4096 → EReal) (l : Fin 2 → Fin 768 → EReal) (b : Fin 4) (n : ℕ) (S : S2x6x128x128.Idx → EReal) : Prop :=
  ∀ (d : Fin 2) (h : Fin 6) (e j : Fin 128), S (ix4 d h e j) = hist x l d b h n j e

variable {S : S2x6x128x128.Idx → EReal} (hS : At x l b (8 * i.val + k.val) S)
include hS

theorem resF_apply (t : Fin 64) (j : Fin 128) : T.resF k S h (ix3 0 t j) = res x l 0 b h (8 * i.val + k.val) t j := by
  unfold resF
  rw [outF_apply _ _ _ _ (bounds_ok H h 0)]
  unfold res
  congr 1
  · funext t j; unfold qs cq; rw [rowsF_apply k h _ 0 (by omega) H.q]
  · funext t j; unfold ks ck; rw [rowsF_apply k h _ 2304 (by omega) H.z, bounds_apply, H.lb]; rfl
  · funext t j; unfold vs cv; rw [rowsF_apply k h _ 768 (by omega) H.v]
  · funext t j; unfold gs cg; rw [rowsF_apply k h _ 2304 (by omega) H.z, bounds_apply, H.lb]; rfl
  · funext j e; unfold ss; rw [state_apply, hS]

theorem resB_apply (t : Fin 64) (j : Fin 128) : T.resB k S h (ix3 0 t j) = res x l 1 b h (8 * i.val + k.val) t.rev j := by
  unfold resB
  rw [outB_apply _ _ _ _ (bounds_ok H h 1)]
  unfold res
  congr 1
  · funext t j; unfold qs cq; rw [rowsB_apply k h _ 0 (by omega) H.q']
  · funext t j; unfold ks ck; rw [rowsB_apply k h _ 3072 (by omega) H.z', bounds_apply, H.lb]; rfl
  · funext t j; unfold vs cv; rw [rowsB_apply k h _ 768 (by omega) H.v']
  · funext t j; unfold gs cg; rw [rowsB_apply k h _ 3072 (by omega) H.z', bounds_apply, H.lb]; rfl
  · funext j e; unfold ss; rw [state_apply, hS]

theorem nextF_apply (e j : Fin 128) : T.nextF k S h (ix4 0 0 e j) = hist x l 0 b h (8 * i.val + k.val + 1) j e := by
  unfold nextF
  rw [cast_next]
  rw [stF_apply _ _ _ (bounds_ok H h 0)]
  unfold hist
  congr 1
  · funext t j; unfold ks ck; rw [rowsF_apply k h _ 2304 (by omega) H.z, bounds_apply, H.lb]; rfl
  · funext t j; unfold vs cv; rw [rowsF_apply k h _ 768 (by omega) H.v]
  · funext t j; unfold gs cg; rw [rowsF_apply k h _ 2304 (by omega) H.z, bounds_apply, H.lb]; rfl
  · funext j e; unfold ss; rw [state_apply, hS]

theorem nextB_apply (e j : Fin 128) : T.nextB k S h (ix4 0 0 e j) = hist x l 1 b h (8 * i.val + k.val + 1) j e := by
  unfold nextB
  rw [cast_next]
  rw [stB_apply _ _ _ (bounds_ok H h 1)]
  unfold hist
  congr 1
  · funext t j; unfold ks ck; rw [rowsB_apply k h _ 3072 (by omega) H.z', bounds_apply, H.lb]; rfl
  · funext t j; unfold vs cv; rw [rowsB_apply k h _ 768 (by omega) H.v']
  · funext t j; unfold gs cg; rw [rowsB_apply k h _ 3072 (by omega) H.z', bounds_apply, H.lb]; rfl
  · funext j e; unfold ss; rw [state_apply, hS]

/-- A state piece's entries are the states after the chunk. -/
theorem pieceS_apply (d : Fin 2) (y : (T.pieceS k S d h).1.shape.Idx) :
    (T.pieceS k S d h).2 y = (fun y : S2x6x128x128.Idx => hist x l (y 0) b (y 1) (8 * i.val + k.val + 1) (y 3) (y 2)) ((T.pieceS k S d h).1.emb y) := by
  have h0 : (y 0).val < 1 := (y 0).isLt
  have h1 : (y 1).val < 1 := (y 1).isLt
  have hy : y = (ix4 (0 : Fin 1) (0 : Fin 1) (y 2 : Fin 128) (y 3 : Fin 128)) := by
    funext a
    match a with
    | ⟨0, _⟩ => exact Fin.ext (by show (y 0).val = 0; omega)
    | ⟨1, _⟩ => exact Fin.ext (by show (y 1).val = 0; omega)
    | ⟨2, _⟩ => rfl
    | ⟨3, _⟩ => rfl
  have e0 : (T.pieceS k S d h).1.emb y 0 = d := Fin.ext (by show d.val + 1 * (y 0).val = d.val; omega)
  have e1 : (T.pieceS k S d h).1.emb y 1 = h := Fin.ext (by show h.val + 1 * (y 1).val = h.val; omega)
  have e2 : (T.pieceS k S d h).1.emb y 2 = y 2 := Fin.ext (by show 0 + 1 * (y 2).val = (y 2).val; omega)
  have e3 : (T.pieceS k S d h).1.emb y 3 = y 3 := Fin.ext (by show 0 + 1 * (y 3).val = (y 3).val; omega)
  dsimp only
  rw [e0, e1, e2, e3]
  show (if d = 0 then T.nextF k S h else T.nextB k S h) y = _
  rw [hy]
  by_cases hd : d = 0
  · subst hd
    rw [if_pos rfl]
    exact nextF_apply H k h hS _ _
  · obtain rfl : d = 1 := by omega
    rw [if_neg hd]
    exact nextB_apply H k h hS _ _

theorem pieceF_apply (y : (T.pieceF k S h).1.shape.Idx) :
    (T.pieceF k S h).2 y = (fun y : S1x512x768.Idx => res x l 0 b ⟨(y 2).val / 128, by have : (y 2).val < 768 := (y 2).isLt; omega⟩ (8 * i.val + (y 1).val / 64)
      ⟨(y 1).val % 64, by omega⟩ ⟨(y 2).val % 128, by omega⟩) ((T.pieceF k S h).1.emb y) := by
  have hk : k.val < 8 := Nat.lt_of_lt_of_le k.isLt k0_t1_abs.2.1
  have h0 : (y 0).val < 1 := (y 0).isLt
  have h1 : (y 1).val < 64 := (y 1).isLt
  have h2 : (y 2).val < 128 := (y 2).isLt
  have hy : y = (ix3 (0 : Fin 1) (y 1 : Fin 64) (y 2 : Fin 128)) := by
    funext a
    match a with
    | ⟨0, _⟩ => exact Fin.ext (by show (y 0).val = 0; omega)
    | ⟨1, _⟩ => rfl
    | ⟨2, _⟩ => rfl
  have e1 : ((T.pieceF k S h).1.emb y 1).val = 64 * k.val + (y 1).val := by
    show offF k h 1 + 1 * (y 1).val = _; rw [offF_eq]; show 64 * k.val + 1 * (y 1).val = _; omega
  have e2 : ((T.pieceF k S h).1.emb y 2).val = 128 * h.val + (y 2).val := by
    show offF k h 2 + 1 * (y 2).val = _; rw [offF_eq]; show 128 * h.val + 1 * (y 2).val = _; omega
  show T.resF k S h y = _
  refine ((congrArg (T.resF k S h) hy).trans (resF_apply H k h hS _ _)).trans ?_
  dsimp only
  congr 1
  · exact Fin.ext (by show h.val = ((T.pieceF k S h).1.emb y 2).val / 128; omega)
  · omega
  · exact Fin.ext (by show (y 1).val = ((T.pieceF k S h).1.emb y 1).val % 64; omega)
  · exact Fin.ext (by show (y 2).val = ((T.pieceF k S h).1.emb y 2).val % 128; omega)

theorem pieceB_apply (y : (T.pieceB k S h).1.shape.Idx) :
    (T.pieceB k S h).2 y = (fun y : S1x512x768.Idx => res x l 1 b ⟨(y 2).val / 128, by have : (y 2).val < 768 := (y 2).isLt; omega⟩ (8 * i.val + (7 - (y 1).val / 64))
      (Fin.rev ⟨(y 1).val % 64, by omega⟩) ⟨(y 2).val % 128, by omega⟩) ((T.pieceB k S h).1.emb y) := by
  have hk : k.val < 8 := Nat.lt_of_lt_of_le k.isLt k0_t1_abs.2.1
  have h0 : (y 0).val < 1 := (y 0).isLt
  have h1 : (y 1).val < 64 := (y 1).isLt
  have h2 : (y 2).val < 128 := (y 2).isLt
  have hy : y = (ix3 (0 : Fin 1) (y 1 : Fin 64) (y 2 : Fin 128)) := by
    funext a
    match a with
    | ⟨0, _⟩ => exact Fin.ext (by show (y 0).val = 0; omega)
    | ⟨1, _⟩ => rfl
    | ⟨2, _⟩ => rfl
  have e1 : ((T.pieceB k S h).1.emb y 1).val = 64 * (7 - k.val) + (y 1).val := by
    show offB k h 1 + 1 * (y 1).val = _; rw [offB_eq]; show 64 * (7 - k.val) + 1 * (y 1).val = _; omega
  have e2 : ((T.pieceB k S h).1.emb y 2).val = 128 * h.val + (y 2).val := by
    show offB k h 2 + 1 * (y 2).val = _; rw [offB_eq]; show 128 * h.val + 1 * (y 2).val = _; omega
  show T.resB k S h y = _
  refine ((congrArg (T.resB k S h) hy).trans (resB_apply H k h hS _ _)).trans ?_
  dsimp only
  congr 1
  · exact Fin.ext (by show h.val = ((T.pieceB k S h).1.emb y 2).val / 128; omega)
  · omega
  · exact congrArg Fin.rev (Fin.ext (by show (y 1).val = ((T.pieceB k S h).1.emb y 1).val % 64; omega))
  · exact Fin.ext (by show (y 2).val = ((T.pieceB k S h).1.emb y 2).val % 128; omega)

omit hS h H in
/-- The bounds of a state piece. -/
theorem piece_inb (d : Fin 2) (h : Fin 6) : ∀ a, (![d.val, h.val, 0, 0] : Fin 4 → ℕ) a + S1x1x128x128.size a ≤ S2x6x128x128.size a := by
  have hd := d.isLt
  have hh := h.isLt
  intro a
  match a with
  | ⟨0, _⟩ => show d.val + 1 ≤ 2; omega
  | ⟨1, _⟩ => show h.val + 1 ≤ 6; omega
  | ⟨2, _⟩ => show 0 + 128 ≤ 128; omega
  | ⟨3, _⟩ => show 0 + 128 ≤ 128; omega

omit hS h in
/-- A trip takes the states before its chunk to those after it. -/
theorem trip_at (f9 : BufTy.Contents (Elt Ideal) T.arg9.view.ty) (f10 : BufTy.Contents (Elt Ideal) T.arg10.view.ty)
    (f11 : BufTy.Contents (Elt Ideal) T.arg11.view.ty) (hf : At x l b (8 * i.val + k.val) (T.arg11.view.read (Elt Ideal) f11)) :
    At x l b (8 * i.val + (k.val + 1)) (T.arg11.view.read (Elt Ideal) (T.arg11.view.writes (Elt Ideal) f11 (T.trip k f9 f10 f11).2.2)) := by
  intro d h e j
  rw [trip_states]
  refine (read_of_agree _ _ (fun y : S2x6x128x128.Idx => hist x l (y 0) b (y 1) (8 * i.val + k.val + 1) (y 3) (y 2)) (ix4 d h e j) _ ?_ ?_).trans rfl
  · intro p hp y
    obtain ⟨q, _, rfl⟩ := List.mem_map.1 hp
    exact pieceS_apply H k q.2 hf q.1 y
  · refine ⟨T.pieceS k (T.arg11.view.read (Elt Ideal) f11) d h, List.mem_map.2 ⟨(d, h), ?_, rfl⟩, ?_⟩
    · revert d h; decide
    · refine (Rect.mem_set_unit (inb := piece_inb d h)).2 fun a => ?_
      have he := e.isLt
      have hj := j.isLt
      match a with
      | ⟨0, _⟩ => exact ⟨le_refl d.val, by show d.val < d.val + 1; omega⟩
      | ⟨1, _⟩ => exact ⟨le_refl h.val, by show h.val < h.val + 1; omega⟩
      | ⟨2, _⟩ => exact ⟨Nat.zero_le _, by show e.val < 0 + 128; omega⟩
      | ⟨3, _⟩ => exact ⟨Nat.zero_le _, by show j.val < 0 + 128; omega⟩

end

variable (T) (k : Fin k0_t1_loop.trips) (G9 : BufTy.Contents (Elt Ideal) T.arg9.view.ty) (G10 : BufTy.Contents (Elt Ideal) T.arg10.view.ty)
  (G11 : BufTy.Contents (Elt Ideal) T.arg11.view.ty)

/-- The pieces the trips before `n` write, from the contents at entry. -/
def before (n : ℕ) :=
  pb_k0_t1 (F := Ideal) T.𝒱 T.c T.bd T.i T.arg2 T.h2 T.arg3 T.h3 T.arg4 T.h4 T.arg5 T.h5 T.arg6 T.h6 T.arg7 T.h7 T.arg8 T.h8 T.arg9 T.h9
    T.arg10 T.h10 T.arg11 T.h11 T.X2 T.X3 T.X4 T.X5 T.X6 T.X7 T.X8 G9 G10 G11 n

theorem before_zero : T.before G9 G10 G11 0 = ([], [], []) := pb_k0_t1.eq_1 ..

theorem before_succ :
    T.before G9 G10 G11 (k.val + 1) =
      ((T.trip k (T.arg9.view.writes (Elt Ideal) G9 (T.before G9 G10 G11 k.val).1) (T.arg10.view.writes (Elt Ideal) G10 (T.before G9 G10 G11 k.val).2.1)
          (T.arg11.view.writes (Elt Ideal) G11 (T.before G9 G10 G11 k.val).2.2)).1 ++ (T.before G9 G10 G11 k.val).1,
       (T.trip k (T.arg9.view.writes (Elt Ideal) G9 (T.before G9 G10 G11 k.val).1) (T.arg10.view.writes (Elt Ideal) G10 (T.before G9 G10 G11 k.val).2.1)
          (T.arg11.view.writes (Elt Ideal) G11 (T.before G9 G10 G11 k.val).2.2)).2.1 ++ (T.before G9 G10 G11 k.val).2.1,
       (T.trip k (T.arg9.view.writes (Elt Ideal) G9 (T.before G9 G10 G11 k.val).1) (T.arg10.view.writes (Elt Ideal) G10 (T.before G9 G10 G11 k.val).2.1)
          (T.arg11.view.writes (Elt Ideal) G11 (T.before G9 G10 G11 k.val).2.2)).2.2 ++ (T.before G9 G10 G11 k.val).2.2) := pb_k0_t1_succ ..

variable {T} (H : T.Holds x l b i)
include H

omit k in
/-- Before trip `n` the states are those after the tile's first `n` chunks. -/
theorem before_at (h0 : At x l b (8 * i.val) (T.arg11.view.read (Elt Ideal) G11)) :
    ∀ n, n ≤ k0_t1_loop.trips → At x l b (8 * i.val + n) (T.arg11.view.read (Elt Ideal) (T.arg11.view.writes (Elt Ideal) G11 (T.before G9 G10 G11 n).2.2))
  | 0, _ => by rw [before_zero]; exact h0
  | n + 1, hn => by
    have ih := before_at h0 n (by omega)
    rw [show n + 1 = (⟨n, hn⟩ : Fin k0_t1_loop.trips).val + 1 from rfl, before_succ]
    dsimp only
    rw [View.writes_append]
    exact trip_at H ⟨n, hn⟩ _ _ _ ih

omit k in
/-- The pieces of the first direction's results written before trip `n` hold the layer's. -/
theorem before_fst (h0 : At x l b (8 * i.val) (T.arg11.view.read (Elt Ideal) G11)) :
    ∀ n, n ≤ k0_t1_loop.trips → ∀ p ∈ (T.before G9 G10 G11 n).1, ∀ y : p.1.shape.Idx, p.2 y = (fun y : S1x512x768.Idx =>
      res x l 0 b ⟨(y 2).val / 128, by have : (y 2).val < 768 := (y 2).isLt; omega⟩ (8 * i.val + (y 1).val / 64)
        ⟨(y 1).val % 64, by omega⟩ ⟨(y 2).val % 128, by omega⟩) (p.1.emb y)
  | 0, _ => by rw [before_zero]; intro p hp; cases hp
  | n + 1, hn => by
    have ih := before_fst h0 n (by omega)
    have hs := before_at G9 G10 G11 H h0 n (by omega)
    rw [show n + 1 = (⟨n, hn⟩ : Fin k0_t1_loop.trips).val + 1 from rfl, before_succ]
    intro p hp y
    rcases List.mem_append.1 hp with hp | hp
    · rw [trip_results] at hp
      obtain ⟨q, _, rfl⟩ := List.mem_map.1 hp
      exact pieceF_apply H ⟨n, hn⟩ q hs y
    · exact ih p hp y

omit k in
/-- The pieces of the second direction's likewise. -/
theorem before_snd (h0 : At x l b (8 * i.val) (T.arg11.view.read (Elt Ideal) G11)) :
    ∀ n, n ≤ k0_t1_loop.trips → ∀ p ∈ (T.before G9 G10 G11 n).2.1, ∀ y : p.1.shape.Idx, p.2 y = (fun y : S1x512x768.Idx =>
      res x l 1 b ⟨(y 2).val / 128, by have : (y 2).val < 768 := (y 2).isLt; omega⟩ (8 * i.val + (7 - (y 1).val / 64))
        (Fin.rev ⟨(y 1).val % 64, by omega⟩) ⟨(y 2).val % 128, by omega⟩) (p.1.emb y)
  | 0, _ => by rw [before_zero]; intro p hp; cases hp
  | n + 1, hn => by
    have ih := before_snd h0 n (by omega)
    have hs := before_at G9 G10 G11 H h0 n (by omega)
    rw [show n + 1 = (⟨n, hn⟩ : Fin k0_t1_loop.trips).val + 1 from rfl, before_succ]
    intro p hp y
    rcases List.mem_append.1 hp with hp | hp
    · rw [trip_results'] at hp
      obtain ⟨q, _, rfl⟩ := List.mem_map.1 hp
      exact pieceB_apply H ⟨n, hn⟩ q hs y
    · exact ih p hp y

omit H k in
theorem trips_eq : k0_t1_loop.trips = 8 := by rfl

end Tile

end Cert.ScanIdeal.Body

end
-- ==== Proof.ScanGrid.lean ====
/-
  The recurrence's kernel over its grid: the states each point leaves for the next, and the two results, as the
  recurrence of `ScanMath` over the whole sequence.
-/
module

public import proofs.«01_k».proof.Proof.ScanFold
public import proofs.«01_k».proof.Proof.ScanIdealValue

@[expose] public section

set_option maxRecDepth 16384

noncomputable section

namespace Cert.ScanIdeal.Whole

open Idealize.ShloMosaic Idealize.ShloMosaic.TcCoe Idealize.SL.Sem
open Idealize.ShloMosaic.Pipeline (Dat)
open Cert.ScanIdeal Cert.ScanIdeal.Gen Cert.ScanIdeal.Body Cert.ScanIdeal.Body.Tile Cert.ScanMath

variable (m : (ℓ : Loc nD τ sig) → Buf (Elt Ideal) ℓ) (c : Dev nD)

/-- The sequence's entries and the lower bounds. -/
abbrev aX (b : Fin 4) (r : Fin 8192) (k : Fin 4096) : EReal := m ((c : Thread nD τ).loc main_arg0) (ix3 b r k)
abbrev aL (d : Fin 2) (k : Fin 768) : EReal := m ((c : Thread nD τ).loc main_arg1) (ix3 d 0 k)

/-- The windows' block indices: the second direction takes the tiles from the end. -/
theorem index_of : ∀ t : Fin grid0.N,
    (win0_0.index t 0 = (grid0.coords t 0).val ∧ win0_0.index t 1 = (grid0.coords t 1).val ∧ win0_0.index t 2 = 0)
    ∧ (win0_1.index t 0 = (grid0.coords t 0).val ∧ win0_1.index t 1 = (grid0.coords t 1).val ∧ win0_1.index t 2 = 1)
    ∧ (win0_2.index t 0 = (grid0.coords t 0).val ∧ win0_2.index t 1 = (grid0.coords t 1).val ∧ win0_2.index t 2 = 3)
    ∧ (win0_3.index t 0 = (grid0.coords t 0).val ∧ win0_3.index t 1 = 15 - (grid0.coords t 1).val ∧ win0_3.index t 2 = 0)
    ∧ (win0_4.index t 0 = (grid0.coords t 0).val ∧ win0_4.index t 1 = 15 - (grid0.coords t 1).val ∧ win0_4.index t 2 = 1)
    ∧ (win0_5.index t 0 = (grid0.coords t 0).val ∧ win0_5.index t 1 = 15 - (grid0.coords t 1).val ∧ win0_5.index t 2 = 4)
    ∧ (win0_6.index t 0 = 0 ∧ win0_6.index t 1 = 0 ∧ win0_6.index t 2 = 0)
    ∧ (win0_7.index t 0 = (grid0.coords t 0).val ∧ win0_7.index t 1 = (grid0.coords t 1).val ∧ win0_7.index t 2 = 0)
    ∧ (win0_8.index t 0 = (grid0.coords t 0).val ∧ win0_8.index t 1 = 15 - (grid0.coords t 1).val ∧ win0_8.index t 2 = 0) := by
  decide +kernel

/-- A point's number is its sequence's and its tile's. -/
theorem point_of : ∀ t : Fin grid0.N, t.val = 16 * (grid0.coords t 0).val + (grid0.coords t 1).val := by
  decide +kernel

/-- An entry of the sequence's array under equal coordinates. -/
theorem entry_eq (u : S4x8192x4096.Idx) (b : Fin 4) (r : Fin 8192) (k : Fin 4096) (h0 : (u 0).val = b.val) (h1 : (u 1).val = r.val) (h2 : (u 2).val = k.val) :
    m ((c : Thread nD τ).loc main_arg0) u = aX m c b r k :=
  congrArg (m ((c : Thread nD τ).loc main_arg0)) (funext fun a => match a with
    | ⟨0, _⟩ => Fin.ext h0
    | ⟨1, _⟩ => Fin.ext h1
    | ⟨2, _⟩ => Fin.ext h2)

section

variable (t : Fin cfg0.N) (r : Fin 512) (C : Fin 768)

theorem X0_apply : (X0_0 m c t : Vec Ideal S1x512x768 .f32) (ix3 0 r C)
    = aX m c (grid0.coords t 0) ⟨512 * (grid0.coords t 1).val + r.val, by have : (grid0.coords t 1).val < 16 := (grid0.coords t 1).isLt; omega⟩ ⟨0 + C.val, by omega⟩ := by
  have e := (index_of t).1
  unfold X0_0 Pipeline.Window.fill
  rw [dif_pos (moved0_0 t _)]
  exact entry_eq m c _ _ _ _ (by show win0_0.index t 0 * 1 + 1 * 0 = _; rw [e.1]; omega)
    (by show win0_0.index t 1 * 512 + 1 * r.val = 512 * (grid0.coords t 1).val + r.val; rw [e.2.1]; ring)
    (by show win0_0.index t 2 * 768 + 1 * C.val = 0 + C.val; rw [e.2.2]; omega)

theorem X1_apply : (X0_1 m c t : Vec Ideal S1x512x768 .f32) (ix3 0 r C)
    = aX m c (grid0.coords t 0) ⟨512 * (grid0.coords t 1).val + r.val, by have : (grid0.coords t 1).val < 16 := (grid0.coords t 1).isLt; omega⟩ ⟨768 + C.val, by omega⟩ := by
  have e := (index_of t).2.1
  unfold X0_1 Pipeline.Window.fill
  rw [dif_pos (moved0_1 t _)]
  exact entry_eq m c _ _ _ _ (by show win0_1.index t 0 * 1 + 1 * 0 = _; rw [e.1]; omega)
    (by show win0_1.index t 1 * 512 + 1 * r.val = 512 * (grid0.coords t 1).val + r.val; rw [e.2.1]; ring)
    (by show win0_1.index t 2 * 768 + 1 * C.val = 768 + C.val; rw [e.2.2]; omega)

theorem X2_apply : (X0_2 m c t : Vec Ideal S1x512x768 .f32) (ix3 0 r C)
    = aX m c (grid0.coords t 0) ⟨512 * (grid0.coords t 1).val + r.val, by have : (grid0.coords t 1).val < 16 := (grid0.coords t 1).isLt; omega⟩ ⟨2304 + C.val, by omega⟩ := by
  have e := (index_of t).2.2.1
  unfold X0_2 Pipeline.Window.fill
  rw [dif_pos (moved0_2 t _)]
  exact entry_eq m c _ _ _ _ (by show win0_2.index t 0 * 1 + 1 * 0 = _; rw [e.1]; omega)
    (by show win0_2.index t 1 * 512 + 1 * r.val = 512 * (grid0.coords t 1).val + r.val; rw [e.2.1]; ring)
    (by show win0_2.index t 2 * 768 + 1 * C.val = 2304 + C.val; rw [e.2.2]; omega)

theorem X3_apply : (X0_3 m c t : Vec Ideal S1x512x768 .f32) (ix3 0 r C)
    = aX m c (grid0.coords t 0) ⟨512 * (15 - (grid0.coords t 1).val) + r.val, by omega⟩ ⟨0 + C.val, by omega⟩ := by
  have e := (index_of t).2.2.2.1
  unfold X0_3 Pipeline.Window.fill
  rw [dif_pos (moved0_3 t _)]
  exact entry_eq m c _ _ _ _ (by show win0_3.index t 0 * 1 + 1 * 0 = _; rw [e.1]; omega)
    (by show win0_3.index t 1 * 512 + 1 * r.val = 512 * (15 - (grid0.coords t 1).val) + r.val; rw [e.2.1]; ring)
    (by show win0_3.index t 2 * 768 + 1 * C.val = 0 + C.val; rw [e.2.2]; omega)

theorem X4_apply : (X0_4 m c t : Vec Ideal S1x512x768 .f32) (ix3 0 r C)
    = aX m c (grid0.coords t 0) ⟨512 * (15 - (grid0.coords t 1).val) + r.val, by omega⟩ ⟨768 + C.val, by omega⟩ := by
  have e := (index_of t).2.2.2.2.1
  unfold X0_4 Pipeline.Window.fill
  rw [dif_pos (moved0_4 t _)]
  exact entry_eq m c _ _ _ _ (by show win0_4.index t 0 * 1 + 1 * 0 = _; rw [e.1]; omega)
    (by show win0_4.index t 1 * 512 + 1 * r.val = 512 * (15 - (grid0.coords t 1).val) + r.val; rw [e.2.1]; ring)
    (by show win0_4.index t 2 * 768 + 1 * C.val = 768 + C.val; rw [e.2.2]; omega)

theorem X5_apply : (X0_5 m c t : Vec Ideal S1x512x768 .f32) (ix3 0 r C)
    = aX m c (grid0.coords t 0) ⟨512 * (15 - (grid0.coords t 1).val) + r.val, by omega⟩ ⟨3072 + C.val, by omega⟩ := by
  have e := (index_of t).2.2.2.2.2.1
  unfold X0_5 Pipeline.Window.fill
  rw [dif_pos (moved0_5 t _)]
  exact entry_eq m c _ _ _ _ (by show win0_5.index t 0 * 1 + 1 * 0 = _; rw [e.1]; omega)
    (by show win0_5.index t 1 * 512 + 1 * r.val = 512 * (15 - (grid0.coords t 1).val) + r.val; rw [e.2.1]; ring)
    (by show win0_5.index t 2 * 768 + 1 * C.val = 3072 + C.val; rw [e.2.2]; omega)

theorem X6_apply (d : Fin 2) : (iblk m c 6 t : Vec Ideal S2x1x768 .f32) (ix3 d 0 C) = aL m c d C := by
  have e := (index_of t).2.2.2.2.2.2.1
  refine congrArg (m ((c : Thread nD τ).loc main_arg1)) (funext fun a => ?_)
  match a with
  | ⟨0, _⟩ => exact Fin.ext (by show win0_6.index t 0 * 2 + 1 * d.val = d.val; rw [e.1]; omega)
  | ⟨1, _⟩ => exact Fin.ext (by show win0_6.index t 1 * 1 + 1 * 0 = 0; rw [e.2.1])
  | ⟨2, _⟩ => exact Fin.ext (by show win0_6.index t 2 * 768 + 1 * C.val = C.val; rw [e.2.2]; omega)

end

/-- A grid point's buffers and blocks. -/
def tile (t : Fin cfg0.N) : Tile Ideal where
  𝒱 := Variants.none
  c := c
  bd := none
  i := grid0.coords t
  arg2 := ms0_0 t
  h2 := hs0_0 t
  arg3 := ms0_1 t
  h3 := hs0_1 t
  arg4 := ms0_2 t
  h4 := hs0_2 t
  arg5 := ms0_3 t
  h5 := hs0_3 t
  arg6 := ms0_4 t
  h6 := hs0_4 t
  arg7 := ms0_5 t
  h7 := hs0_5 t
  arg8 := ms0_6 t
  h8 := hs0_6 t
  arg9 := ms0_7 t
  h9 := hs0_7 t
  arg10 := ms0_8 t
  h10 := hs0_8 t
  arg11 := scM0_0
  h11 := Memref.isWhole_whole _
  X2 := (hs0_0 t).unread (X0_0 m c t)
  X3 := (hs0_1 t).unread (X0_1 m c t)
  X4 := (hs0_2 t).unread (X0_2 m c t)
  X5 := (hs0_3 t).unread (X0_3 m c t)
  X6 := (hs0_4 t).unread (X0_4 m c t)
  X7 := (hs0_5 t).unread (X0_5 m c t)
  X8 := (hs0_6 t).unread (iblk m c 6 t)

variable (hp : ∀ d C, 0 ≤ aL m c d C) (hq : ∀ d C, aL m c d C ≤ 1)
include hp hq

theorem tile_holds (t : Fin cfg0.N) : (tile m c t).Holds (aX m c) (aL m c) (grid0.coords t 0) (grid0.coords t 1) where
  q r C := (congrFun ((hs0_0 t).read_unread (X0_0 m c t)) _).trans (X0_apply m c t r C)
  v r C := (congrFun ((hs0_1 t).read_unread (X0_1 m c t)) _).trans (X1_apply m c t r C)
  z r C := (congrFun ((hs0_2 t).read_unread (X0_2 m c t)) _).trans (X2_apply m c t r C)
  q' r C := (congrFun ((hs0_3 t).read_unread (X0_3 m c t)) _).trans (X3_apply m c t r C)
  v' r C := (congrFun ((hs0_4 t).read_unread (X0_4 m c t)) _).trans (X4_apply m c t r C)
  z' r C := (congrFun ((hs0_5 t).read_unread (X0_5 m c t)) _).trans (X5_apply m c t r C)
  lb d C := (congrFun ((hs0_6 t).read_unread (iblk m c 6 t)) _).trans (X6_apply m c t C d)
  pos := hp
  le := hq

omit hp hq in
/-- The states a sequence's first point starts from: the zeroes it has written. -/
theorem start_zero (f : BufTy.Contents (Elt Ideal) VS0_0.ty) (y : S2x6x128x128.Idx) :
    VS0_0.read (Elt Ideal) (VS0_0.writes (Elt Ideal) f kernelRun0_A.sl.HS0_1) y = (0 : EReal) := by
  delta kernelRun0_A.sl.HS0_1
  refine read_of_agree VS0_0 f (fun _ => (0 : EReal)) y _ ?_ ⟨_, List.mem_singleton.2 rfl, ?_⟩
  · intro p hm x
    obtain rfl := List.mem_singleton.1 hm
    have h : ∀ (d : Fin 2) (h : Fin 6) (e j : Fin 128), k0_pay1 (F := Ideal) (ix4 d h e j) = (0 : EReal) := by
      intro d h e j
      unfold k0_pay1
      pointwise
      try rfl
    refine (congrArg (k0_pay1 (F := Ideal)) (?_ : x = ix4 (x 0 : Fin 2) (x 1 : Fin 6) (x 2 : Fin 128) (x 3 : Fin 128))).trans (h _ _ _ _)
    funext a
    match a with
    | ⟨0, _⟩ => rfl
    | ⟨1, _⟩ => rfl
    | ⟨2, _⟩ => rfl
    | ⟨3, _⟩ => rfl
  · exact (Rect.mem_set_unit (inb := inb_S2x6x128x128_S2x6x128x128_0_0_0_0)).2 fun a => by
      have := (y a).isLt
      match a with
      | ⟨0, _⟩ => exact ⟨Nat.zero_le _, by show (y 0).val < 0 + 2; have : (y 0).val < 2 := (y 0).isLt; omega⟩
      | ⟨1, _⟩ => exact ⟨Nat.zero_le _, by show (y 1).val < 0 + 6; have : (y 1).val < 6 := (y 1).isLt; omega⟩
      | ⟨2, _⟩ => exact ⟨Nat.zero_le _, by show (y 2).val < 0 + 128; have : (y 2).val < 128 := (y 2).isLt; omega⟩
      | ⟨3, _⟩ => exact ⟨Nat.zero_le _, by show (y 3).val < 0 + 128; have : (y 3).val < 128 := (y 3).isLt; omega⟩

/-- A point's first result, over any states before it that are the layer's. -/
def first (b : Fin 4) (i : Fin 16) : Vec Ideal S1x512x768 .f32 := fun y : S1x512x768.Idx =>
  res (aX m c) (aL m c) 0 b ⟨(y 2).val / 128, by have : (y 2).val < 768 := (y 2).isLt; omega⟩ (8 * i.val + (y 1).val / 64)
    ⟨(y 1).val % 64, by omega⟩ ⟨(y 2).val % 128, by omega⟩
def second (b : Fin 4) (i : Fin 16) : Vec Ideal S1x512x768 .f32 := fun y : S1x512x768.Idx =>
  res (aX m c) (aL m c) 1 b ⟨(y 2).val / 128, by have : (y 2).val < 768 := (y 2).isLt; omega⟩ (8 * i.val + (7 - (y 1).val / 64))
    (Fin.rev ⟨(y 1).val % 64, by omega⟩) ⟨(y 2).val % 128, by omega⟩

/-- What a point leaves when the states before it are the layer's. -/
def Leaves (t : Fin cfg0.N) (o : Vec Ideal S1x512x768 .f32 × Vec Ideal S1x512x768 .f32 × Vec Ideal S2x6x128x128 .f32) : Prop :=
  o.1 = first m c (grid0.coords t 0) (grid0.coords t 1) ∧ o.2.1 = second m c (grid0.coords t 0) (grid0.coords t 1)
    ∧ At (aX m c) (aL m c) (grid0.coords t 0) (8 * ((grid0.coords t 1).val + 1)) o.2.2

theorem leaves_A (t : Fin cfg0.N) (h0 : t.val % 16 = 0) : Leaves m c t (outsAt0 m c t.val t.isLt) := by
  have hi : (grid0.coords t 1).val = 0 := by
    have := point_of t
    have : (grid0.coords t 1).val < 16 := (grid0.coords t 1).isLt
    omega
  have H := tile_holds m c hp hq t
  have hz : At (aX m c) (aL m c) (grid0.coords t 0) (8 * (grid0.coords t 1).val)
      ((tile m c t).arg11.view.read (Elt Ideal) (VS0_0.writes (Elt Ideal) VS0_0.junk kernelRun0_A.sl.HS0_1)) := by
    intro d h e j
    rw [hi]
    exact start_zero _ _
  rw [outsAt0_A m c t h0]
  refine ⟨?_, ?_, ?_⟩
  · dsimp only
    unfold out0_A_7
    funext y
    refine read_of_agree VO0_7 _ (first m c (grid0.coords t 0) (grid0.coords t 1)) y _ ?_ (cover0_A_7 c _ _ _ _ _ _ _ _ _ _ _ _ _ _ _ _ _ _ _ _ _ _ _ _ _ _ _ _ _ y)
    unfold kernelRun0_A
    exact Tile.before_fst _ _ _ H hz _ (le_refl _)
  · dsimp only
    unfold out0_A_8
    funext y
    refine read_of_agree VO0_8 _ (second m c (grid0.coords t 0) (grid0.coords t 1)) y _ ?_ (cover0_A_8 c _ _ _ _ _ _ _ _ _ _ _ _ _ _ _ _ _ _ _ _ _ _ _ _ _ _ _ _ _ y)
    unfold kernelRun0_A
    exact Tile.before_snd _ _ _ H hz _ (le_refl _)
  · dsimp only
    unfold sout0_A_0 kernelRun0_A
    dsimp only
    rw [View.writes_append]
    have := Tile.before_at (ms0_7 t).view.junk (ms0_8 t).view.junk _ H hz _ (le_refl _)
    exact this

theorem leaves_B (t : Fin cfg0.N) (h0 : ¬t.val % 16 = 0)
    (hS : At (aX m c) (aL m c) (grid0.coords t 0) (8 * (grid0.coords t 1).val) (outsAt0 m c (t.val - 1) (Nat.lt_of_le_of_lt (Nat.sub_le _ _) t.isLt)).2.2) :
    Leaves m c t (outsAt0 m c t.val t.isLt) := by
  have H := tile_holds m c hp hq t
  have hz : At (aX m c) (aL m c) (grid0.coords t 0) (8 * (grid0.coords t 1).val)
      ((tile m c t).arg11.view.read (Elt Ideal) ((tile m c t).h11.unread (outsAt0 m c (t.val - 1) (Nat.lt_of_le_of_lt (Nat.sub_le _ _) t.isLt)).2.2)) := by
    rw [Memref.IsWhole.read_unread]
    exact hS
  rw [outsAt0_B m c t h0]
  refine ⟨?_, ?_, ?_⟩
  · dsimp only
    unfold out0_B_7
    funext y
    refine read_of_agree VO0_7 _ (first m c (grid0.coords t 0) (grid0.coords t 1)) y _ ?_ (cover0_B_7 c _ _ _ _ _ _ _ _ _ _ _ _ _ _ _ _ _ _ _ _ _ _ _ _ _ _ _ _ _ _ y)
    unfold kernelRun0_B
    exact Tile.before_fst _ _ _ H hz _ (le_refl _)
  · dsimp only
    unfold out0_B_8
    funext y
    refine read_of_agree VO0_8 _ (second m c (grid0.coords t 0) (grid0.coords t 1)) y _ ?_ (cover0_B_8 c _ _ _ _ _ _ _ _ _ _ _ _ _ _ _ _ _ _ _ _ _ _ _ _ _ _ _ _ _ _ y)
    unfold kernelRun0_B
    exact Tile.before_snd _ _ _ H hz _ (le_refl _)
  · dsimp only
    unfold sout0_B_0
    rw [View.read_writes_of_cover VS0_0 VS0_0.junk VS0_0 ((tile m c t).h11.unread (outsAt0 m c (t.val - 1) (Nat.lt_of_le_of_lt (Nat.sub_le _ _) t.isLt)).2.2) _
      (scover0_B_0 c _ _ _ _ _ _ _ _ _ _ _ _ _ _ _ _ _ _ _ _ _ _ _ _ _ _ _ _ _ _)]
    unfold kernelRun0_B
    dsimp only
    have := Tile.before_at (ms0_7 t).view.junk (ms0_8 t).view.junk _ H hz _ (le_refl _)
    exact this

/-- Every point leaves the layer's results of its tile, and its states after it. -/
theorem leaves : ∀ (n : ℕ) (hn : n < cfg0.N), Leaves m c ⟨n, hn⟩ (outsAt0 m c n hn) := by
  intro n
  induction n with
  | zero => intro hn; exact leaves_A m c hp hq ⟨0, hn⟩ (Nat.zero_mod _)
  | succ n ih =>
    intro hn
    by_cases h0 : (n + 1) % 16 = 0
    · exact leaves_A m c hp hq ⟨n + 1, hn⟩ h0
    · have hn' : n < cfg0.N := Nat.lt_of_succ_lt hn
      have e := point_of ⟨n + 1, hn⟩
      have e' := point_of ⟨n, hn'⟩
      have l1 : (grid0.coords ⟨n + 1, hn⟩ 1).val < 16 := (grid0.coords ⟨n + 1, hn⟩ 1).isLt
      have l2 : (grid0.coords ⟨n, hn'⟩ 1).val < 16 := (grid0.coords ⟨n, hn'⟩ 1).isLt
      dsimp only at e e'
      have hs := (ih hn').2.2
      have hb : grid0.coords ⟨n, hn'⟩ 0 = grid0.coords ⟨n + 1, hn⟩ 0 := Fin.ext (by omega)
      have hi : (grid0.coords ⟨n, hn'⟩ 1).val + 1 = (grid0.coords ⟨n + 1, hn⟩ 1).val := by omega
      rw [hb, hi] at hs
      exact leaves_B m c hp hq ⟨n + 1, hn⟩ h0 hs

omit hp hq in
/-- The results in whole: the recurrence over the sequence from its start, and from its end. -/
def G7 : Buf (Elt Ideal) ((c : Thread nD τ).loc main_v0_0) := fun i : S4x8192x768.Idx => whole (aX m c) (aL m c) 0 (i 0) (i 1) (i 2)
def G8 : Buf (Elt Ideal) ((c : Thread nD τ).loc main_v0_1) := fun i : S4x8192x768.Idx => whole (aX m c) (aL m c) 1 (i 0) (i 1) (i 2)

theorem flushed7_eq (t : Fin cfg0.N) : (dats m 0 c).flushed 7 t = (win0_7.blk t).view.read (Elt Ideal) (G7 m c) := by
  rw [flushed7, (leaves m c hp hq t.val t.isLt).1]
  funext y
  have hi : (grid0.coords t 1).val < 16 := (grid0.coords t 1).isLt
  have h0 : (y 0).val < 1 := (y 0).isLt
  have h1 : (y 1).val < 512 := (y 1).isLt
  have h2 : (y 2).val < 768 := (y 2).isLt
  have e := (index_of t).2.2.2.2.2.2.2.1
  have e0 : (win0_7.rect t).emb y 0 = (grid0.coords t 0 : Fin 4) :=
    Fin.ext (by show win0_7.index t 0 * 1 + 1 * (y 0).val = _; rw [e.1]; omega)
  have e1 : (win0_7.rect t).emb y 1 = (⟨512 * (grid0.coords t 1).val + (y 1).val, by omega⟩ : Fin 8192) :=
    Fin.ext (by show win0_7.index t 1 * 512 + 1 * (y 1).val = 512 * (grid0.coords t 1).val + (y 1).val; rw [e.2.1]; ring)
  have e2 : (win0_7.rect t).emb y 2 = (⟨(y 2).val, h2⟩ : Fin 768) :=
    Fin.ext (by show win0_7.index t 2 * 768 + 1 * (y 2).val = (y 2).val; rw [e.2.2]; omega)
  show first m c (grid0.coords t 0) (grid0.coords t 1) (fun a => (⟨(y a).val, (y a).isLt⟩ : Fin (S1x512x768.size a))) = G7 m c ((win0_7.rect t).emb y)
  unfold G7 first whole
  rw [e0, e1, e2]
  dsimp only
  congr 1
  · show _ = (512 * (grid0.coords t 1).val + (y 1).val) / 64; omega
  · exact Fin.ext (by show _ = (512 * (grid0.coords t 1).val + (y 1).val) % 64; dsimp only; omega)

theorem flushed8_eq (t : Fin cfg0.N) : (dats m 0 c).flushed 8 t = (win0_8.blk t).view.read (Elt Ideal) (G8 m c) := by
  rw [flushed8, (leaves m c hp hq t.val t.isLt).2.1]
  funext y
  have hi : (grid0.coords t 1).val < 16 := (grid0.coords t 1).isLt
  have h0 : (y 0).val < 1 := (y 0).isLt
  have h1 : (y 1).val < 512 := (y 1).isLt
  have h2 : (y 2).val < 768 := (y 2).isLt
  have e := (index_of t).2.2.2.2.2.2.2.2
  have e0 : (win0_8.rect t).emb y 0 = (grid0.coords t 0 : Fin 4) :=
    Fin.ext (by show win0_8.index t 0 * 1 + 1 * (y 0).val = _; rw [e.1]; omega)
  have e1 : (win0_8.rect t).emb y 1 = (⟨512 * (15 - (grid0.coords t 1).val) + (y 1).val, by omega⟩ : Fin 8192) :=
    Fin.ext (by show win0_8.index t 1 * 512 + 1 * (y 1).val = 512 * (15 - (grid0.coords t 1).val) + (y 1).val; rw [e.2.1]; ring)
  have e2 : (win0_8.rect t).emb y 2 = (⟨(y 2).val, h2⟩ : Fin 768) :=
    Fin.ext (by show win0_8.index t 2 * 768 + 1 * (y 2).val = (y 2).val; rw [e.2.2]; omega)
  show second m c (grid0.coords t 0) (grid0.coords t 1) (fun a => (⟨(y a).val, (y a).isLt⟩ : Fin (S1x512x768.size a))) = G8 m c ((win0_8.rect t).emb y)
  unfold G8 second whole
  rw [e0, e1, e2]
  simp only [if_neg (show ¬(1 : Fin 2) = 0 by decide), Fin.rev]
  congr 1
  · show _ = (8192 - (512 * (15 - (grid0.coords t 1).val) + (y 1).val + 1)) / 64; dsimp only; omega
  · exact Fin.ext (by show _ = (8192 - (512 * (15 - (grid0.coords t 1).val) + (y 1).val + 1)) % 64; dsimp only; omega)

omit hp hq in
/-- Every point of the grid. -/
theorem point_at : ∀ (a : Fin 4) (b : Fin 16), ∃ t : Fin grid0.N, (grid0.coords t 0).val = a.val ∧ (grid0.coords t 1).val = b.val := by
  decide +kernel

omit hp hq in
theorem cover7 (i : S4x8192x768.Idx) : ∃ t : Fin cfg0.N, (cfg0.win 7).flush t = true ∧ i ∈ ((cfg0.win 7).blk t).view.set := by
  have h0 : (i 0).val < 4 := (i 0).isLt
  have h1 : (i 1).val < 8192 := (i 1).isLt
  have h2 : (i 2).val < 768 := (i 2).isLt
  obtain ⟨t, ha, hb⟩ := point_at ⟨(i 0).val, h0⟩ ⟨(i 1).val / 512, by omega⟩
  refine ⟨t, flush0_7 t, ?_⟩
  have e := (index_of t).2.2.2.2.2.2.2.1
  have hb' : (grid0.coords t 1).val = (i 1).val / 512 := hb
  show i ∈ ((View.whole main_v0_0).slice (win0_7.rect t)).set
  rw [View.set_slice_whole, Rect.mem_set_unit]
  intro a
  match a with
  | ⟨0, _⟩ => show win0_7.index t 0 * 1 ≤ (i 0).val ∧ (i 0).val < win0_7.index t 0 * 1 + 1
              rw [e.1, ha]; dsimp only; omega
  | ⟨1, _⟩ => show win0_7.index t 1 * 512 ≤ (i 1).val ∧ (i 1).val < win0_7.index t 1 * 512 + 512
              rw [e.2.1, hb']; omega
  | ⟨2, _⟩ => show win0_7.index t 2 * 768 ≤ (i 2).val ∧ (i 2).val < win0_7.index t 2 * 768 + 768
              rw [e.2.2]; omega

omit hp hq in
theorem cover8 (i : S4x8192x768.Idx) : ∃ t : Fin cfg0.N, (cfg0.win 8).flush t = true ∧ i ∈ ((cfg0.win 8).blk t).view.set := by
  have h0 : (i 0).val < 4 := (i 0).isLt
  have h1 : (i 1).val < 8192 := (i 1).isLt
  have h2 : (i 2).val < 768 := (i 2).isLt
  obtain ⟨t, ha, hb⟩ := point_at ⟨(i 0).val, h0⟩ ⟨15 - (i 1).val / 512, by omega⟩
  refine ⟨t, flush0_8 t, ?_⟩
  have e := (index_of t).2.2.2.2.2.2.2.2
  have hb' : (grid0.coords t 1).val = 15 - (i 1).val / 512 := hb
  show i ∈ ((View.whole main_v0_1).slice (win0_8.rect t)).set
  rw [View.set_slice_whole, Rect.mem_set_unit]
  intro a
  match a with
  | ⟨0, _⟩ => show win0_8.index t 0 * 1 ≤ (i 0).val ∧ (i 0).val < win0_8.index t 0 * 1 + 1
              rw [e.1, ha]; dsimp only; omega
  | ⟨1, _⟩ => show win0_8.index t 1 * 512 ≤ (i 1).val ∧ (i 1).val < win0_8.index t 1 * 512 + 512
              rw [e.2.1, hb']; omega
  | ⟨2, _⟩ => show win0_8.index t 2 * 768 ≤ (i 2).val ∧ (i 2).val < win0_8.index t 2 * 768 + 768
              rw [e.2.2]; omega

/-- The results' arrays after the run. -/
theorem final7 : (dats m 0 c).arrAt 7 cfg0.N = G7 m c :=
  (dats m 0 c).arrAt_eq_of_cover 7 (G7 m c) (fun t _ => flushed7_eq m c hp hq t) cover7
theorem final8 : (dats m 0 c).arrAt 8 cfg0.N = G8 m c :=
  (dats m 0 c).arrAt_eq_of_cover 8 (G8 m c) (fun t _ => flushed8_eq m c hp hq t) cover8

end Cert.ScanIdeal.Whole

end
-- ==== Proof.ScanRefRun.lean ====
/-
  The reference's run stated over one trip of its loop: a valuation that holds a state goes by one trip to one that holds
  the state's next, so the results are the fields of the state that the trips reach from the first.
-/
module

public import proofs.«01_k».proof.Proof.Gen.ScanRefIdeal.Run
public import proofs.«01_k».proof.Proof.Gen.ScanRefIdeal.Step

@[expose] public section

noncomputable section

namespace Cert.ScanRefIdeal.StepRun

open Idealize.ShloMosaic Idealize.ShloMosaic.TcCoe Idealize.SL.Sem Idealize.ShloMosaic.StableHlo
open Cert.ScanRefIdeal Cert.ScanRefIdeal.Gen Cert.ScanRefIdeal.Value
open Cert.ScanRefIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v68_6) = s.main_v68_6
  f_7 : V0 (Proc.devRef .tc main_v68_7) = s.main_v68_7
  f_0 : V0 (Proc.devRef .tc main_v68_0) = s.main_v68_0
  f_1 : V0 (Proc.devRef .tc main_v68_1) = s.main_v68_1
  f_2 : V0 (Proc.devRef .tc main_v68_2) = s.main_v68_2
  f_3 : V0 (Proc.devRef .tc main_v68_3) = s.main_v68_3
  n_5 : V0 (Proc.devRef .tc main_v68_5) = constantI S_ 32 (BitVec.ofNat 32 j)
  k_4 : V0 (Proc.devRef .tc main_v68_4) = Cert.ScanRefIdeal.Step.K_main_v57 (F := F)

variable {V0 s j}

set_option maxRecDepth 8192 in
theorem al_0 (h : Holds V0 s j) : (constantI S_ 32 0#32 : (Proc.devRef .tc main_while0b_call5_c : DevRef τ sig).ty.Contents (Elt F)) = Cert.ScanRefIdeal.Step.b0 j s := by
  unfold Cert.ScanRefIdeal.Step.b0
  rfl
set_option maxRecDepth 8192 in
theorem al_1 (h : Holds V0 s j) : (constantI S_ 32 0#32 : (Proc.devRef .tc main_while0b_call5_c_0 : DevRef τ sig).ty.Contents (Elt F)) = Cert.ScanRefIdeal.Step.b1 j s := by
  unfold Cert.ScanRefIdeal.Step.b1
  rfl
set_option maxRecDepth 8192 in
theorem al_2 (h : Holds V0 s j) : (constantI S_ 32 0#32 : (Proc.devRef .tc main_while0b_call5_c_1 : DevRef τ sig).ty.Contents (Elt F)) = Cert.ScanRefIdeal.Step.b2 j s := by
  unfold Cert.ScanRefIdeal.Step.b2
  rfl
set_option maxRecDepth 8192 in
theorem al_3 (h : Holds V0 s j) : (constantI S_ 32 0#32 : (Proc.devRef .tc main_while0b_call5_c_2 : DevRef τ sig).ty.Contents (Elt F)) = Cert.ScanRefIdeal.Step.b3 j s := by
  unfold Cert.ScanRefIdeal.Step.b3
  rfl
set_option maxRecDepth 8192 in
theorem al_4 (h : Holds V0 s j) : (Host.dynamicSlice S1x8x6x64x128 (V0 (Proc.devRef .tc main_v68_0)) (fun k => (((![V0 (Proc.devRef .tc main_v68_5), constantI S_ 32 0#32, constantI S_ 32 0#32, constantI S_ 32 0#32, constantI S_ 32 0#32] : Fin 5 → (⟨S_, .i32⟩ : BufTy).Contents (Elt F))) k (Shape.Idx.first h_S_)).toInt) sliceFits_S128x8x6x64x128_S1x8x6x64x128 : (Proc.devRef .tc main_while0b_call5_v0 : DevRef τ sig).ty.Contents (Elt F)) = Cert.ScanRefIdeal.Step.b4 j s := by
  unfold Cert.ScanRefIdeal.Step.b4
  rw [← al_0 h, ← al_1 h, ← al_2 h, ← al_3 h, h.f_0, h.n_5]
  try rfl
set_option maxRecDepth 8192 in
theorem al_5 (h : Holds V0 s j) : (res_main_while0b_v76 V0 : (Proc.devRef .tc main_while0b_v76 : DevRef τ sig).ty.Contents (Elt F)) = Cert.ScanRefIdeal.Step.b5 j s := by
  unfold res_main_while0b_v76 Cert.ScanRefIdeal.Step.b5
  rw [← al_4 h]
  try rfl
set_option maxRecDepth 8192 in
theorem al_6 (h : Holds V0 s j) : (constantI S_ 32 0#32 : (Proc.devRef .tc main_while0b_call6_c : DevRef τ sig).ty.Contents (Elt F)) = Cert.ScanRefIdeal.Step.b6 j s := by
  unfold Cert.ScanRefIdeal.Step.b6
  rfl
set_option maxRecDepth 8192 in
theorem al_7 (h : Holds V0 s j) : (constantI S_ 32 0#32 : (Proc.devRef .tc main_while0b_call6_c_0 : DevRef τ sig).ty.Contents (Elt F)) = Cert.ScanRefIdeal.Step.b7 j s := by
  unfold Cert.ScanRefIdeal.Step.b7
  rfl
set_option maxRecDepth 8192 in
theorem al_8 (h : Holds V0 s j) : (constantI S_ 32 0#32 : (Proc.devRef .tc main_while0b_call6_c_1 : DevRef τ sig).ty.Contents (Elt F)) = Cert.ScanRefIdeal.Step.b8 j s := by
  unfold Cert.ScanRefIdeal.Step.b8
  rfl
set_option maxRecDepth 8192 in
theorem al_9 (h : Holds V0 s j) : (constantI S_ 32 0#32 : (Proc.devRef .tc main_while0b_call6_c_2 : DevRef τ sig).ty.Contents (Elt F)) = Cert.ScanRefIdeal.Step.b9 j s := by
  unfold Cert.ScanRefIdeal.Step.b9
  rfl
set_option maxRecDepth 8192 in
theorem al_10 (h : Holds V0 s j) : (Host.dynamicSlice S1x8x6x64x128 (V0 (Proc.devRef .tc main_v68_1)) (fun k => (((![V0 (Proc.devRef .tc main_v68_5), constantI S_ 32 0#32, constantI S_ 32 0#32, constantI S_ 32 0#32, constantI S_ 32 0#32] : Fin 5 → (⟨S_, .i32⟩ : BufTy).Contents (Elt F))) k (Shape.Idx.first h_S_)).toInt) sliceFits_S128x8x6x64x128_S1x8x6x64x128 : (Proc.devRef .tc main_while0b_call6_v0 : DevRef τ sig).ty.Contents (Elt F)) = Cert.ScanRefIdeal.Step.b10 j s := by
  unfold Cert.ScanRefIdeal.Step.b10
  rw [← al_6 h, ← al_7 h, ← al_8 h, ← al_9 h, h.f_1, h.n_5]
  try rfl
set_option maxRecDepth 8192 in
theorem al_11 (h : Holds V0 s j) : (res_main_while0b_v77 V0 : (Proc.devRef .tc main_while0b_v77 : DevRef τ sig).ty.Contents (Elt F)) = Cert.ScanRefIdeal.Step.b11 j s := by
  unfold res_main_while0b_v77 Cert.ScanRefIdeal.Step.b11
  rw [← al_10 h]
  try rfl
set_option maxRecDepth 8192 in
theorem al_12 (h : Holds V0 s j) : (constantI S_ 32 0#32 : (Proc.devRef .tc main_while0b_call7_c : DevRef τ sig).ty.Contents (Elt F)) = Cert.ScanRefIdeal.Step.b12 j s := by
  unfold Cert.ScanRefIdeal.Step.b12
  rfl
set_option maxRecDepth 8192 in
theorem al_13 (h : Holds V0 s j) : (constantI S_ 32 0#32 : (Proc.devRef .tc main_while0b_call7_c_0 : DevRef τ sig).ty.Contents (Elt F)) = Cert.ScanRefIdeal.Step.b13 j s := by
  unfold Cert.ScanRefIdeal.Step.b13
  rfl
set_option maxRecDepth 8192 in
theorem al_14 (h : Holds V0 s j) : (constantI S_ 32 0#32 : (Proc.devRef .tc main_while0b_call7_c_1 : DevRef τ sig).ty.Contents (Elt F)) = Cert.ScanRefIdeal.Step.b14 j s := by
  unfold Cert.ScanRefIdeal.Step.b14
  rfl
set_option maxRecDepth 8192 in
theorem al_15 (h : Holds V0 s j) : (constantI S_ 32 0#32 : (Proc.devRef .tc main_while0b_call7_c_2 : DevRef τ sig).ty.Contents (Elt F)) = Cert.ScanRefIdeal.Step.b15 j s := by
  unfold Cert.ScanRefIdeal.Step.b15
  rfl
set_option maxRecDepth 8192 in
theorem al_16 (h : Holds V0 s j) : (Host.dynamicSlice S1x8x6x64x128 (V0 (Proc.devRef .tc main_v68_2)) (fun k => (((![V0 (Proc.devRef .tc main_v68_5), constantI S_ 32 0#32, constantI S_ 32 0#32, constantI S_ 32 0#32, constantI S_ 32 0#32] : Fin 5 → (⟨S_, .i32⟩ : BufTy).Contents (Elt F))) k (Shape.Idx.first h_S_)).toInt) sliceFits_S128x8x6x64x128_S1x8x6x64x128 : (Proc.devRef .tc main_while0b_call7_v0 : DevRef τ sig).ty.Contents (Elt F)) = Cert.ScanRefIdeal.Step.b16 j s := by
  unfold Cert.ScanRefIdeal.Step.b16
  rw [← al_12 h, ← al_13 h, ← al_14 h, ← al_15 h, h.f_2, h.n_5]
  try rfl
set_option maxRecDepth 8192 in
theorem al_17 (h : Holds V0 s j) : (res_main_while0b_v78 V0 : (Proc.devRef .tc main_while0b_v78 : DevRef τ sig).ty.Contents (Elt F)) = Cert.ScanRefIdeal.Step.b17 j s := by
  unfold res_main_while0b_v78 Cert.ScanRefIdeal.Step.b17
  rw [← al_16 h]
  try rfl
set_option maxRecDepth 8192 in
theorem al_18 (h : Holds V0 s j) : (constantI S_ 32 0#32 : (Proc.devRef .tc main_while0b_call8_c : DevRef τ sig).ty.Contents (Elt F)) = Cert.ScanRefIdeal.Step.b18 j s := by
  unfold Cert.ScanRefIdeal.Step.b18
  rfl
set_option maxRecDepth 8192 in
theorem al_19 (h : Holds V0 s j) : (constantI S_ 32 0#32 : (Proc.devRef .tc main_while0b_call8_c_0 : DevRef τ sig).ty.Contents (Elt F)) = Cert.ScanRefIdeal.Step.b19 j s := by
  unfold Cert.ScanRefIdeal.Step.b19
  rfl
set_option maxRecDepth 8192 in
theorem al_20 (h : Holds V0 s j) : (constantI S_ 32 0#32 : (Proc.devRef .tc main_while0b_call8_c_1 : DevRef τ sig).ty.Contents (Elt F)) = Cert.ScanRefIdeal.Step.b20 j s := by
  unfold Cert.ScanRefIdeal.Step.b20
  rfl
set_option maxRecDepth 8192 in
theorem al_21 (h : Holds V0 s j) : (constantI S_ 32 0#32 : (Proc.devRef .tc main_while0b_call8_c_2 : DevRef τ sig).ty.Contents (Elt F)) = Cert.ScanRefIdeal.Step.b21 j s := by
  unfold Cert.ScanRefIdeal.Step.b21
  rfl
set_option maxRecDepth 8192 in
theorem al_22 (h : Holds V0 s j) : (Host.dynamicSlice S1x8x6x64x128 (V0 (Proc.devRef .tc main_v68_3)) (fun k => (((![V0 (Proc.devRef .tc main_v68_5), constantI S_ 32 0#32, constantI S_ 32 0#32, constantI S_ 32 0#32, constantI S_ 32 0#32] : Fin 5 → (⟨S_, .i32⟩ : BufTy).Contents (Elt F))) k (Shape.Idx.first h_S_)).toInt) sliceFits_S128x8x6x64x128_S1x8x6x64x128 : (Proc.devRef .tc main_while0b_call8_v0 : DevRef τ sig).ty.Contents (Elt F)) = Cert.ScanRefIdeal.Step.b22 j s := by
  unfold Cert.ScanRefIdeal.Step.b22
  rw [← al_18 h, ← al_19 h, ← al_20 h, ← al_21 h, h.f_3, h.n_5]
  try rfl
set_option maxRecDepth 8192 in
theorem al_23 (h : Holds V0 s j) : (shapeCast S8x6x64x128 (Host.dynamicSlice S1x8x6x64x128 (V0 (Proc.devRef .tc main_v68_3)) (fun k => (((![V0 (Proc.devRef .tc main_v68_5), constantI S_ 32 0#32, constantI S_ 32 0#32, constantI S_ 32 0#32, constantI S_ 32 0#32] : Fin 5 → (⟨S_, .i32⟩ : BufTy).Contents (Elt F))) k (Shape.Idx.first h_S_)).toInt) sliceFits_S128x8x6x64x128_S1x8x6x64x128) shapeCasts_S1x8x6x64x128_S8x6x64x128 : (Proc.devRef .tc main_while0b_v79 : DevRef τ sig).ty.Contents (Elt F)) = Cert.ScanRefIdeal.Step.b23 j s := by
  unfold Cert.ScanRefIdeal.Step.b23
  rw [← al_22 h]
  try rfl
set_option maxRecDepth 8192 in
theorem al_24 (h : Holds V0 s j) : (constant S_ .f32 0x00000000#32 : (Proc.devRef .tc main_while0b_call9_call0_cst : DevRef τ sig).ty.Contents (Elt F)) = Cert.ScanRefIdeal.Step.b24 j s := by
  unfold Cert.ScanRefIdeal.Step.b24
  rfl
set_option maxRecDepth 8192 in
theorem al_25 (h : Holds V0 s j) : (broadcastInDim S_ ![] bcast_S_S_ (constant S_ .f32 0x00000000#32) : (Proc.devRef .tc main_while0b_call9_call0_v0 : DevRef τ sig).ty.Contents (Elt F)) = Cert.ScanRefIdeal.Step.b25 j s := by
  unfold Cert.ScanRefIdeal.Step.b25
  rw [← al_24 h]
  try rfl
set_option maxRecDepth 8192 in
theorem al_26 (h : Holds V0 s j) : (res_main_while0b_v80 V0 : (Proc.devRef .tc main_while0b_v80 : DevRef τ sig).ty.Contents (Elt F)) = Cert.ScanRefIdeal.Step.b26 j s := by
  unfold res_main_while0b_v80 Cert.ScanRefIdeal.Step.b26
  rw [← al_23 h, ← al_25 h]
  try rfl
set_option maxRecDepth 8192 in
theorem al_27 (h : Holds V0 s j) : (broadcastInDim S64x64x1 ![0, 1] bcast_S64x64_S64x64x1_0_1 (V0 (Proc.devRef .tc main_v68_4)) : (Proc.devRef .tc main_while0b_v81 : DevRef τ sig).ty.Contents (Elt F)) = Cert.ScanRefIdeal.Step.b27 j s := by
  unfold Cert.ScanRefIdeal.Step.b27
  rw [h.k_4]
  try rfl
set_option maxRecDepth 8192 in
theorem al_28 (h : Holds V0 s j) : (broadcastInDim S8x6x64x1x128 ![0, 1, 2, 4] bcast_S8x6x64x128_S8x6x64x1x128_0_1_2_4 (res_main_while0b_v80 V0) : (Proc.devRef .tc main_while0b_v82 : DevRef τ sig).ty.Contents (Elt F)) = Cert.ScanRefIdeal.Step.b28 j s := by
  unfold Cert.ScanRefIdeal.Step.b28
  rw [← al_26 h]
  try rfl
set_option maxRecDepth 8192 in
theorem al_29 (h : Holds V0 s j) : (broadcastInDim S8x6x1x64x128 ![0, 1, 3, 4] bcast_S8x6x64x128_S8x6x1x64x128_0_1_3_4 (res_main_while0b_v80 V0) : (Proc.devRef .tc main_while0b_v83 : DevRef τ sig).ty.Contents (Elt F)) = Cert.ScanRefIdeal.Step.b29 j s := by
  unfold Cert.ScanRefIdeal.Step.b29
  rw [← al_26 h]
  try rfl
set_option maxRecDepth 8192 in
theorem al_30 (h : Holds V0 s j) : (broadcastInDim S8x6x64x64x128 ![0, 1, 2, 3, 4] bcast_S8x6x64x1x128_S8x6x64x64x128_0_1_2_3_4 (broadcastInDim S8x6x64x1x128 ![0, 1, 2, 4] bcast_S8x6x64x128_S8x6x64x1x128_0_1_2_4 (res_main_while0b_v80 V0)) : (Proc.devRef .tc main_while0b_v84 : DevRef τ sig).ty.Contents (Elt F)) = Cert.ScanRefIdeal.Step.b30 j s := by
  unfold Cert.ScanRefIdeal.Step.b30
  rw [← al_28 h]
  try rfl
set_option maxRecDepth 8192 in
theorem al_31 (h : Holds V0 s j) : (broadcastInDim S8x6x64x64x128 ![0, 1, 2, 3, 4] bcast_S8x6x1x64x128_S8x6x64x64x128_0_1_2_3_4 (broadcastInDim S8x6x1x64x128 ![0, 1, 3, 4] bcast_S8x6x64x128_S8x6x1x64x128_0_1_3_4 (res_main_while0b_v80 V0)) : (Proc.devRef .tc main_while0b_v85 : DevRef τ sig).ty.Contents (Elt F)) = Cert.ScanRefIdeal.Step.b31 j s := by
  unfold Cert.ScanRefIdeal.Step.b31
  rw [← al_29 h]
  try rfl
set_option maxRecDepth 8192 in
theorem al_32 (h : Holds V0 s j) : (subf (broadcastInDim S8x6x64x64x128 ![0, 1, 2, 3, 4] bcast_S8x6x64x1x128_S8x6x64x64x128_0_1_2_3_4 (broadcastInDim S8x6x64x1x128 ![0, 1, 2, 4] bcast_S8x6x64x128_S8x6x64x1x128_0_1_2_4 (res_main_while0b_v80 V0))) (broadcastInDim S8x6x64x64x128 ![0, 1, 2, 3, 4] bcast_S8x6x1x64x128_S8x6x64x64x128_0_1_2_3_4 (broadcastInDim S8x6x1x64x128 ![0, 1, 3, 4] bcast_S8x6x64x128_S8x6x1x64x128_0_1_3_4 (res_main_while0b_v80 V0))) : (Proc.devRef .tc main_while0b_v86 : DevRef τ sig).ty.Contents (Elt F)) = Cert.ScanRefIdeal.Step.b32 j s := by
  unfold Cert.ScanRefIdeal.Step.b32
  rw [← al_30 h, ← al_31 h]
  try rfl
set_option maxRecDepth 8192 in
theorem al_33 (h : Holds V0 s j) : (constant S_ .f32 0xFF800000#32 : (Proc.devRef .tc main_while0b_cst_11 : DevRef τ sig).ty.Contents (Elt F)) = Cert.ScanRefIdeal.Step.b33 j s := by
  unfold Cert.ScanRefIdeal.Step.b33
  rfl
set_option maxRecDepth 8192 in
theorem al_34 (h : Holds V0 s j) : (id (constant S_ .f32 0xFF800000#32) : (Proc.devRef .tc main_while0b_call10_v0 : DevRef τ sig).ty.Contents (Elt F)) = Cert.ScanRefIdeal.Step.b34 j s := by
  unfold Cert.ScanRefIdeal.Step.b34
  rw [← al_33 h]
  try rfl
set_option maxRecDepth 8192 in
theorem al_35 (h : Holds V0 s j) : (broadcastInDim S8x6x64x64x128 ![2, 3, 4] bcast_S64x64x1_S8x6x64x64x128_2_3_4 (broadcastInDim S64x64x1 ![0, 1] bcast_S64x64_S64x64x1_0_1 (V0 (Proc.devRef .tc main_v68_4))) : (Proc.devRef .tc main_while0b_call10_v1 : DevRef τ sig).ty.Contents (Elt F)) = Cert.ScanRefIdeal.Step.b35 j s := by
  unfold Cert.ScanRefIdeal.Step.b35
  rw [← al_27 h]
  try rfl
set_option maxRecDepth 8192 in
theorem al_36 (h : Holds V0 s j) : (broadcastInDim S8x6x64x64x128 ![] bcast_S_S8x6x64x64x128 (id (constant S_ .f32 0xFF800000#32)) : (Proc.devRef .tc main_while0b_call10_v2 : DevRef τ sig).ty.Contents (Elt F)) = Cert.ScanRefIdeal.Step.b36 j s := by
  unfold Cert.ScanRefIdeal.Step.b36
  rw [← al_34 h]
  try rfl
set_option maxRecDepth 8192 in
theorem al_37 (h : Holds V0 s j) : (select (broadcastInDim S8x6x64x64x128 ![2, 3, 4] bcast_S64x64x1_S8x6x64x64x128_2_3_4 (broadcastInDim S64x64x1 ![0, 1] bcast_S64x64_S64x64x1_0_1 (V0 (Proc.devRef .tc main_v68_4)))) (subf (broadcastInDim S8x6x64x64x128 ![0, 1, 2, 3, 4] bcast_S8x6x64x1x128_S8x6x64x64x128_0_1_2_3_4 (broadcastInDim S8x6x64x1x128 ![0, 1, 2, 4] bcast_S8x6x64x128_S8x6x64x1x128_0_1_2_4 (res_main_while0b_v80 V0))) (broadcastInDim S8x6x64x64x128 ![0, 1, 2, 3, 4] bcast_S8x6x1x64x128_S8x6x64x64x128_0_1_2_3_4 (broadcastInDim S8x6x1x64x128 ![0, 1, 3, 4] bcast_S8x6x64x128_S8x6x1x64x128_0_1_3_4 (res_main_while0b_v80 V0)))) (broadcastInDim S8x6x64x64x128 ![] bcast_S_S8x6x64x64x128 (id (constant S_ .f32 0xFF800000#32))) : (Proc.devRef .tc main_while0b_v87 : DevRef τ sig).ty.Contents (Elt F)) = Cert.ScanRefIdeal.Step.b37 j s := by
  unfold Cert.ScanRefIdeal.Step.b37
  rw [← al_35 h, ← al_32 h, ← al_36 h]
  try rfl
set_option maxRecDepth 8192 in
theorem al_38 (h : Holds V0 s j) : (broadcastInDim S8x6x64x1x128 ![0, 1, 2, 4] bcast_S8x6x64x128_S8x6x64x1x128_0_1_2_4 (res_main_while0b_v76 V0) : (Proc.devRef .tc main_while0b_v88 : DevRef τ sig).ty.Contents (Elt F)) = Cert.ScanRefIdeal.Step.b38 j s := by
  unfold Cert.ScanRefIdeal.Step.b38
  rw [← al_5 h]
  try rfl
set_option maxRecDepth 8192 in
theorem al_39 (h : Holds V0 s j) : (Host.exp (select (broadcastInDim S8x6x64x64x128 ![2, 3, 4] bcast_S64x64x1_S8x6x64x64x128_2_3_4 (broadcastInDim S64x64x1 ![0, 1] bcast_S64x64_S64x64x1_0_1 (V0 (Proc.devRef .tc main_v68_4)))) (subf (broadcastInDim S8x6x64x64x128 ![0, 1, 2, 3, 4] bcast_S8x6x64x1x128_S8x6x64x64x128_0_1_2_3_4 (broadcastInDim S8x6x64x1x128 ![0, 1, 2, 4] bcast_S8x6x64x128_S8x6x64x1x128_0_1_2_4 (res_main_while0b_v80 V0))) (broadcastInDim S8x6x64x64x128 ![0, 1, 2, 3, 4] bcast_S8x6x1x64x128_S8x6x64x64x128_0_1_2_3_4 (broadcastInDim S8x6x1x64x128 ![0, 1, 3, 4] bcast_S8x6x64x128_S8x6x1x64x128_0_1_3_4 (res_main_while0b_v80 V0)))) (broadcastInDim S8x6x64x64x128 ![] bcast_S_S8x6x64x64x128 (id (constant S_ .f32 0xFF800000#32)))) : (Proc.devRef .tc main_while0b_v89 : DevRef τ sig).ty.Contents (Elt F)) = Cert.ScanRefIdeal.Step.b39 j s := by
  unfold Cert.ScanRefIdeal.Step.b39
  rw [← al_37 h]
  try rfl
set_option maxRecDepth 8192 in
theorem al_40 (h : Holds V0 s j) : (broadcastInDim S8x6x64x64x128 ![0, 1, 2, 3, 4] bcast_S8x6x64x1x128_S8x6x64x64x128_0_1_2_3_4 (broadcastInDim S8x6x64x1x128 ![0, 1, 2, 4] bcast_S8x6x64x128_S8x6x64x1x128_0_1_2_4 (res_main_while0b_v76 V0)) : (Proc.devRef .tc main_while0b_v90 : DevRef τ sig).ty.Contents (Elt F)) = Cert.ScanRefIdeal.Step.b40 j s := by
  unfold Cert.ScanRefIdeal.Step.b40
  rw [← al_38 h]
  try rfl
set_option maxRecDepth 8192 in
theorem al_41 (h : Holds V0 s j) : (mulf (broadcastInDim S8x6x64x64x128 ![0, 1, 2, 3, 4] bcast_S8x6x64x1x128_S8x6x64x64x128_0_1_2_3_4 (broadcastInDim S8x6x64x1x128 ![0, 1, 2, 4] bcast_S8x6x64x128_S8x6x64x1x128_0_1_2_4 (res_main_while0b_v76 V0))) (Host.exp (select (broadcastInDim S8x6x64x64x128 ![2, 3, 4] bcast_S64x64x1_S8x6x64x64x128_2_3_4 (broadcastInDim S64x64x1 ![0, 1] bcast_S64x64_S64x64x1_0_1 (V0 (Proc.devRef .tc main_v68_4)))) (subf (broadcastInDim S8x6x64x64x128 ![0, 1, 2, 3, 4] bcast_S8x6x64x1x128_S8x6x64x64x128_0_1_2_3_4 (broadcastInDim S8x6x64x1x128 ![0, 1, 2, 4] bcast_S8x6x64x128_S8x6x64x1x128_0_1_2_4 (res_main_while0b_v80 V0))) (broadcastInDim S8x6x64x64x128 ![0, 1, 2, 3, 4] bcast_S8x6x1x64x128_S8x6x64x64x128_0_1_2_3_4 (broadcastInDim S8x6x1x64x128 ![0, 1, 3, 4] bcast_S8x6x64x128_S8x6x1x64x128_0_1_3_4 (res_main_while0b_v80 V0)))) (broadcastInDim S8x6x64x64x128 ![] bcast_S_S8x6x64x64x128 (id (constant S_ .f32 0xFF800000#32))))) : (Proc.devRef .tc main_while0b_v91 : DevRef τ sig).ty.Contents (Elt F)) = Cert.ScanRefIdeal.Step.b41 j s := by
  unfold Cert.ScanRefIdeal.Step.b41
  rw [← al_40 h, ← al_39 h]
  try rfl
set_option maxRecDepth 8192 in
theorem al_42 (h : Holds V0 s j) : (broadcastInDim S8x6x1x64x128 ![0, 1, 3, 4] bcast_S8x6x64x128_S8x6x1x64x128_0_1_3_4 (res_main_while0b_v77 V0) : (Proc.devRef .tc main_while0b_v92 : DevRef τ sig).ty.Contents (Elt F)) = Cert.ScanRefIdeal.Step.b42 j s := by
  unfold Cert.ScanRefIdeal.Step.b42
  rw [← al_11 h]
  try rfl
set_option maxRecDepth 8192 in
theorem al_43 (h : Holds V0 s j) : (broadcastInDim S8x6x64x64x128 ![0, 1, 2, 3, 4] bcast_S8x6x1x64x128_S8x6x64x64x128_0_1_2_3_4 (broadcastInDim S8x6x1x64x128 ![0, 1, 3, 4] bcast_S8x6x64x128_S8x6x1x64x128_0_1_3_4 (res_main_while0b_v77 V0)) : (Proc.devRef .tc main_while0b_v93 : DevRef τ sig).ty.Contents (Elt F)) = Cert.ScanRefIdeal.Step.b43 j s := by
  unfold Cert.ScanRefIdeal.Step.b43
  rw [← al_42 h]
  try rfl
set_option maxRecDepth 8192 in
theorem al_44 (h : Holds V0 s j) : (mulf (mulf (broadcastInDim S8x6x64x64x128 ![0, 1, 2, 3, 4] bcast_S8x6x64x1x128_S8x6x64x64x128_0_1_2_3_4 (broadcastInDim S8x6x64x1x128 ![0, 1, 2, 4] bcast_S8x6x64x128_S8x6x64x1x128_0_1_2_4 (res_main_while0b_v76 V0))) (Host.exp (select (broadcastInDim S8x6x64x64x128 ![2, 3, 4] bcast_S64x64x1_S8x6x64x64x128_2_3_4 (broadcastInDim S64x64x1 ![0, 1] bcast_S64x64_S64x64x1_0_1 (V0 (Proc.devRef .tc main_v68_4)))) (subf (broadcastInDim S8x6x64x64x128 ![0, 1, 2, 3, 4] bcast_S8x6x64x1x128_S8x6x64x64x128_0_1_2_3_4 (broadcastInDim S8x6x64x1x128 ![0, 1, 2, 4] bcast_S8x6x64x128_S8x6x64x1x128_0_1_2_4 (res_main_while0b_v80 V0))) (broadcastInDim S8x6x64x64x128 ![0, 1, 2, 3, 4] bcast_S8x6x1x64x128_S8x6x64x64x128_0_1_2_3_4 (broadcastInDim S8x6x1x64x128 ![0, 1, 3, 4] bcast_S8x6x64x128_S8x6x1x64x128_0_1_3_4 (res_main_while0b_v80 V0)))) (broadcastInDim S8x6x64x64x128 ![] bcast_S_S8x6x64x64x128 (id (constant S_ .f32 0xFF800000#32)))))) (broadcastInDim S8x6x64x64x128 ![0, 1, 2, 3, 4] bcast_S8x6x1x64x128_S8x6x64x64x128_0_1_2_3_4 (broadcastInDim S8x6x1x64x128 ![0, 1, 3, 4] bcast_S8x6x64x128_S8x6x1x64x128_0_1_3_4 (res_main_while0b_v77 V0))) : (Proc.devRef .tc main_while0b_v94 : DevRef τ sig).ty.Contents (Elt F)) = Cert.ScanRefIdeal.Step.b44 j s := by
  unfold Cert.ScanRefIdeal.Step.b44
  rw [← al_41 h, ← al_43 h]
  try rfl
set_option maxRecDepth 8192 in
theorem al_45 (h : Holds V0 s j) : (constant S_ .f32 0x00000000#32 : (Proc.devRef .tc main_while0b_cst_12 : DevRef τ sig).ty.Contents (Elt F)) = Cert.ScanRefIdeal.Step.b45 j s := by
  unfold Cert.ScanRefIdeal.Step.b45
  rfl
set_option maxRecDepth 8192 in
theorem al_46 (h : Holds V0 s j) : (Host.reduceAdd (mulf (mulf (broadcastInDim S8x6x64x64x128 ![0, 1, 2, 3, 4] bcast_S8x6x64x1x128_S8x6x64x64x128_0_1_2_3_4 (broadcastInDim S8x6x64x1x128 ![0, 1, 2, 4] bcast_S8x6x64x128_S8x6x64x1x128_0_1_2_4 (res_main_while0b_v76 V0))) (Host.exp (select (broadcastInDim S8x6x64x64x128 ![2, 3, 4] bcast_S64x64x1_S8x6x64x64x128_2_3_4 (broadcastInDim S64x64x1 ![0, 1] bcast_S64x64_S64x64x1_0_1 (V0 (Proc.devRef .tc main_v68_4)))) (subf (broadcastInDim S8x6x64x64x128 ![0, 1, 2, 3, 4] bcast_S8x6x64x1x128_S8x6x64x64x128_0_1_2_3_4 (broadcastInDim S8x6x64x1x128 ![0, 1, 2, 4] bcast_S8x6x64x128_S8x6x64x1x128_0_1_2_4 (res_main_while0b_v80 V0))) (broadcastInDim S8x6x64x64x128 ![0, 1, 2, 3, 4] bcast_S8x6x1x64x128_S8x6x64x64x128_0_1_2_3_4 (broadcastInDim S8x6x1x64x128 ![0, 1, 3, 4] bcast_S8x6x64x128_S8x6x1x64x128_0_1_3_4 (res_main_while0b_v80 V0)))) (broadcastInDim S8x6x64x64x128 ![] bcast_S_S8x6x64x64x128 (id (constant S_ .f32 0xFF800000#32)))))) (broadcastInDim S8x6x64x64x128 ![0, 1, 2, 3, 4] bcast_S8x6x1x64x128_S8x6x64x64x128_0_1_2_3_4 (broadcastInDim S8x6x1x64x128 ![0, 1, 3, 4] bcast_S8x6x64x128_S8x6x1x64x128_0_1_3_4 (res_main_while0b_v77 V0)))) (constant S_ .f32 0x00000000#32) reducesTo_S8x6x64x64x128_S8x6x64x64_d4 h_S_ : (Proc.devRef .tc main_while0b_v95 : DevRef τ sig).ty.Contents (Elt F)) = Cert.ScanRefIdeal.Step.b46 j s := by
  unfold Cert.ScanRefIdeal.Step.b46
  rw [← al_44 h, ← al_45 h]
  try rfl
set_option maxRecDepth 8192 in
theorem al_47 (h : Holds V0 s j) : (Host.dotGeneral dot_S8x6x64x64_S8x6x64x128_S8x6x64x128_3_2_2_3_01_01 none (Host.reduceAdd (mulf (mulf (broadcastInDim S8x6x64x64x128 ![0, 1, 2, 3, 4] bcast_S8x6x64x1x128_S8x6x64x64x128_0_1_2_3_4 (broadcastInDim S8x6x64x1x128 ![0, 1, 2, 4] bcast_S8x6x64x128_S8x6x64x1x128_0_1_2_4 (res_main_while0b_v76 V0))) (Host.exp (select (broadcastInDim S8x6x64x64x128 ![2, 3, 4] bcast_S64x64x1_S8x6x64x64x128_2_3_4 (broadcastInDim S64x64x1 ![0, 1] bcast_S64x64_S64x64x1_0_1 (V0 (Proc.devRef .tc main_v68_4)))) (subf (broadcastInDim S8x6x64x64x128 ![0, 1, 2, 3, 4] bcast_S8x6x64x1x128_S8x6x64x64x128_0_1_2_3_4 (broadcastInDim S8x6x64x1x128 ![0, 1, 2, 4] bcast_S8x6x64x128_S8x6x64x1x128_0_1_2_4 (res_main_while0b_v80 V0))) (broadcastInDim S8x6x64x64x128 ![0, 1, 2, 3, 4] bcast_S8x6x1x64x128_S8x6x64x64x128_0_1_2_3_4 (broadcastInDim S8x6x1x64x128 ![0, 1, 3, 4] bcast_S8x6x64x128_S8x6x1x64x128_0_1_3_4 (res_main_while0b_v80 V0)))) (broadcastInDim S8x6x64x64x128 ![] bcast_S_S8x6x64x64x128 (id (constant S_ .f32 0xFF800000#32)))))) (broadcastInDim S8x6x64x64x128 ![0, 1, 2, 3, 4] bcast_S8x6x1x64x128_S8x6x64x64x128_0_1_2_3_4 (broadcastInDim S8x6x1x64x128 ![0, 1, 3, 4] bcast_S8x6x64x128_S8x6x1x64x128_0_1_3_4 (res_main_while0b_v77 V0)))) (constant S_ .f32 0x00000000#32) reducesTo_S8x6x64x64x128_S8x6x64x64_d4 h_S_) (res_main_while0b_v78 V0) : (Proc.devRef .tc main_while0b_v96 : DevRef τ sig).ty.Contents (Elt F)) = Cert.ScanRefIdeal.Step.b47 j s := by
  unfold Cert.ScanRefIdeal.Step.b47
  rw [← al_46 h, ← al_17 h]
  try rfl
set_option maxRecDepth 8192 in
theorem al_48 (h : Holds V0 s j) : (Host.exp (res_main_while0b_v80 V0) : (Proc.devRef .tc main_while0b_v97 : DevRef τ sig).ty.Contents (Elt F)) = Cert.ScanRefIdeal.Step.b48 j s := by
  unfold Cert.ScanRefIdeal.Step.b48
  rw [← al_26 h]
  try rfl
set_option maxRecDepth 8192 in
theorem al_49 (h : Holds V0 s j) : (mulf (res_main_while0b_v76 V0) (Host.exp (res_main_while0b_v80 V0)) : (Proc.devRef .tc main_while0b_v98 : DevRef τ sig).ty.Contents (Elt F)) = Cert.ScanRefIdeal.Step.b49 j s := by
  unfold Cert.ScanRefIdeal.Step.b49
  rw [← al_5 h, ← al_48 h]
  try rfl
set_option maxRecDepth 8192 in
theorem al_50 (h : Holds V0 s j) : (Host.dotGeneral dot_S8x6x64x128_S8x6x128x128_S8x6x64x128_3_2_2_3_01_01 none (mulf (res_main_while0b_v76 V0) (Host.exp (res_main_while0b_v80 V0))) (V0 (Proc.devRef .tc main_v68_6)) : (Proc.devRef .tc main_while0b_v99 : DevRef τ sig).ty.Contents (Elt F)) = Cert.ScanRefIdeal.Step.b50 j s := by
  unfold Cert.ScanRefIdeal.Step.b50
  rw [← al_49 h, h.f_6]
  try rfl
set_option maxRecDepth 8192 in
theorem al_51 (h : Holds V0 s j) : (addf (Host.dotGeneral dot_S8x6x64x64_S8x6x64x128_S8x6x64x128_3_2_2_3_01_01 none (Host.reduceAdd (mulf (mulf (broadcastInDim S8x6x64x64x128 ![0, 1, 2, 3, 4] bcast_S8x6x64x1x128_S8x6x64x64x128_0_1_2_3_4 (broadcastInDim S8x6x64x1x128 ![0, 1, 2, 4] bcast_S8x6x64x128_S8x6x64x1x128_0_1_2_4 (res_main_while0b_v76 V0))) (Host.exp (select (broadcastInDim S8x6x64x64x128 ![2, 3, 4] bcast_S64x64x1_S8x6x64x64x128_2_3_4 (broadcastInDim S64x64x1 ![0, 1] bcast_S64x64_S64x64x1_0_1 (V0 (Proc.devRef .tc main_v68_4)))) (subf (broadcastInDim S8x6x64x64x128 ![0, 1, 2, 3, 4] bcast_S8x6x64x1x128_S8x6x64x64x128_0_1_2_3_4 (broadcastInDim S8x6x64x1x128 ![0, 1, 2, 4] bcast_S8x6x64x128_S8x6x64x1x128_0_1_2_4 (res_main_while0b_v80 V0))) (broadcastInDim S8x6x64x64x128 ![0, 1, 2, 3, 4] bcast_S8x6x1x64x128_S8x6x64x64x128_0_1_2_3_4 (broadcastInDim S8x6x1x64x128 ![0, 1, 3, 4] bcast_S8x6x64x128_S8x6x1x64x128_0_1_3_4 (res_main_while0b_v80 V0)))) (broadcastInDim S8x6x64x64x128 ![] bcast_S_S8x6x64x64x128 (id (constant S_ .f32 0xFF800000#32)))))) (broadcastInDim S8x6x64x64x128 ![0, 1, 2, 3, 4] bcast_S8x6x1x64x128_S8x6x64x64x128_0_1_2_3_4 (broadcastInDim S8x6x1x64x128 ![0, 1, 3, 4] bcast_S8x6x64x128_S8x6x1x64x128_0_1_3_4 (res_main_while0b_v77 V0)))) (constant S_ .f32 0x00000000#32) reducesTo_S8x6x64x64x128_S8x6x64x64_d4 h_S_) (res_main_while0b_v78 V0)) (Host.dotGeneral dot_S8x6x64x128_S8x6x128x128_S8x6x64x128_3_2_2_3_01_01 none (mulf (res_main_while0b_v76 V0) (Host.exp (res_main_while0b_v80 V0))) (V0 (Proc.devRef .tc main_v68_6))) : (Proc.devRef .tc main_while0b_v100 : DevRef τ sig).ty.Contents (Elt F)) = Cert.ScanRefIdeal.Step.b51 j s := by
  unfold Cert.ScanRefIdeal.Step.b51
  rw [← al_47 h, ← al_50 h]
  try rfl
set_option maxRecDepth 8192 in
theorem al_52 (h : Holds V0 s j) : (res_main_while0b_v101 V0 : (Proc.devRef .tc main_while0b_v101 : DevRef τ sig).ty.Contents (Elt F)) = Cert.ScanRefIdeal.Step.b52 j s := by
  unfold res_main_while0b_v101 Cert.ScanRefIdeal.Step.b52
  rw [← al_26 h]
  try rfl
set_option maxRecDepth 8192 in
theorem al_53 (h : Holds V0 s j) : (shapeCast S8x6x128 (res_main_while0b_v101 V0) shapeCasts_S8x6x1x128_S8x6x128 : (Proc.devRef .tc main_while0b_v102 : DevRef τ sig).ty.Contents (Elt F)) = Cert.ScanRefIdeal.Step.b53 j s := by
  unfold Cert.ScanRefIdeal.Step.b53
  rw [← al_52 h]
  try rfl
set_option maxRecDepth 8192 in
theorem al_54 (h : Holds V0 s j) : (Host.exp (shapeCast S8x6x128 (res_main_while0b_v101 V0) shapeCasts_S8x6x1x128_S8x6x128) : (Proc.devRef .tc main_while0b_v103 : DevRef τ sig).ty.Contents (Elt F)) = Cert.ScanRefIdeal.Step.b54 j s := by
  unfold Cert.ScanRefIdeal.Step.b54
  rw [← al_53 h]
  try rfl
set_option maxRecDepth 8192 in
theorem al_55 (h : Holds V0 s j) : (broadcastInDim S8x6x128x1 ![0, 1, 2] bcast_S8x6x128_S8x6x128x1_0_1_2 (Host.exp (shapeCast S8x6x128 (res_main_while0b_v101 V0) shapeCasts_S8x6x1x128_S8x6x128)) : (Proc.devRef .tc main_while0b_v104 : DevRef τ sig).ty.Contents (Elt F)) = Cert.ScanRefIdeal.Step.b55 j s := by
  unfold Cert.ScanRefIdeal.Step.b55
  rw [← al_54 h]
  try rfl
set_option maxRecDepth 8192 in
theorem al_56 (h : Holds V0 s j) : (broadcastInDim S8x6x128x128 ![0, 1, 2, 3] bcast_S8x6x128x1_S8x6x128x128_0_1_2_3 (broadcastInDim S8x6x128x1 ![0, 1, 2] bcast_S8x6x128_S8x6x128x1_0_1_2 (Host.exp (shapeCast S8x6x128 (res_main_while0b_v101 V0) shapeCasts_S8x6x1x128_S8x6x128))) : (Proc.devRef .tc main_while0b_v105 : DevRef τ sig).ty.Contents (Elt F)) = Cert.ScanRefIdeal.Step.b56 j s := by
  unfold Cert.ScanRefIdeal.Step.b56
  rw [← al_55 h]
  try rfl
set_option maxRecDepth 8192 in
theorem al_57 (h : Holds V0 s j) : (mulf (broadcastInDim S8x6x128x128 ![0, 1, 2, 3] bcast_S8x6x128x1_S8x6x128x128_0_1_2_3 (broadcastInDim S8x6x128x1 ![0, 1, 2] bcast_S8x6x128_S8x6x128x1_0_1_2 (Host.exp (shapeCast S8x6x128 (res_main_while0b_v101 V0) shapeCasts_S8x6x1x128_S8x6x128)))) (V0 (Proc.devRef .tc main_v68_6)) : (Proc.devRef .tc main_while0b_v106 : DevRef τ sig).ty.Contents (Elt F)) = Cert.ScanRefIdeal.Step.b57 j s := by
  unfold Cert.ScanRefIdeal.Step.b57
  rw [← al_56 h, h.f_6]
  try rfl
set_option maxRecDepth 8192 in
theorem al_58 (h : Holds V0 s j) : (broadcastInDim S8x6x64x128 ![0, 1, 2, 3] bcast_S8x6x1x128_S8x6x64x128_0_1_2_3 (res_main_while0b_v101 V0) : (Proc.devRef .tc main_while0b_v107 : DevRef τ sig).ty.Contents (Elt F)) = Cert.ScanRefIdeal.Step.b58 j s := by
  unfold Cert.ScanRefIdeal.Step.b58
  rw [← al_52 h]
  try rfl
set_option maxRecDepth 8192 in
theorem al_59 (h : Holds V0 s j) : (subf (broadcastInDim S8x6x64x128 ![0, 1, 2, 3] bcast_S8x6x1x128_S8x6x64x128_0_1_2_3 (res_main_while0b_v101 V0)) (res_main_while0b_v80 V0) : (Proc.devRef .tc main_while0b_v108 : DevRef τ sig).ty.Contents (Elt F)) = Cert.ScanRefIdeal.Step.b59 j s := by
  unfold Cert.ScanRefIdeal.Step.b59
  rw [← al_58 h, ← al_26 h]
  try rfl
set_option maxRecDepth 8192 in
theorem al_60 (h : Holds V0 s j) : (Host.exp (subf (broadcastInDim S8x6x64x128 ![0, 1, 2, 3] bcast_S8x6x1x128_S8x6x64x128_0_1_2_3 (res_main_while0b_v101 V0)) (res_main_while0b_v80 V0)) : (Proc.devRef .tc main_while0b_v109 : DevRef τ sig).ty.Contents (Elt F)) = Cert.ScanRefIdeal.Step.b60 j s := by
  unfold Cert.ScanRefIdeal.Step.b60
  rw [← al_59 h]
  try rfl
set_option maxRecDepth 8192 in
theorem al_61 (h : Holds V0 s j) : (mulf (res_main_while0b_v77 V0) (Host.exp (subf (broadcastInDim S8x6x64x128 ![0, 1, 2, 3] bcast_S8x6x1x128_S8x6x64x128_0_1_2_3 (res_main_while0b_v101 V0)) (res_main_while0b_v80 V0))) : (Proc.devRef .tc main_while0b_v110 : DevRef τ sig).ty.Contents (Elt F)) = Cert.ScanRefIdeal.Step.b61 j s := by
  unfold Cert.ScanRefIdeal.Step.b61
  rw [← al_11 h, ← al_60 h]
  try rfl
set_option maxRecDepth 8192 in
theorem al_62 (h : Holds V0 s j) : (Host.dotGeneral dot_S8x6x64x128_S8x6x64x128_S8x6x128x128_2_2_3_3_01_01 none (mulf (res_main_while0b_v77 V0) (Host.exp (subf (broadcastInDim S8x6x64x128 ![0, 1, 2, 3] bcast_S8x6x1x128_S8x6x64x128_0_1_2_3 (res_main_while0b_v101 V0)) (res_main_while0b_v80 V0)))) (res_main_while0b_v78 V0) : (Proc.devRef .tc main_while0b_v111 : DevRef τ sig).ty.Contents (Elt F)) = Cert.ScanRefIdeal.Step.b62 j s := by
  unfold Cert.ScanRefIdeal.Step.b62
  rw [← al_61 h, ← al_17 h]
  try rfl
set_option maxRecDepth 8192 in
theorem al_63 (h : Holds V0 s j) : (addf (mulf (broadcastInDim S8x6x128x128 ![0, 1, 2, 3] bcast_S8x6x128x1_S8x6x128x128_0_1_2_3 (broadcastInDim S8x6x128x1 ![0, 1, 2] bcast_S8x6x128_S8x6x128x1_0_1_2 (Host.exp (shapeCast S8x6x128 (res_main_while0b_v101 V0) shapeCasts_S8x6x1x128_S8x6x128)))) (V0 (Proc.devRef .tc main_v68_6))) (Host.dotGeneral dot_S8x6x64x128_S8x6x64x128_S8x6x128x128_2_2_3_3_01_01 none (mulf (res_main_while0b_v77 V0) (Host.exp (subf (broadcastInDim S8x6x64x128 ![0, 1, 2, 3] bcast_S8x6x1x128_S8x6x64x128_0_1_2_3 (res_main_while0b_v101 V0)) (res_main_while0b_v80 V0)))) (res_main_while0b_v78 V0)) : (Proc.devRef .tc main_while0b_v112 : DevRef τ sig).ty.Contents (Elt F)) = Cert.ScanRefIdeal.Step.b63 j s := by
  unfold Cert.ScanRefIdeal.Step.b63
  rw [← al_57 h, ← al_62 h]
  try rfl
set_option maxRecDepth 8192 in
theorem al_64 (h : Holds V0 s j) : (broadcastInDim S1x8x6x64x128 ![1, 2, 3, 4] bcast_S8x6x64x128_S1x8x6x64x128_1_2_3_4 (addf (Host.dotGeneral dot_S8x6x64x64_S8x6x64x128_S8x6x64x128_3_2_2_3_01_01 none (Host.reduceAdd (mulf (mulf (broadcastInDim S8x6x64x64x128 ![0, 1, 2, 3, 4] bcast_S8x6x64x1x128_S8x6x64x64x128_0_1_2_3_4 (broadcastInDim S8x6x64x1x128 ![0, 1, 2, 4] bcast_S8x6x64x128_S8x6x64x1x128_0_1_2_4 (res_main_while0b_v76 V0))) (Host.exp (select (broadcastInDim S8x6x64x64x128 ![2, 3, 4] bcast_S64x64x1_S8x6x64x64x128_2_3_4 (broadcastInDim S64x64x1 ![0, 1] bcast_S64x64_S64x64x1_0_1 (V0 (Proc.devRef .tc main_v68_4)))) (subf (broadcastInDim S8x6x64x64x128 ![0, 1, 2, 3, 4] bcast_S8x6x64x1x128_S8x6x64x64x128_0_1_2_3_4 (broadcastInDim S8x6x64x1x128 ![0, 1, 2, 4] bcast_S8x6x64x128_S8x6x64x1x128_0_1_2_4 (res_main_while0b_v80 V0))) (broadcastInDim S8x6x64x64x128 ![0, 1, 2, 3, 4] bcast_S8x6x1x64x128_S8x6x64x64x128_0_1_2_3_4 (broadcastInDim S8x6x1x64x128 ![0, 1, 3, 4] bcast_S8x6x64x128_S8x6x1x64x128_0_1_3_4 (res_main_while0b_v80 V0)))) (broadcastInDim S8x6x64x64x128 ![] bcast_S_S8x6x64x64x128 (id (constant S_ .f32 0xFF800000#32)))))) (broadcastInDim S8x6x64x64x128 ![0, 1, 2, 3, 4] bcast_S8x6x1x64x128_S8x6x64x64x128_0_1_2_3_4 (broadcastInDim S8x6x1x64x128 ![0, 1, 3, 4] bcast_S8x6x64x128_S8x6x1x64x128_0_1_3_4 (res_main_while0b_v77 V0)))) (constant S_ .f32 0x00000000#32) reducesTo_S8x6x64x64x128_S8x6x64x64_d4 h_S_) (res_main_while0b_v78 V0)) (Host.dotGeneral dot_S8x6x64x128_S8x6x128x128_S8x6x64x128_3_2_2_3_01_01 none (mulf (res_main_while0b_v76 V0) (Host.exp (res_main_while0b_v80 V0))) (V0 (Proc.devRef .tc main_v68_6)))) : (Proc.devRef .tc main_while0b_call11_v0 : DevRef τ sig).ty.Contents (Elt F)) = Cert.ScanRefIdeal.Step.b64 j s := by
  unfold Cert.ScanRefIdeal.Step.b64
  rw [← al_51 h]
  try rfl
set_option maxRecDepth 8192 in
theorem al_65 (h : Holds V0 s j) : (constantI S_ 32 0#32 : (Proc.devRef .tc main_while0b_call11_c : DevRef τ sig).ty.Contents (Elt F)) = Cert.ScanRefIdeal.Step.b65 j s := by
  unfold Cert.ScanRefIdeal.Step.b65
  rfl
set_option maxRecDepth 8192 in
theorem al_66 (h : Holds V0 s j) : (constantI S_ 32 0#32 : (Proc.devRef .tc main_while0b_call11_c_0 : DevRef τ sig).ty.Contents (Elt F)) = Cert.ScanRefIdeal.Step.b66 j s := by
  unfold Cert.ScanRefIdeal.Step.b66
  rfl
set_option maxRecDepth 8192 in
theorem al_67 (h : Holds V0 s j) : (constantI S_ 32 0#32 : (Proc.devRef .tc main_while0b_call11_c_1 : DevRef τ sig).ty.Contents (Elt F)) = Cert.ScanRefIdeal.Step.b67 j s := by
  unfold Cert.ScanRefIdeal.Step.b67
  rfl
set_option maxRecDepth 8192 in
theorem al_68 (h : Holds V0 s j) : (constantI S_ 32 0#32 : (Proc.devRef .tc main_while0b_call11_c_2 : DevRef τ sig).ty.Contents (Elt F)) = Cert.ScanRefIdeal.Step.b68 j s := by
  unfold Cert.ScanRefIdeal.Step.b68
  rfl
set_option maxRecDepth 8192 in
theorem al_69 (h : Holds V0 s j) : (Host.dynamicUpdateSlice (V0 (Proc.devRef .tc main_v68_7)) (broadcastInDim S1x8x6x64x128 ![1, 2, 3, 4] bcast_S8x6x64x128_S1x8x6x64x128_1_2_3_4 (addf (Host.dotGeneral dot_S8x6x64x64_S8x6x64x128_S8x6x64x128_3_2_2_3_01_01 none (Host.reduceAdd (mulf (mulf (broadcastInDim S8x6x64x64x128 ![0, 1, 2, 3, 4] bcast_S8x6x64x1x128_S8x6x64x64x128_0_1_2_3_4 (broadcastInDim S8x6x64x1x128 ![0, 1, 2, 4] bcast_S8x6x64x128_S8x6x64x1x128_0_1_2_4 (res_main_while0b_v76 V0))) (Host.exp (select (broadcastInDim S8x6x64x64x128 ![2, 3, 4] bcast_S64x64x1_S8x6x64x64x128_2_3_4 (broadcastInDim S64x64x1 ![0, 1] bcast_S64x64_S64x64x1_0_1 (V0 (Proc.devRef .tc main_v68_4)))) (subf (broadcastInDim S8x6x64x64x128 ![0, 1, 2, 3, 4] bcast_S8x6x64x1x128_S8x6x64x64x128_0_1_2_3_4 (broadcastInDim S8x6x64x1x128 ![0, 1, 2, 4] bcast_S8x6x64x128_S8x6x64x1x128_0_1_2_4 (res_main_while0b_v80 V0))) (broadcastInDim S8x6x64x64x128 ![0, 1, 2, 3, 4] bcast_S8x6x1x64x128_S8x6x64x64x128_0_1_2_3_4 (broadcastInDim S8x6x1x64x128 ![0, 1, 3, 4] bcast_S8x6x64x128_S8x6x1x64x128_0_1_3_4 (res_main_while0b_v80 V0)))) (broadcastInDim S8x6x64x64x128 ![] bcast_S_S8x6x64x64x128 (id (constant S_ .f32 0xFF800000#32)))))) (broadcastInDim S8x6x64x64x128 ![0, 1, 2, 3, 4] bcast_S8x6x1x64x128_S8x6x64x64x128_0_1_2_3_4 (broadcastInDim S8x6x1x64x128 ![0, 1, 3, 4] bcast_S8x6x64x128_S8x6x1x64x128_0_1_3_4 (res_main_while0b_v77 V0)))) (constant S_ .f32 0x00000000#32) reducesTo_S8x6x64x64x128_S8x6x64x64_d4 h_S_) (res_main_while0b_v78 V0)) (Host.dotGeneral dot_S8x6x64x128_S8x6x128x128_S8x6x64x128_3_2_2_3_01_01 none (mulf (res_main_while0b_v76 V0) (Host.exp (res_main_while0b_v80 V0))) (V0 (Proc.devRef .tc main_v68_6))))) (fun k => (((![V0 (Proc.devRef .tc main_v68_5), constantI S_ 32 0#32, constantI S_ 32 0#32, constantI S_ 32 0#32, constantI S_ 32 0#32] : Fin 5 → (⟨S_, .i32⟩ : BufTy).Contents (Elt F))) k (Shape.Idx.first h_S_)).toInt) updateFits_S128x8x6x64x128_S1x8x6x64x128 : (Proc.devRef .tc main_while0b_v113 : DevRef τ sig).ty.Contents (Elt F)) = Cert.ScanRefIdeal.Step.b69 j s := by
  unfold Cert.ScanRefIdeal.Step.b69
  rw [← al_64 h, ← al_65 h, ← al_66 h, ← al_67 h, ← al_68 h, h.f_7, h.n_5]
  try rfl

/-! One trip's step of the carried values is `step`, field by field; a counter steps to the next number. -/

theorem step_6 (h : Holds V0 s j) : step_main_v68_6 V0 = (step j s).main_v68_6 := by
  unfold step_main_v68_6 Cert.ScanRefIdeal.Step.step
  show id (addf (mulf (broadcastInDim S8x6x128x128 ![0, 1, 2, 3] bcast_S8x6x128x1_S8x6x128x128_0_1_2_3 (broadcastInDim S8x6x128x1 ![0, 1, 2] bcast_S8x6x128_S8x6x128x1_0_1_2 (Host.exp (shapeCast S8x6x128 (res_main_while0b_v101 V0) shapeCasts_S8x6x1x128_S8x6x128)))) (V0 (Proc.devRef .tc main_v68_6))) (Host.dotGeneral dot_S8x6x64x128_S8x6x64x128_S8x6x128x128_2_2_3_3_01_01 none (mulf (res_main_while0b_v77 V0) (Host.exp (subf (broadcastInDim S8x6x64x128 ![0, 1, 2, 3] bcast_S8x6x1x128_S8x6x64x128_0_1_2_3 (res_main_while0b_v101 V0)) (res_main_while0b_v80 V0)))) (res_main_while0b_v78 V0))) = _
  rw [al_63 h]
  try rfl
theorem step_7 (h : Holds V0 s j) : step_main_v68_7 V0 = (step j s).main_v68_7 := by
  unfold step_main_v68_7 Cert.ScanRefIdeal.Step.step
  show id (Host.dynamicUpdateSlice (V0 (Proc.devRef .tc main_v68_7)) (broadcastInDim S1x8x6x64x128 ![1, 2, 3, 4] bcast_S8x6x64x128_S1x8x6x64x128_1_2_3_4 (addf (Host.dotGeneral dot_S8x6x64x64_S8x6x64x128_S8x6x64x128_3_2_2_3_01_01 none (Host.reduceAdd (mulf (mulf (broadcastInDim S8x6x64x64x128 ![0, 1, 2, 3, 4] bcast_S8x6x64x1x128_S8x6x64x64x128_0_1_2_3_4 (broadcastInDim S8x6x64x1x128 ![0, 1, 2, 4] bcast_S8x6x64x128_S8x6x64x1x128_0_1_2_4 (res_main_while0b_v76 V0))) (Host.exp (select (broadcastInDim S8x6x64x64x128 ![2, 3, 4] bcast_S64x64x1_S8x6x64x64x128_2_3_4 (broadcastInDim S64x64x1 ![0, 1] bcast_S64x64_S64x64x1_0_1 (V0 (Proc.devRef .tc main_v68_4)))) (subf (broadcastInDim S8x6x64x64x128 ![0, 1, 2, 3, 4] bcast_S8x6x64x1x128_S8x6x64x64x128_0_1_2_3_4 (broadcastInDim S8x6x64x1x128 ![0, 1, 2, 4] bcast_S8x6x64x128_S8x6x64x1x128_0_1_2_4 (res_main_while0b_v80 V0))) (broadcastInDim S8x6x64x64x128 ![0, 1, 2, 3, 4] bcast_S8x6x1x64x128_S8x6x64x64x128_0_1_2_3_4 (broadcastInDim S8x6x1x64x128 ![0, 1, 3, 4] bcast_S8x6x64x128_S8x6x1x64x128_0_1_3_4 (res_main_while0b_v80 V0)))) (broadcastInDim S8x6x64x64x128 ![] bcast_S_S8x6x64x64x128 (id (constant S_ .f32 0xFF800000#32)))))) (broadcastInDim S8x6x64x64x128 ![0, 1, 2, 3, 4] bcast_S8x6x1x64x128_S8x6x64x64x128_0_1_2_3_4 (broadcastInDim S8x6x1x64x128 ![0, 1, 3, 4] bcast_S8x6x64x128_S8x6x1x64x128_0_1_3_4 (res_main_while0b_v77 V0)))) (constant S_ .f32 0x00000000#32) reducesTo_S8x6x64x64x128_S8x6x64x64_d4 h_S_) (res_main_while0b_v78 V0)) (Host.dotGeneral dot_S8x6x64x128_S8x6x128x128_S8x6x64x128_3_2_2_3_01_01 none (mulf (res_main_while0b_v76 V0) (Host.exp (res_main_while0b_v80 V0))) (V0 (Proc.devRef .tc main_v68_6))))) (fun k => (((![V0 (Proc.devRef .tc main_v68_5), constantI S_ 32 0#32, constantI S_ 32 0#32, constantI S_ 32 0#32, constantI S_ 32 0#32] : Fin 5 → (⟨S_, .i32⟩ : BufTy).Contents (Elt F))) k (Shape.Idx.first h_S_)).toInt) updateFits_S128x8x6x64x128_S1x8x6x64x128) = _
  exact (al_69 h).trans rfl
theorem step_5 (h : Holds V0 s j) : step_main_v68_5 V0 = constantI S_ 32 (BitVec.ofNat 32 (j + 1)) := by
  unfold step_main_v68_5
  rw [h.n_5]
  funext i
  show BitVec.ofNat 32 j + 1#32 = BitVec.ofNat 32 (j + 1)
  simp only [BitVec.ofNat_add]

set_option maxRecDepth 8192 in
theorem out_main_v72_holds (h : Holds V0 s j) : out_main_v72 V0 = Cert.ScanRefIdeal.Step.R_main_v72 s := by
  unfold out_main_v72 Cert.ScanRefIdeal.Step.R_main_v72
  rw [h.f_7]
  try rfl

set_option maxRecDepth 8192 in
theorem out_main_v75_holds (h : Holds V0 s j) : out_main_v75 V0 = Cert.ScanRefIdeal.Step.R_main_v75 s := by
  unfold out_main_v75 Cert.ScanRefIdeal.Step.R_main_v75
  rw [h.f_7]
  try rfl

/-- One trip keeps the valuation holding: `step` of the state, the same set-up values, the next number. -/
theorem holds_step (h : Holds V0 s j) : Holds (STEP V0) (step j s) (j + 1) where
  f_6 := (STEP_main_v68_6 V0).trans (step_6 h)
  f_7 := (STEP_main_v68_7 V0).trans (step_7 h)
  n_5 := (STEP_main_v68_5 V0).trans (step_5 h)
  k_4 := (STEP_main_v68_4 V0).trans h.k_4
  f_0 := (STEP_main_v68_0 V0).trans h.f_0
  f_1 := (STEP_main_v68_1 V0).trans h.f_1
  f_2 := (STEP_main_v68_2 V0).trans h.f_2
  f_3 := (STEP_main_v68_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ScanRefIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v72) = Cert.ScanRefIdeal.Step.R_main_v72 (it c 128)
      ∧ r.2.mem ((c.tc : Thread nD τ).loc main_v75) = Cert.ScanRefIdeal.Step.R_main_v75 (it c 128)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    have hk := holds_iter m c (it c) (h0 c) (hs c) 128
    ⟨(h c).1.trans (out_main_v72_holds hk), (h c).2.1.trans (out_main_v75_holds hk), (h c).2.2.1, (h c).2.2.2⟩) (Value.run m ρ)

end Cert.ScanRefIdeal.StepRun

end
-- ==== Proof.ScanRef.lean ====
/-
  The reference's recurrence read at an index: each trip of its loop is a chunk of `ScanMath`'s recurrence for every
  sequence, direction and head, and its results are that recurrence's over the whole sequence.
-/
module

public import proofs.«01_k».proof.Proof.ScanRefRun
public import proofs.«01_k».proof.Proof.ScanRec
public import Idealize.ShloMosaic.Lib.Pointwise

@[expose] public section

set_option maxRecDepth 65536

noncomputable section

namespace Cert.ScanRefIdeal.Body

open Idealize.ShloMosaic Idealize.ShloMosaic.TcCoe Idealize.SL.Sem
open Cert.ScanRefIdeal Cert.ScanRefIdeal.Gen Cert.ScanRefIdeal.Step Cert.FfnMath Cert.ScanMath
open scoped BigOperators

/-! ## The running sums -/

theorem foldl_add {N : ℕ} (f : Fin N → EReal) (L : List (Fin N)) (a : EReal) :
    L.foldl (fun r n => r + f n) a = a + (L.map f).sum := by
  induction L generalizing a with
  | nil => simp
  | cons x L ih => simp [ih, add_assoc]

/-- A window of 64 rows ending at row `t` has the rows up to it. -/
theorem window_sum (t : Fin 64) (g : Fin 64 → EReal) :
    (∑ w : Fin 64, if h : 63 ≤ t.val + w.val then g ⟨t.val + w.val - 63, by omega⟩ else 0) = ∑ s, if s ≤ t then g s else 0 := by
  rw [← Equiv.sum_comp (Equiv.addRight (⟨(t.val + 1) % 64, by omega⟩ : Fin 64)) (fun s => if s ≤ t then g s else 0)]
  refine Finset.sum_congr rfl fun w _ => ?_
  have hv : ((Equiv.addRight (⟨(t.val + 1) % 64, by omega⟩ : Fin 64)) w).val = (w.val + (t.val + 1) % 64) % 64 := rfl
  have ht := t.isLt
  have hw := w.isLt
  by_cases h : 63 ≤ t.val + w.val
  · rw [dif_pos h, if_pos (by rw [Fin.le_def, hv]; omega)]
    exact congrArg g (Fin.ext (by rw [hv]; show t.val + w.val - 63 = _; omega))
  · rw [dif_neg h, if_neg (by rw [Fin.le_def, hv]; omega)]

/-- The one running axis of a window of the running sums. -/
def windowEquiv : (⟨4, ![1, 1, 64, 1]⟩ : Shape).Idx ≃ Fin 64 where
  toFun w := w 2
  invFun w := ix4 0 0 w 0
  left_inv w := by
    have h0 : (w 0).val < 1 := (w 0).isLt
    have h1 : (w 1).val < 1 := (w 1).isLt
    have h3 : (w 3).val < 1 := (w 3).isLt
    funext a
    match a with
    | ⟨0, _⟩ => exact Fin.ext (by show 0 = (w 0).val; omega)
    | ⟨1, _⟩ => exact Fin.ext (by show 0 = (w 1).val; omega)
    | ⟨2, _⟩ => rfl
    | ⟨3, _⟩ => exact Fin.ext (by show 0 = (w 3).val; omega)
  right_inv _ := rfl

/-- A position of a running sum's window: a row of the chunk, or before its first. -/
theorem window_at (q : FVec Ideal S8x6x64x128 .f32) (n : Fin 8) (h : Fin 6) (t : Fin 64) (d : Fin 128) (w : (⟨4, ![1, 1, 64, 1]⟩ : Shape).Idx)
    [Decidable (∀ a : Fin 4, (![0, 0, 63, 0] : Fin 4 → ℕ) a ≤ (ix4 n h t d a).val * (![1, 1, 1, 1] : Fin 4 → ℕ) a + (w a).val
        ∧ (ix4 n h t d a).val * (![1, 1, 1, 1] : Fin 4 → ℕ) a + (w a).val - (![0, 0, 63, 0] : Fin 4 → ℕ) a < S8x6x64x128.size a)] :
    (if hin : ∀ a : Fin 4, (![0, 0, 63, 0] : Fin 4 → ℕ) a ≤ (ix4 n h t d a).val * (![1, 1, 1, 1] : Fin 4 → ℕ) a + (w a).val
        ∧ (ix4 n h t d a).val * (![1, 1, 1, 1] : Fin 4 → ℕ) a + (w a).val - (![0, 0, 63, 0] : Fin 4 → ℕ) a < S8x6x64x128.size a
      then (q (fun a => ⟨(ix4 n h t d a).val * (![1, 1, 1, 1] : Fin 4 → ℕ) a + (w a).val - (![0, 0, 63, 0] : Fin 4 → ℕ) a, (hin a).2⟩) : EReal) else 0)
      = if h' : 63 ≤ t.val + (w 2).val then q (ix4 n h ⟨t.val + (w 2).val - 63, by have : (w 2).val < 64 := (w 2).isLt; omega⟩ d) else 0 := by
  have h0 : (w 0).val < 1 := (w 0).isLt
  have h1 : (w 1).val < 1 := (w 1).isLt
  have h2 : (w 2).val < 64 := (w 2).isLt
  have h3 : (w 3).val < 1 := (w 3).isLt
  by_cases hw : 63 ≤ t.val + (w 2).val
  · rw [dif_pos hw, dif_pos]
    · refine congrArg q (funext fun a => ?_)
      match a with
      | ⟨0, _⟩ => exact Fin.ext (by show n.val * 1 + (w 0).val - 0 = n.val; omega)
      | ⟨1, _⟩ => exact Fin.ext (by show h.val * 1 + (w 1).val - 0 = h.val; omega)
      | ⟨2, _⟩ => exact Fin.ext (by show t.val * 1 + (w 2).val - 63 = t.val + (w 2).val - 63; omega)
      | ⟨3, _⟩ => exact Fin.ext (by show d.val * 1 + (w 3).val - 0 = d.val; omega)
    · intro a
      match a with
      | ⟨0, _⟩ => show 0 ≤ n.val * 1 + (w 0).val ∧ n.val * 1 + (w 0).val - 0 < 8; omega
      | ⟨1, _⟩ => show 0 ≤ h.val * 1 + (w 1).val ∧ h.val * 1 + (w 1).val - 0 < 6; omega
      | ⟨2, _⟩ => show 63 ≤ t.val * 1 + (w 2).val ∧ t.val * 1 + (w 2).val - 63 < 64; omega
      | ⟨3, _⟩ => show 0 ≤ d.val * 1 + (w 3).val ∧ d.val * 1 + (w 3).val - 0 < 128; omega
  · rw [dif_neg hw, dif_neg]
    intro hin
    have := (hin 2).1
    have : 63 ≤ t.val * 1 + (w 2).val := this
    omega

theorem choose_agree {p q : Prop} {_ : Decidable p} {_ : Decidable q} {f : p → EReal} {g : q → EReal} {z : EReal} (h : p ↔ q)
    (e : ∀ a b, f a = g b) : (if a : p then f a else z) = if b : q then g b else z := by
  by_cases a : p
  · rw [dif_pos a, dif_pos (h.mp a)]
    exact e _ _
  · rw [dif_neg a, dif_neg fun b => a (h.mpr b)]

theorem cum_apply (q : FVec Ideal S8x6x64x128 .f32) (n : Fin 8) (h : Fin 6) (t : Fin 64) (d : Fin 128) :
    Ideal.hostReduceWindowAdd ![1, 1, 64, 1] ![1, 1, 1, 1] ![0, 0, 63, 0] ![0, 0, 0, 0]
      reduceWindows_S8x6x64x128_S8x6x64x128_w1s1p0_0_w1s1p0_0_w64s1p63_0_w1s1p0_0 q 0 (ix4 n h t d)
      = ∑ s, if s ≤ t then q (ix4 n h s d) else 0 := by
  unfold Ideal.hostReduceWindowAdd Host.reduceWindow
  dsimp only
  rw [foldl_add, zero_add, ← Fin.sum_univ_def]
  refine (Fintype.sum_equiv ((Shape.rowMajor ⟨4, ![1, 1, 64, 1]⟩).symm.trans windowEquiv) _ _ fun i => ?_).trans
    (window_sum t (fun s => q (ix4 n h s d)))
  refine (choose_agree ?_ ?_).trans (window_at q n h t d ((Shape.rowMajor ⟨4, ![1, 1, 64, 1]⟩).symm i))
  · exact Iff.rfl
  · exact fun _ _ => rfl

/-! ## Where a trip reads and writes -/

theorem start_at {f : Fin 5 → ℤ} {j : ℕ} (hj : j < 128) (hf : f 0 = (BitVec.ofNat 32 j).toInt) :
    Host.clampedStart S128x8x6x64x128 S1x8x6x64x128 rfl f 0 = j := by
  refine Host.clampedStart_of_le _ _ _ _ ?_ (by show j + 1 ≤ 128; omega)
  have e : (BitVec.ofNat 32 j).toNat = j := by rw [BitVec.toNat_ofNat]; exact Nat.mod_eq_of_lt (by omega)
  rw [hf, BitVec.toInt_eq_toNat_of_lt (by rw [e]; omega), e]

theorem start_zero {f : Fin 5 → ℤ} (a : Fin 5) (ha : a ≠ 0) : Host.clampedStart S128x8x6x64x128 S1x8x6x64x128 rfl f a = 0 := by
  unfold Host.clampedStart
  match a, ha with
  | ⟨0, _⟩, ha => exact absurd rfl ha
  | ⟨1, _⟩, _ => show (min (max _ 0) (((8 - 8 : ℕ) : ℤ))).toNat = 0; omega
  | ⟨2, _⟩, _ => show (min (max _ 0) (((6 - 6 : ℕ) : ℤ))).toNat = 0; omega
  | ⟨3, _⟩, _ => show (min (max _ 0) (((64 - 64 : ℕ) : ℤ))).toNat = 0; omega
  | ⟨4, _⟩, _ => show (min (max _ 0) (((128 - 128 : ℕ) : ℤ))).toNat = 0; omega

theorem ix5_eq {c c' : Fin 128} {n n' : Fin 8} {h h' : Fin 6} {t t' : Fin 64} {d d' : Fin 128} (e0 : c.val = c'.val) (e1 : n.val = n'.val)
    (e2 : h.val = h'.val) (e3 : t.val = t'.val) (e4 : d.val = d'.val) : ix5 c n h t d = ix5 c' n' h' t' d' := by
  rw [Fin.ext e0, Fin.ext e1, Fin.ext e2, Fin.ext e3, Fin.ext e4]

/-! ## Names for positions -/

/-- A direction's row of a position. -/
def turned (D : Fin 2) (R : Fin 8192) : Fin 8192 := if D = 0 then R else R.rev

theorem two (D : Fin 2) : D = 0 ∨ D = 1 := by omega

/-- A chunk's row, sequence and lane among all. -/
abbrev at4 (c : Fin 128) (n : Fin 8) (h : Fin 6) (t : Fin 64) (d : Fin 128) : S2x4x8192x768.Idx :=
  ix4 (⟨n.val / 4, by omega⟩ : Fin 2) (⟨n.val % 4, by omega⟩ : Fin 4) (⟨c.val * 64 + t.val, by omega⟩ : Fin 8192) (⟨h.val * 128 + d.val, by omega⟩ : Fin 768)

/-- The parameters as the recurrence takes them. -/
abbrev pX (a0 : (⟨S4x8192x4096, .f32⟩ : BufTy).Contents (Elt Ideal)) (b : Fin 4) (r : Fin 8192) (k : Fin 4096) : EReal := a0 (ix3 b r k)
abbrev pL (a1 : (⟨S2x1x768, .f32⟩ : BufTy).Contents (Elt Ideal)) (d : Fin 2) (k : Fin 768) : EReal := a1 (ix3 d 0 k)
abbrev seqD (n : Fin 8) : Fin 2 := ⟨n.val / 4, by omega⟩
abbrev seqB (n : Fin 8) : Fin 4 := ⟨n.val % 4, by omega⟩

theorem row_turned (D : Fin 2) (c : Fin 128) (t : Fin 64) : row D c.val t = turned D ⟨c.val * 64 + t.val, by omega⟩ := by
  have e : (⟨(64 * c.val + t.val) % 8192, Nat.mod_lt _ (by omega)⟩ : Fin 8192) = ⟨c.val * 64 + t.val, by omega⟩ :=
    Fin.ext (by show (64 * c.val + t.val) % 8192 = c.val * 64 + t.val; omega)
  unfold row turned
  rw [e]

theorem lane_eq (h : Fin 6) (d : Fin 128) : (⟨h.val * 128 + d.val, by omega⟩ : Fin 768) = headLane h d :=
  Fin.ext (by show h.val * 128 + d.val = 128 * h.val + d.val; omega)

/-! ## A trip's operations -/

section trip

variable (j : ℕ) (hj : j < 128) (s : State Ideal) (n : Fin 8) (h : Fin 6) (t : Fin 64) (d e : Fin 128)

include hj in
theorem q_apply : b5 j s (ix4 n h t d) = s.main_v68_0 (ix5 ⟨j, hj⟩ n h t d) := by
  unfold b5 b4 b3 b2 b1 b0
  pointwise
  refine congrArg s.main_v68_0 (ix5_eq ?_ ?_ ?_ ?_ ?_) <;> dsimp only
  · exact start_at hj rfl
  all_goals rw [start_zero _ (by decide), Nat.zero_add]

include hj in
theorem k_apply : b11 j s (ix4 n h t d) = s.main_v68_1 (ix5 ⟨j, hj⟩ n h t d) := by
  unfold b11 b10 b9 b8 b7 b6
  pointwise
  refine congrArg s.main_v68_1 (ix5_eq ?_ ?_ ?_ ?_ ?_) <;> dsimp only
  · exact start_at hj rfl
  all_goals rw [start_zero _ (by decide), Nat.zero_add]

include hj in
theorem v_apply : b17 j s (ix4 n h t d) = s.main_v68_2 (ix5 ⟨j, hj⟩ n h t d) := by
  unfold b17 b16 b15 b14 b13 b12
  pointwise
  refine congrArg s.main_v68_2 (ix5_eq ?_ ?_ ?_ ?_ ?_) <;> dsimp only
  · exact start_at hj rfl
  all_goals rw [start_zero _ (by decide), Nat.zero_add]

include hj in
theorem g_apply : b23 j s (ix4 n h t d) = s.main_v68_3 (ix5 ⟨j, hj⟩ n h t d) := by
  unfold b23 b22 b21 b20 b19 b18
  pointwise
  refine congrArg s.main_v68_3 (ix5_eq ?_ ?_ ?_ ?_ ?_) <;> dsimp only
  · exact start_at hj rfl
  all_goals rw [start_zero _ (by decide), Nat.zero_add]

theorem c_apply : b26 j s (ix4 n h t d) = csum (fun t d => b23 j s (ix4 n h t d)) t d := by
  unfold b26 b25 b24
  unfold Host.reduceWindowAdd
  dsimp only [FloatOps.hostReduceWindowAdd]
  have e : (broadcastInDim S_ ![] bcast_S_S_ (constant (F := Ideal) S_ .f32 0#32) (Shape.Idx.first h_S_) : EReal) = 0 := by
    exact Ideal.ofBits_zero_f32
  rw [e]
  exact cum_apply _ n h t d

theorem after_bit : ∀ x y : Fin 64, IntOp.cmpi .sge (BitVec.ofNat 32 x.val) (BitVec.ofNat 32 y.val) = if y ≤ x then 1#1 else 0#1 := by
  decide +kernel

/-- The trip's results are the chunk's, for every sequence, direction and head. -/
theorem o_apply : b51 j s (ix4 n h t e) = out (fun t d => b5 j s (ix4 n h t d)) (fun t d => b11 j s (ix4 n h t d))
    (fun t d => b17 j s (ix4 n h t d)) (fun t d => b23 j s (ix4 n h t d)) (fun d e => s.main_v68_6 (ix4 n h d e)) t e := by
  have hc : ∀ t d, b26 j s (ix4 n h t d) = csum (fun t d => b23 j s (ix4 n h t d)) t d := fun t d => c_apply j s n h t d
  unfold b51 b50 b49 b48 b47 b46 b45 b44 b43 b42 b41 b40 b39 b38 b37 b36 b35 b34 b33 b32 b31 b30 b29 b28 b27 K_main_v57 K_main_call4_v4 K_main_v56 K_main_call4_v5 K_main_call4_c_0 K_main_c K_main_call4_v2 K_main_call4_v3 K_main_call4_v0 K_main_call4_v1 K_main_call4_c
  generalize b26 j s = c at hc ⊢
  generalize b5 j s = q
  generalize b11 j s = k
  generalize b17 j s = v
  pointwise
  unfold out
  simp only [hc]
  refine congrArg₂ (· + ·) (Finset.sum_congr rfl fun x _ => ?_) rfl
  have hb : IntOp.cmpi .sge (IntOp.addi (BitVec.ofNat 32 t.val) 0#32) (BitVec.ofNat 32 x.val) = if x ≤ t then 1#1 else 0#1 := by
    rw [show IntOp.addi (BitVec.ofNat 32 t.val) 0#32 = BitVec.ofNat 32 t.val from BitVec.add_zero _]
    exact after_bit t x
  rw [hb]
  by_cases hx : x ≤ t
  · simp only [if_pos hx]
    rfl
  · simp only [if_neg hx]
    have e0 : ∀ y : EReal, Ideal.exp (Scalar.select (Scalar.select (0#1 : BitVec 1) (1#1 : BitVec 1) (0#1 : BitVec 1)) y (Ideal.ofBits .f32 0xFF800000#32)) = 0 := by
      intro y
      show Ideal.exp (Ideal.ofBits .f32 0xFF800000#32) = 0
      rw [Cert.OutMath.least_eq]
      rfl
    simp only [e0, mul_zero, zero_mul, Finset.sum_const_zero]

/-- And the states after it. -/
theorem s_apply : b63 j s (ix4 n h d e) = next (fun t d => b11 j s (ix4 n h t d)) (fun t d => b17 j s (ix4 n h t d))
    (fun t d => b23 j s (ix4 n h t d)) (fun d e => s.main_v68_6 (ix4 n h d e)) d e := by
  have hc : ∀ t d, b26 j s (ix4 n h t d) = csum (fun t d => b23 j s (ix4 n h t d)) t d := fun t d => c_apply j s n h t d
  unfold b63 b62 b61 b60 b59 b58 b57 b56 b55 b54 b53 b52
  generalize b26 j s = c at hc ⊢
  generalize b5 j s = q
  generalize b11 j s = k
  generalize b17 j s = v
  pointwise
  unfold next
  simp only [hc]

include hj in
/-- The results kept so far, with the trip's. -/
theorem u_apply (c : Fin 128) : b69 j s (ix5 c n h t d) = if c.val = j then b51 j s (ix4 n h t d) else s.main_v68_7 (ix5 c n h t d) := by
  unfold b69 b68 b67 b66 b65 b64
  generalize b51 j s = q
  pointwise
  split_ifs with h1 h2 h2
  · rfl
  · have := h1.1
    rw [start_at hj rfl] at this
    omega
  · refine absurd ?_ h1
    rw [start_at hj rfl]
    simp only [start_zero (1 : Fin 5) (by decide), start_zero (2 : Fin 5) (by decide), start_zero (3 : Fin 5) (by decide), start_zero (4 : Fin 5) (by decide)]
    omega
  · rfl

end trip

/-! ## Before the loop -/

section start

variable (a0 : (⟨S4x8192x4096, .f32⟩ : BufTy).Contents (Elt Ideal)) (a1 : (⟨S2x1x768, .f32⟩ : BufTy).Contents (Elt Ideal))
variable (D : Fin 2) (B : Fin 4) (R : Fin 8192) (C : Fin 768)

/-- The gates, of each direction's columns. -/
theorem gate_read : A_main_v10 a0 a1 (ix4 D B R C)
    = a0 (ix3 B (turned D R) (if D = 0 then ⟨2304 + C.val, by omega⟩ else ⟨3072 + C.val, by omega⟩)) := by
  unfold A_main_v10 A_main_v9 A_main_v8 A_main_v7 A_main_v5 A_main_v4 A_main_v0
  pointwise
  unfold turned
  rcases two D with rfl | rfl <;> rfl

set_option maxHeartbeats 2000000 in
/-- The logarithms of the decays. -/
theorem decay_read : A_main_v42 a0 a1 (ix4 D B R C) = logDecay (a1 (ix3 D 0 C)) (A_main_v10 a0 a1 (ix4 D B R C)) := by
  unfold A_main_v42 A_main_v41 A_main_v40 A_main_v39 A_main_v38 A_main_v37 A_main_v36 A_main_v35 A_main_v34 A_main_v33 A_main_v32 A_main_v31 A_main_v30 A_main_v29 A_main_v28 A_main_v27 A_main_v26 A_main_v25 A_main_v24 A_main_v23 A_main_v22 A_main_v21 A_main_v19 A_main_v18 A_main_v16 A_main_v14 A_main_v13 A_main_v12 A_main_v11 A_main_v6 K_main_v15 K_main_v17 K_main_v20 K_main_cst
  generalize A_main_v10 a0 a1 = z
  pointwise
  unfold logDecay lae
  simp only [sub_zero, add_zero]
  rfl

/-- The keys. -/
theorem key_read : A_main_v44 a0 a1 (ix4 D B R C) = -(Ideal.exp (A_main_v42 a0 a1 (ix4 D B R C)) - 1) := by
  unfold A_main_v44 A_main_v43
  generalize A_main_v42 a0 a1 = z
  pointwise

/-- The queries. -/
theorem query_read : A_main_v51 a0 a1 (ix4 D B R C)
    = silu (a0 (ix3 B (turned D R) ⟨C.val, by omega⟩)) * Ideal.ofBits .f32 0x3DB504F3#32 := by
  unfold A_main_v51 A_main_v49 A_main_call2_v5 A_main_call2_v3 A_main_call2_v1 A_main_call2_v0 A_main_v48 A_main_v47 A_main_v46 A_main_v45 A_main_v1 A_main_v0
    K_main_call2_v4 K_main_call2_v2 K_main_call2_cst K_main_call2_cst_0 K_main_v50 K_main_cst_0
  pointwise
  unfold turned silu sigm
  rcases two D with rfl | rfl <;> rfl

/-- The values. -/
theorem value_read : A_main_v55 a0 a1 (ix4 D B R C) = a0 (ix3 B (turned D R) ⟨768 + C.val, by omega⟩) := by
  unfold A_main_v55 A_main_v54 A_main_v53 A_main_v52 A_main_v2 A_main_v0
  pointwise
  unfold turned
  rcases two D with rfl | rfl <;> rfl

variable (c : Fin 128) (n : Fin 8) (h : Fin 6) (t : Fin 64) (d : Fin 128)

/-- The arrays of the loop, by chunk. -/
theorem chunks (z : (⟨S2x4x8192x768, .f32⟩ : BufTy).Contents (Elt Ideal)) :
    transpose S128x8x6x64x128 [1, 0, 3, 2, 4] (shapeCast _ z shapeCasts_S2x4x8192x768_S8x128x64x6x128)
      transposes_S8x128x64x6x128_S128x8x6x64x128_1_0_3_2_4 (ix5 c n h t d) = z (at4 c n h t d) := by
  pointwise

theorem chunks_q : A_main_v60 a0 a1 (ix5 c n h t d) = A_main_v51 a0 a1 (at4 c n h t d) :=
  chunks c n h t d (A_main_v51 a0 a1)

theorem chunks_k : A_main_v62 a0 a1 (ix5 c n h t d) = A_main_v44 a0 a1 (at4 c n h t d) :=
  chunks c n h t d (A_main_v44 a0 a1)

theorem chunks_v : A_main_v64 a0 a1 (ix5 c n h t d) = A_main_v55 a0 a1 (at4 c n h t d) :=
  chunks c n h t d (A_main_v55 a0 a1)

theorem chunks_g : A_main_v66 a0 a1 (ix5 c n h t d) = A_main_v42 a0 a1 (at4 c n h t d) :=
  chunks c n h t d (A_main_v42 a0 a1)

theorem start_q : A_main_v60 a0 a1 (ix5 c n h t d) = cq (pX a0) (seqD n) (seqB n) h c.val t d := by
  rw [chunks_q, query_read]
  unfold cq pX
  rw [row_turned, lane_eq]
  refine congrArg (fun i => silu (a0 i) * _) (congrArg (ix3 _ _) (Fin.ext ?_))
  exact (Nat.zero_add _).symm

theorem start_v : A_main_v64 a0 a1 (ix5 c n h t d) = cv (pX a0) (seqD n) (seqB n) h c.val t d := by
  rw [chunks_v, value_read]
  unfold cv pX
  rw [row_turned, lane_eq]
  rfl

theorem gate_col : A_main_v10 a0 a1 (at4 c n h t d) = pX a0 (seqB n) (row (seqD n) c.val t) (gateCol (seqD n) h d) := by
  rw [gate_read, row_turned, lane_eq]
  rfl

theorem start_g : A_main_v66 a0 a1 (ix5 c n h t d) = cg (pX a0) (pL a1) (seqD n) (seqB n) h c.val t d := by
  rw [chunks_g, decay_read, gate_col, lane_eq]
  rfl

theorem start_k (hp : ∀ D C, 0 ≤ pL a1 D C) (hq : ∀ D C, pL a1 D C ≤ 1) :
    A_main_v62 a0 a1 (ix5 c n h t d) = ck (pX a0) (pL a1) (seqD n) (seqB n) h c.val t d := by
  rw [chunks_k, key_read, decay_read, gate_col, lane_eq]
  exact left_eq (hp _ _) (hq _ _) _

end start

/-! ## The loop -/

section loop

variable (a0 : (⟨S4x8192x4096, .f32⟩ : BufTy).Contents (Elt Ideal)) (a1 : (⟨S2x1x768, .f32⟩ : BufTy).Contents (Elt Ideal))

/-- What holds before trip `i`: the arrays read are the ones made before the loop, the states are those before chunk `i`, and the
    results of the chunks before it are in their places. -/
structure Before (i : ℕ) (s : State Ideal) : Prop where
  q : s.main_v68_0 = A_main_v60 a0 a1
  k : s.main_v68_1 = A_main_v62 a0 a1
  v : s.main_v68_2 = A_main_v64 a0 a1
  g : s.main_v68_3 = A_main_v66 a0 a1
  state : ∀ n h d e, s.main_v68_6 (ix4 n h d e) = hist (pX a0) (pL a1) (seqD n) (seqB n) h i d e
  result : ∀ (c : Fin 128) n h t e, c.val < i → s.main_v68_7 (ix5 c n h t e) = res (pX a0) (pL a1) (seqD n) (seqB n) h c.val t e

theorem before_init : Before a0 a1 0 (init a0 a1) where
  q := rfl
  k := rfl
  v := rfl
  g := rfl
  state n h d e := by
    show Ideal.ofBits .f32 0x00000000#32 = 0
    exact Ideal.ofBits_zero_f32
  result _ _ _ _ _ hc := absurd hc (Nat.not_lt_zero _)

variable {a0 a1} (hp : ∀ D C, 0 ≤ pL a1 D C) (hq : ∀ D C, pL a1 D C ≤ 1)

include hp hq in
theorem before_step {i : ℕ} (hi : i < 128) {s : State Ideal} (H : Before a0 a1 i s) : Before a0 a1 (i + 1) (step i s) := by
  have hQ : ∀ n h, (fun t d => b5 i s (ix4 n h t d)) = cq (pX a0) (seqD n) (seqB n) h i := fun n h =>
    funext fun t => funext fun d => by rw [q_apply i hi, H.q, start_q]
  have hK : ∀ n h, (fun t d => b11 i s (ix4 n h t d)) = ck (pX a0) (pL a1) (seqD n) (seqB n) h i := fun n h =>
    funext fun t => funext fun d => by rw [k_apply i hi, H.k, start_k _ _ _ _ _ _ _ hp hq]
  have hV : ∀ n h, (fun t d => b17 i s (ix4 n h t d)) = cv (pX a0) (seqD n) (seqB n) h i := fun n h =>
    funext fun t => funext fun d => by rw [v_apply i hi, H.v, start_v]
  have hG : ∀ n h, (fun t d => b23 i s (ix4 n h t d)) = cg (pX a0) (pL a1) (seqD n) (seqB n) h i := fun n h =>
    funext fun t => funext fun d => by rw [g_apply i hi, H.g, start_g]
  have hS : ∀ n h, (fun d e => s.main_v68_6 (ix4 n h d e)) = hist (pX a0) (pL a1) (seqD n) (seqB n) h i := fun n h =>
    funext fun d => funext fun e => H.state n h d e
  refine ⟨H.q, H.k, H.v, H.g, fun n h d e => ?_, fun c n h t e hc => ?_⟩
  · rw [step_main_v68_6, s_apply, hK, hV, hG, hS]
    rfl
  · rw [step_main_v68_7, u_apply i hi]
    by_cases hci : c.val = i
    · rw [if_pos hci, o_apply, hQ, hK, hV, hG, hS, hci]
      rfl
    · rw [if_neg hci]
      exact H.result c n h t e (by omega)

/-- The states of the loop. -/
def states (a0 : (⟨S4x8192x4096, .f32⟩ : BufTy).Contents (Elt Ideal)) (a1 : (⟨S2x1x768, .f32⟩ : BufTy).Contents (Elt Ideal)) : ℕ → State Ideal
  | 0 => init a0 a1
  | i + 1 => step i (states a0 a1 i)

include hp hq in
theorem before_all (i : ℕ) (hi : i ≤ 128) : Before a0 a1 i (states a0 a1 i) := by
  induction i with
  | zero => exact before_init a0 a1
  | succ i ih => exact before_step hp hq (by omega) (ih (by omega))

theorem fst_read (s : State Ideal) (B : Fin 4) (R : Fin 8192) (C : Fin 768) : R_main_v72 s (ix3 B R C)
    = s.main_v68_7 (ix5 (⟨R.val / 64, by omega⟩ : Fin 128) (⟨B.val, by omega⟩ : Fin 8) (⟨C.val / 128, by omega⟩ : Fin 6)
        (⟨R.val % 64, by omega⟩ : Fin 64) (⟨C.val % 128, by omega⟩ : Fin 128)) := by
  unfold R_main_v72
  generalize s.main_v68_7 = z
  pointwise

theorem snd_read (s : State Ideal) (B : Fin 4) (R : Fin 8192) (C : Fin 768) : R_main_v75 s (ix3 B R C)
    = s.main_v68_7 (ix5 (⟨R.rev.val / 64, by omega⟩ : Fin 128) (⟨4 + B.val, by omega⟩ : Fin 8) (⟨C.val / 128, by omega⟩ : Fin 6)
        (⟨R.rev.val % 64, by omega⟩ : Fin 64) (⟨C.val % 128, by omega⟩ : Fin 128)) := by
  unfold R_main_v75
  generalize s.main_v68_7 = z
  pointwise
  rfl

include hp hq in
/-- The first result is the recurrence read forwards. -/
theorem fst_result (B : Fin 4) (R : Fin 8192) (C : Fin 768) :
    R_main_v72 (states a0 a1 128) (ix3 B R C) = whole (pX a0) (pL a1) 0 B R C := by
  have eD : seqD (⟨B.val, by omega⟩ : Fin 8) = 0 := Fin.ext (by show B.val / 4 = 0; omega)
  have eB : seqB (⟨B.val, by omega⟩ : Fin 8) = B := Fin.ext (by show B.val % 4 = B.val; omega)
  rw [fst_read, (before_all hp hq 128 le_rfl).result _ _ _ _ _ (Fin.isLt _), eD, eB]
  rfl

include hp hq in
/-- And the second backwards. -/
theorem snd_result (B : Fin 4) (R : Fin 8192) (C : Fin 768) :
    R_main_v75 (states a0 a1 128) (ix3 B R C) = whole (pX a0) (pL a1) 1 B R C := by
  have eD : seqD (⟨4 + B.val, by omega⟩ : Fin 8) = 1 := Fin.ext (by show (4 + B.val) / 4 = 1; omega)
  have eB : seqB (⟨4 + B.val, by omega⟩ : Fin 8) = B := Fin.ext (by show (4 + B.val) % 4 = B.val; omega)
  rw [snd_read, (before_all hp hq 128 le_rfl).result _ _ _ _ _ (Fin.isLt _), eD, eB]
  rfl

end loop

end Cert.ScanRefIdeal.Body

end
-- ==== Proof.ScanPre.lean ====
/-
  What the recurrence's precondition says: every lower bound is between zero and one.
-/
module

public import proofs.«01_k».proof.Proof.Gen.Pre_decays
public import proofs.«01_k».proof.Proof.OutLnRef

@[expose] public section

set_option maxRecDepth 65536

noncomputable section

namespace Cert.ScanMath

open Idealize.ShloMosaic Cert.FfnMath Cert.OutLnRefIdeal.Body

theorem of_bit {p : Prop} [Decidable p] (h : BitVec.ofBool (decide p) = 1#1) : p := by
  by_contra hc
  rw [decide_eq_false hc] at h
  exact absurd h (by decide)

theorem bounds_of_pre (a0 : FVec Ideal Cert.Pre_decays.S4x8192x4096 .f32) (a1 : FVec Ideal Cert.Pre_decays.S2x1x768 .f32)
    (h : Cert.Pre_decays.fn (F := Ideal) a0 a1 = fun _ => 1#1) : ∀ (D : Fin 2) (C : Fin 768), 0 ≤ (a1 (ix3 D 0 C) : EReal) ∧ (a1 (ix3 D 0 C) : EReal) ≤ 1 := by
  intro D C
  have e := congrFun h (fun a => a.elim0)
  simp only [Cert.Pre_decays.fn] at e
  haveI : Subsingleton Cert.Pre_decays.S_.Idx := ⟨fun a b => funext fun i => i.elim0⟩
  have q := Host.reduce_andi_all _ _ _ _ _ e (ix3 D 0 C)
  obtain ⟨q1, q2⟩ := both q
  clear e q h
  pointwise at q1
  pointwise at q2
  exact ⟨of_bit q1, of_bit q2⟩

end Cert.ScanMath

end
-- ==== Proof.lean ====
/-
  The proof of the certificate: the frames are the generated ones, the scan's from its own modules; a kernel's result
  array and its reference's are both one function of the arguments, index by index.
-/
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Scan
public import proofs.«01_k».proof.Proof.Gen.Scan.Skeleton
public import proofs.«01_k».proof.Proof.Gen.Scan.Launch
public import proofs.«01_k».proof.Proof.Gen.Scan.Points
public import proofs.«01_k».proof.Proof.Gen.Scan.Loops
public import proofs.«01_k».proof.Proof.Gen.Scan.Frame.Runs
public import proofs.«01_k».proof.Proof.Gen.ScanIdeal
public import proofs.«01_k».proof.Proof.Gen.ScanIdeal.Skeleton
public import proofs.«01_k».proof.Proof.Gen.ScanIdeal.Launch
public import proofs.«01_k».proof.Proof.Gen.ScanIdeal.Points
public import proofs.«01_k».proof.Proof.Gen.ScanIdeal.Loops
public import proofs.«01_k».proof.Proof.Gen.ScanIdeal.Frame.Runs
public import proofs.«01_k».proof.Proof.Gen.ScanRefIdeal
public import proofs.«01_k».proof.Proof.Gen.ScanRefIdeal.Run
public import proofs.«01_k».proof.Proof.Gen.Finish
public import proofs.«01_k».proof.Proof.Gen.Finish.Skeleton
public import proofs.«01_k».proof.Proof.Gen.Finish.Launch
public import proofs.«01_k».proof.Proof.Gen.Finish.Points
public import proofs.«01_k».proof.Proof.Gen.Finish.Frame
public import proofs.«01_k».proof.Proof.Gen.FinishIdeal
public import proofs.«01_k».proof.Proof.Gen.FinishIdeal.Skeleton
public import proofs.«01_k».proof.Proof.Gen.FinishIdeal.Launch
public import proofs.«01_k».proof.Proof.Gen.FinishIdeal.Points
public import proofs.«01_k».proof.Proof.Gen.FinishIdeal.Frame
public import proofs.«01_k».proof.Proof.Gen.FinishIdeal.Value
public import proofs.«01_k».proof.Proof.Gen.FinishRefIdeal
public import proofs.«01_k».proof.Proof.Gen.FinishRefIdeal.Run
public import proofs.«01_k».proof.Proof.Gen.FinishRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Wide
public import proofs.«01_k».proof.Proof.Gen.Wide.Skeleton
public import proofs.«01_k».proof.Proof.Gen.Wide.Launch
public import proofs.«01_k».proof.Proof.Gen.Wide.Points
public import proofs.«01_k».proof.Proof.Gen.Wide.Frame
public import proofs.«01_k».proof.Proof.Gen.WideIdeal
public import proofs.«01_k».proof.Proof.Gen.WideIdeal.Skeleton
public import proofs.«01_k».proof.Proof.Gen.WideIdeal.Launch
public import proofs.«01_k».proof.Proof.Gen.WideIdeal.Points
public import proofs.«01_k».proof.Proof.Gen.WideIdeal.Frame
public import proofs.«01_k».proof.Proof.Gen.WideIdeal.Value
public import proofs.«01_k».proof.Proof.Gen.WideRefIdeal
public import proofs.«01_k».proof.Proof.Gen.WideRefIdeal.Run
public import proofs.«01_k».proof.Proof.Gen.WideRefIdeal.Read
public import proofs.«01_k».proof.Proof.Gen.OutLn
public import proofs.«01_k».proof.Proof.Gen.OutLn.Skeleton
public import proofs.«01_k».proof.Proof.Gen.OutLn.Launch
public import proofs.«01_k».proof.Proof.Gen.OutLn.Points
public import proofs.«01_k».proof.Proof.Gen.OutLn.Frame
public import proofs.«01_k».proof.Proof.Gen.OutLnIdeal
public import proofs.«01_k».proof.Proof.Gen.OutLnIdeal.Skeleton
public import proofs.«01_k».proof.Proof.Gen.OutLnIdeal.Launch
public import proofs.«01_k».proof.Proof.Gen.OutLnIdeal.Points
public import proofs.«01_k».proof.Proof.Gen.OutLnIdeal.Frame
public import proofs.«01_k».proof.Proof.Gen.OutLnIdeal.Value
public import proofs.«01_k».proof.Proof.Gen.OutLnRefIdeal
public import proofs.«01_k».proof.Proof.Gen.OutLnRefIdeal.Run
public import proofs.«01_k».proof.Proof.Gen.OutLnRefIdeal.Read
public import proofs.«01_k».proof.Proof.Gen.Pre_finite_logits
public import proofs.«01_k».proof.Proof.Gen.Pre_decays
public import proofs.«01_k».proof.Proof.FfnRead
public import proofs.«01_k».proof.Proof.FfnRef
public import proofs.«01_k».proof.Proof.ScanFrame
public import proofs.«01_k».proof.Proof.ScanIdealValue
public import proofs.«01_k».proof.Proof.FinishRead
public import proofs.«01_k».proof.Proof.ProjRead
public import proofs.«01_k».proof.Proof.WideRead
public import proofs.«01_k».proof.Proof.OutLnRead
public import proofs.«01_k».proof.Proof.OutLnRef
public import proofs.«01_k».proof.Proof.ScanGrid
public import proofs.«01_k».proof.Proof.ScanRef
public import proofs.«01_k».proof.Proof.ScanPre
public import Idealize.ShloMosaic.Adequacy
public import Idealize.ShloMosaic.Init

@[expose] public section

noncomputable section

namespace Cert.Proof

open Idealize.ShloMosaic Idealize.SL.Sem

/-- The feed-forward reference's result is the array the kernel's run ends with. -/
theorem ffn_result (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ) (c : Dev Cert.FfnIdeal.nD)
    (h : m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) :
    Cert.FfnRefIdeal.Value.res_main_v55 m' c = Cert.FfnIdeal.Body.G m c := by
  rw [Cert.FfnRefIdeal.Read.val_main_v55_eq, h.1, h.2.1, h.2.2.1, h.2.2.2.1, h.2.2.2.2.1, h.2.2.2.2.2]
  funext i
  have hi : i = ix3 (i 0 : Fin 4) (i 1 : Fin 8192) (i 2 : Fin 1024) := by
    funext a
    match a with
    | ⟨0, _⟩ => rfl
    | ⟨1, _⟩ => rfl
    | ⟨2, _⟩ => rfl
  refine (congrArg _ hi).trans ((Cert.FfnRefIdeal.Body.result_apply _ _ _ _ _ _ (i 0 : Fin 4) (i 1 : Fin 8192) (i 2 : Fin 1024)).trans ?_)
  rfl

/-- The feed-forward kernel and its reference end with equal results. -/
theorem ffn_algebraic : algebraic_FfnIdeal_FfnRefIdeal (hFfnIdeal := Cert.FfnIdeal.Gen.facts) (hFfnRefIdeal := Cert.FfnRefIdeal.Gen.facts) :=
  fun m g m' g' _ h => ⟨fun c => Cert.FfnIdeal.Body.G m c,
    (θ_run _ _ _).mono (fun _ hr c => ⟨(hr c).1.trans (Cert.FfnIdeal.Body.final m c), (hr c).2⟩) (Cert.FfnIdeal.Value.run_blocks m g),
    (θ_run _ _ _).mono (fun _ hr c => ⟨(hr c).1.trans (ffn_result m m' c (h c)), (hr c).2⟩) (Cert.FfnRefIdeal.Value.run m' g')⟩

/-- The reference leaves its arguments, and declares no semaphore. -/
theorem ffn_reference_frame : quiescent_FfnRefIdeal (hFfnRefIdeal := Cert.FfnRefIdeal.Gen.facts) := fun m g _ =>
  (θ_run _ _ _).mono (fun r h => ⟨fun c => (h c).2, sem_eq_zero_of_no_sems (by decide) r.2⟩) (Cert.FfnRefIdeal.Value.run m g)

/-- The attention layers' projection and its reference end with equal results. -/
theorem proj_algebraic : algebraic_ProjIdeal_ProjRefIdeal (hProjIdeal := Cert.ProjIdeal.Gen.facts) (hProjRefIdeal := Cert.ProjRefIdeal.Gen.facts) :=
  fun m g m' g' _ h => ⟨fun c => Cert.ProjIdeal.Body.G m c,
    (θ_run _ _ _).mono (fun _ hr c => ⟨(hr c).1.trans (Cert.ProjIdeal.Body.final m c), (hr c).2⟩) (Cert.ProjIdeal.Value.run_blocks m g),
    (θ_run _ _ _).mono (fun _ hr c => ⟨(hr c).1.trans (Cert.ProjRefIdeal.Body.result_eq m m' c (h c).1 (h c).2), (hr c).2⟩)
      (Cert.ProjRefIdeal.Value.run m' g')⟩

/-- Its reference leaves its arguments, and declares no semaphore. -/
theorem proj_reference_frame : quiescent_ProjRefIdeal (hProjRefIdeal := Cert.ProjRefIdeal.Gen.facts) := fun m g _ =>
  (θ_run _ _ _).mono (fun r h => ⟨fun c => (h c).2, sem_eq_zero_of_no_sems (by decide) r.2⟩) (Cert.ProjRefIdeal.Value.run m g)

/-- The recurrent layers' projection and its reference end with equal results. -/
theorem wide_algebraic : algebraic_WideIdeal_WideRefIdeal (hWideIdeal := Cert.WideIdeal.Gen.facts) (hWideRefIdeal := Cert.WideRefIdeal.Gen.facts) :=
  fun m g m' g' _ h => ⟨fun c => Cert.WideIdeal.Body.G m c,
    (θ_run _ _ _).mono (fun _ hr c => ⟨(hr c).1.trans (Cert.WideIdeal.Body.final m c), (hr c).2⟩) (Cert.WideIdeal.Value.run_blocks m g),
    (θ_run _ _ _).mono (fun _ hr c => ⟨(hr c).1.trans (Cert.WideRefIdeal.Body.result_eq m m' c (h c).1 (h c).2), (hr c).2⟩)
      (Cert.WideRefIdeal.Value.run m' g')⟩

/-- Its reference leaves its arguments, and declares no semaphore. -/
theorem wide_reference_frame : quiescent_WideRefIdeal (hWideRefIdeal := Cert.WideRefIdeal.Gen.facts) := fun m g _ =>
  (θ_run _ _ _).mono (fun r h => ⟨fun c => (h c).2, sem_eq_zero_of_no_sems (by decide) r.2⟩) (Cert.WideRefIdeal.Value.run m g)

/-- The recurrence's finish and its reference end with equal results. -/
theorem finish_algebraic : algebraic_FinishIdeal_FinishRefIdeal (hFinishIdeal := Cert.FinishIdeal.Gen.facts) (hFinishRefIdeal := Cert.FinishRefIdeal.Gen.facts) :=
  fun m g m' g' _ h => ⟨fun c => Cert.FinishIdeal.Body.G m c,
    (θ_run _ _ _).mono (fun _ hr c => ⟨(hr c).1.trans (Cert.FinishIdeal.Body.final m c), (hr c).2⟩) (Cert.FinishIdeal.Value.run_blocks m g),
    (θ_run _ _ _).mono (fun _ hr c => ⟨(hr c).1.trans (Cert.FinishRefIdeal.Body.result_eq m m' c (h c)), (hr c).2⟩)
      (Cert.FinishRefIdeal.Value.run m' g')⟩

/-- Its reference leaves its arguments, and declares no semaphore. -/
theorem finish_reference_frame : quiescent_FinishRefIdeal (hFinishRefIdeal := Cert.FinishRefIdeal.Gen.facts) := fun m g _ =>
  (θ_run _ _ _).mono (fun r h => ⟨fun c => (h c).2, sem_eq_zero_of_no_sems (by decide) r.2⟩) (Cert.FinishRefIdeal.Value.run m g)

/-- So does the output projection's reference. -/
theorem out_reference_frame : quiescent_OutLnRefIdeal (hOutLnRefIdeal := Cert.OutLnRefIdeal.Gen.facts) := fun m g _ =>
  (θ_run _ _ _).mono (fun r h => ⟨fun c => (h c).2, sem_eq_zero_of_no_sems (by decide) r.2⟩) (Cert.OutLnRefIdeal.Value.run m g)

/-- So does the recurrence's reference, whose chunks a loop goes through. -/
theorem scan_reference_frame : quiescent_ScanRefIdeal (hScanRefIdeal := Cert.ScanRefIdeal.Gen.facts) := fun m g _ =>
  (θ_run _ _ _).mono (fun r h => ⟨fun c => (h c).2.2, sem_eq_zero_of_no_sems (by decide) r.2⟩) (Cert.ScanRefIdeal.Value.run m g)

/-- The output projection's reference, on the arguments its kernel has, ends with the array the kernel's run ends with. -/
theorem out_result (m : (ℓ : Loc Cert.OutLnIdeal.nD Cert.OutLnIdeal.τ Cert.OutLnIdeal.sig) → Buf (Elt Ideal) ℓ)
    (m' : (ℓ : Loc Cert.OutLnRefIdeal.nD Cert.OutLnRefIdeal.τ Cert.OutLnRefIdeal.sig) → Buf (Elt Ideal) ℓ)
    (c : Dev Cert.OutLnIdeal.nD)
    (h : m' ((c.tc : Thread Cert.OutLnRefIdeal.nD Cert.OutLnRefIdeal.τ).loc Cert.OutLnRefIdeal.main_arg0) = m ((c.tc : Thread Cert.OutLnIdeal.nD Cert.OutLnIdeal.τ).loc Cert.OutLnIdeal.main_arg0)
      ∧ m' ((c.tc : Thread Cert.OutLnRefIdeal.nD Cert.OutLnRefIdeal.τ).loc Cert.OutLnRefIdeal.main_arg1) = m ((c.tc : Thread Cert.OutLnIdeal.nD Cert.OutLnIdeal.τ).loc Cert.OutLnIdeal.main_arg1)
      ∧ m' ((c.tc : Thread Cert.OutLnRefIdeal.nD Cert.OutLnRefIdeal.τ).loc Cert.OutLnRefIdeal.main_arg2) = m ((c.tc : Thread Cert.OutLnIdeal.nD Cert.OutLnIdeal.τ).loc Cert.OutLnIdeal.main_arg2)
      ∧ m' ((c.tc : Thread Cert.OutLnRefIdeal.nD Cert.OutLnRefIdeal.τ).loc Cert.OutLnRefIdeal.main_arg3) = m ((c.tc : Thread Cert.OutLnIdeal.nD Cert.OutLnIdeal.τ).loc Cert.OutLnIdeal.main_arg3)
      ∧ m' ((c.tc : Thread Cert.OutLnRefIdeal.nD Cert.OutLnRefIdeal.τ).loc Cert.OutLnRefIdeal.main_arg4) = m ((c.tc : Thread Cert.OutLnIdeal.nD Cert.OutLnIdeal.τ).loc Cert.OutLnIdeal.main_arg4)
      ∧ m' ((c.tc : Thread Cert.OutLnRefIdeal.nD Cert.OutLnRefIdeal.τ).loc Cert.OutLnRefIdeal.main_arg5) = m ((c.tc : Thread Cert.OutLnIdeal.nD Cert.OutLnIdeal.τ).loc Cert.OutLnIdeal.main_arg5)
      ∧ m' ((c.tc : Thread Cert.OutLnRefIdeal.nD Cert.OutLnRefIdeal.τ).loc Cert.OutLnRefIdeal.main_arg6) = m ((c.tc : Thread Cert.OutLnIdeal.nD Cert.OutLnIdeal.τ).loc Cert.OutLnIdeal.main_arg6)) :
    Cert.OutLnRefIdeal.Read.val_main_v55 (F := Ideal) (m' ((c.tc : Thread Cert.OutLnRefIdeal.nD Cert.OutLnRefIdeal.τ).loc Cert.OutLnRefIdeal.main_arg0)) (m' ((c.tc : Thread Cert.OutLnRefIdeal.nD Cert.OutLnRefIdeal.τ).loc Cert.OutLnRefIdeal.main_arg1)) (m' ((c.tc : Thread Cert.OutLnRefIdeal.nD Cert.OutLnRefIdeal.τ).loc Cert.OutLnRefIdeal.main_arg2)) (m' ((c.tc : Thread Cert.OutLnRefIdeal.nD Cert.OutLnRefIdeal.τ).loc Cert.OutLnRefIdeal.main_arg3)) (m' ((c.tc : Thread Cert.OutLnRefIdeal.nD Cert.OutLnRefIdeal.τ).loc Cert.OutLnRefIdeal.main_arg4)) (m' ((c.tc : Thread Cert.OutLnRefIdeal.nD Cert.OutLnRefIdeal.τ).loc Cert.OutLnRefIdeal.main_arg5)) (m' ((c.tc : Thread Cert.OutLnRefIdeal.nD Cert.OutLnRefIdeal.τ).loc Cert.OutLnRefIdeal.main_arg6))
      = Cert.OutLnIdeal.Body.G m c := by
  obtain ⟨h0, h1, h2, h3, h4, h5, h6⟩ := h
  rw [h0, h1, h2, h3, h4, h5, h6]
  funext i
  have hi : i = ix2 (i 0 : Fin 32768) (i 1 : Fin 1024) := by
    funext a; match a with | ⟨0, _⟩ => rfl | ⟨1, _⟩ => rfl
  exact (congrArg _ hi).trans (Cert.OutLnRefIdeal.Body.result_apply _ _ _ _ _ _ _ (i 0 : Fin 32768) (i 1 : Fin 1024))

/-- The output projection with the attention into the memory and its reference end with equal results, where the queries
    and the memory's keys are finite. -/
theorem out_algebraic : algebraic_OutLnIdeal_OutLnRefIdeal_pre_finite_logits (hOutLnIdeal := Cert.OutLnIdeal.Gen.facts)
    (hOutLnRefIdeal := Cert.OutLnRefIdeal.Gen.facts) (hPre_finite_logits := Cert.Pre_finite_logits.Gen.facts) :=
  fun m g m' g' hp h => ⟨fun c => Cert.OutLnIdeal.Body.G m c,
    (θ_run _ _ _).mono (fun _ hr c => ⟨(hr c).1.trans (Cert.OutLnIdeal.Body.final m c
      (Cert.OutLnRefIdeal.Body.finite_of_pre m c (hp c))), (hr c).2⟩) (Cert.OutLnIdeal.Value.run_blocks m g),
    (θ_run _ _ _).mono (fun _ hr c => ⟨(hr c).1.trans (out_result m m' c (h c)), (hr c).2⟩) (Cert.OutLnRefIdeal.Value.run m' g')⟩

/-- Its reference's frame, of those arguments. -/
theorem out_reference_frame_pre : quiescent_OutLnRefIdeal_pre_finite_logits (hOutLnRefIdeal := Cert.OutLnRefIdeal.Gen.facts)
    (hPre_finite_logits := Cert.Pre_finite_logits.Gen.facts) := fun m g _ => out_reference_frame m g trivial

/-- The recurrence's reference, on the arguments its kernel has, ends with the arrays the kernel's run ends with: forwards, -/
theorem scan_fst (m : (ℓ : Loc Cert.ScanIdeal.nD Cert.ScanIdeal.τ Cert.ScanIdeal.sig) → Buf (Elt Ideal) ℓ)
    (m' : (ℓ : Loc Cert.ScanRefIdeal.nD Cert.ScanRefIdeal.τ Cert.ScanRefIdeal.sig) → Buf (Elt Ideal) ℓ) (c : Dev Cert.ScanIdeal.nD)
    (h : m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0) ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1))
    (hp : ∀ D C, 0 ≤ Cert.ScanIdeal.Whole.aL m c D C) (hq : ∀ D C, Cert.ScanIdeal.Whole.aL m c D C ≤ 1) :
    Cert.ScanRefIdeal.Step.R_main_v72 (F := Ideal) (Cert.ScanRefIdeal.Body.states (m' ((c.tc : Thread Cert.ScanRefIdeal.nD Cert.ScanRefIdeal.τ).loc Cert.ScanRefIdeal.main_arg0)) (m' ((c.tc : Thread Cert.ScanRefIdeal.nD Cert.ScanRefIdeal.τ).loc Cert.ScanRefIdeal.main_arg1)) 128) = Cert.ScanIdeal.Whole.G7 m c := by
  obtain ⟨h0, h1⟩ := h
  rw [h0, h1]
  funext i
  have hi : i = ix3 (i 0 : Fin 4) (i 1 : Fin 8192) (i 2 : Fin 768) := by
    funext a; match a with | ⟨0, _⟩ => rfl | ⟨1, _⟩ => rfl | ⟨2, _⟩ => rfl
  exact (congrArg _ hi).trans (Cert.ScanRefIdeal.Body.fst_result hp hq (i 0 : Fin 4) (i 1 : Fin 8192) (i 2 : Fin 768))

/-- and backwards. -/
theorem scan_snd (m : (ℓ : Loc Cert.ScanIdeal.nD Cert.ScanIdeal.τ Cert.ScanIdeal.sig) → Buf (Elt Ideal) ℓ)
    (m' : (ℓ : Loc Cert.ScanRefIdeal.nD Cert.ScanRefIdeal.τ Cert.ScanRefIdeal.sig) → Buf (Elt Ideal) ℓ) (c : Dev Cert.ScanIdeal.nD)
    (h : m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0) ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1))
    (hp : ∀ D C, 0 ≤ Cert.ScanIdeal.Whole.aL m c D C) (hq : ∀ D C, Cert.ScanIdeal.Whole.aL m c D C ≤ 1) :
    Cert.ScanRefIdeal.Step.R_main_v75 (F := Ideal) (Cert.ScanRefIdeal.Body.states (m' ((c.tc : Thread Cert.ScanRefIdeal.nD Cert.ScanRefIdeal.τ).loc Cert.ScanRefIdeal.main_arg0)) (m' ((c.tc : Thread Cert.ScanRefIdeal.nD Cert.ScanRefIdeal.τ).loc Cert.ScanRefIdeal.main_arg1)) 128) = Cert.ScanIdeal.Whole.G8 m c := by
  obtain ⟨h0, h1⟩ := h
  rw [h0, h1]
  funext i
  have hi : i = ix3 (i 0 : Fin 4) (i 1 : Fin 8192) (i 2 : Fin 768) := by
    funext a; match a with | ⟨0, _⟩ => rfl | ⟨1, _⟩ => rfl | ⟨2, _⟩ => rfl
  exact (congrArg _ hi).trans (Cert.ScanRefIdeal.Body.snd_result hp hq (i 0 : Fin 4) (i 1 : Fin 8192) (i 2 : Fin 768))

/-- The recurrence and its reference end with equal results in both directions, where the lower bounds are between zero
    and one. -/
theorem scan_algebraic : algebraic_ScanIdeal_ScanRefIdeal_pre_decays (hScanIdeal := Cert.ScanIdeal.Gen.facts)
    (hScanRefIdeal := Cert.ScanRefIdeal.Gen.facts) (hPre_decays := Cert.Pre_decays.Gen.facts) := by
  intro m g m' g' hpre h
  have hp : ∀ c D C, 0 ≤ Cert.ScanIdeal.Whole.aL m c D C := fun c D C => (Cert.ScanMath.bounds_of_pre _ _ (hpre c) D C).1
  have hq : ∀ c D C, Cert.ScanIdeal.Whole.aL m c D C ≤ 1 := fun c D C => (Cert.ScanMath.bounds_of_pre _ _ (hpre c) D C).2
  refine ⟨fun c => Cert.ScanIdeal.Whole.G7 m c, fun c => Cert.ScanIdeal.Whole.G8 m c, ?_, ?_⟩
  · exact (θ_run _ _ _).mono (fun _ hr c => ⟨(hr c).1.trans (Cert.ScanIdeal.Whole.final7 m c (hp c) (hq c)),
      (hr c).2.1.trans (Cert.ScanIdeal.Whole.final8 m c (hp c) (hq c)), (hr c).2.2⟩) (Cert.ScanIdeal.Whole.run_blocks m g)
  · exact (θ_run _ _ _).mono (fun _ hr c => ⟨(hr c).1.trans (scan_fst m m' c (h c) (hp c) (hq c)),
      (hr c).2.1.trans (scan_snd m m' c (h c) (hp c) (hq c)), (hr c).2.2⟩)
      (Cert.ScanRefIdeal.StepRun.run_iter m' g' (fun c => Cert.ScanRefIdeal.Body.states (m' ((c.tc : Thread Cert.ScanRefIdeal.nD Cert.ScanRefIdeal.τ).loc Cert.ScanRefIdeal.main_arg0)) (m' ((c.tc : Thread Cert.ScanRefIdeal.nD Cert.ScanRefIdeal.τ).loc Cert.ScanRefIdeal.main_arg1)))
        (fun _ => rfl) (fun _ _ => rfl))

/-- Its reference's frame, of those arguments. -/
theorem scan_reference_frame_pre : quiescent_ScanRefIdeal_pre_decays (hScanRefIdeal := Cert.ScanRefIdeal.Gen.facts)
    (hPre_decays := Cert.Pre_decays.Gen.facts) := fun m g _ => scan_reference_frame m g trivial

theorem claim : Cert.Claim := ⟨Cert.Ffn.Gen.facts, Cert.FfnIdeal.Gen.facts, Cert.FfnRefIdeal.Gen.facts,
  Cert.Scan.Gen.facts, Cert.ScanIdeal.Gen.facts, Cert.ScanRefIdeal.Gen.facts,
  Cert.Finish.Gen.facts, Cert.FinishIdeal.Gen.facts, Cert.FinishRefIdeal.Gen.facts,
  Cert.Proj.Gen.facts, Cert.ProjIdeal.Gen.facts, Cert.ProjRefIdeal.Gen.facts,
  Cert.Wide.Gen.facts, Cert.WideIdeal.Gen.facts, Cert.WideRefIdeal.Gen.facts,
  Cert.OutLn.Gen.facts, Cert.OutLnIdeal.Gen.facts, Cert.OutLnRefIdeal.Gen.facts,
  Cert.Pre_decays.Gen.facts, Cert.Pre_finite_logits.Gen.facts,
  fun m ρ _ => Cert.Ffn.Gen.frame m ρ,
  fun m ρ _ => Cert.FfnIdeal.Gen.frame m ρ,
  ffn_reference_frame,
  fun m ρ _ => Cert.Scan.Whole.frame m ρ,
  fun m ρ _ => Cert.ScanIdeal.Whole.frame m ρ,
  fun m ρ _ => Cert.ScanIdeal.Whole.frame m ρ,
  scan_reference_frame,
  scan_reference_frame_pre,
  fun m ρ _ => Cert.Finish.Gen.frame m ρ,
  fun m ρ _ => Cert.FinishIdeal.Gen.frame m ρ,
  finish_reference_frame,
  fun m ρ _ => Cert.Proj.Gen.frame m ρ,
  fun m ρ _ => Cert.ProjIdeal.Gen.frame m ρ,
  proj_reference_frame,
  fun m ρ _ => Cert.Wide.Gen.frame m ρ,
  fun m ρ _ => Cert.WideIdeal.Gen.frame m ρ,
  wide_reference_frame,
  fun m ρ _ => Cert.OutLn.Gen.frame m ρ,
  fun m ρ _ => Cert.OutLnIdeal.Gen.frame m ρ,
  fun m ρ _ => Cert.OutLnIdeal.Gen.frame m ρ,
  out_reference_frame,
  out_reference_frame_pre,
  trivial, ffn_algebraic, trivial, scan_algebraic, trivial, finish_algebraic, trivial, proj_algebraic, trivial, wide_algebraic, trivial, out_algebraic⟩

end Cert.Proof

end
